-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8)) (m ((c.tc : Thread Cert.Kernel14Ideal.nD Cert.Kernel14Ideal.τ).loc Cert.Kernel14Ideal.main_arg9)) (m ((c.tc : Thread Cert.Kernel14Ideal.nD Cert.Kernel14Ideal.τ).loc Cert.Kernel14Ideal.main_arg10)) (m ((c.tc : Thread Cert.Kernel14Ideal.nD Cert.Kernel14Ideal.τ).loc Cert.Kernel14Ideal.main_arg11))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8)) (m ((c.tc : Thread Cert.Reference14Ideal.nD Cert.Reference14Ideal.τ).loc Cert.Reference14Ideal.main_arg9)) (m ((c.tc : Thread Cert.Reference14Ideal.nD Cert.Reference14Ideal.τ).loc Cert.Reference14Ideal.main_arg10)) (m ((c.tc : Thread Cert.Reference14Ideal.nD Cert.Reference14Ideal.τ).loc Cert.Reference14Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)) (v4 : (c : Dev Cert.Kernel11Ideal.nD) → Buf (Elt Ideal) ((c.tc : Thread Cert.Kernel11Ideal.nD Cert.Kernel11Ideal.τ).loc Cert.Kernel11Ideal.main_v2_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_v2_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v12) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v5) = v3 c
          ∧ r.2.mem ((c.tc : Thread Cert.Reference11Ideal.nD Cert.Reference11Ideal.τ).loc Cert.Reference11Ideal.main_v13) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  IdealRules.named_const.Statement Cert.Kernel13Ideal.κ "gelu_ck" .f32 0x3D122279#32 ((80338380498831 / 2251799813685248 : ℝ) : EReal)
  ∧ IdealRules.named_const.Statement Cert.Kernel13Ideal.κ "gelu_3ck" .f32 0x3DDB33B6#32 ((241015141496493 / 2251799813685248 : ℝ) : EReal)

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v54) = v0 c
          ∧ r.2.mem ((c.tc : Thread Cert.Reference13Ideal.nD Cert.Reference13Ideal.τ).loc Cert.Reference13Ideal.main_v57) = v1 c
          ∧ r.2.mem ((c.tc : Thread Cert.Reference13Ideal.nD Cert.Reference13Ideal.τ).loc Cert.Reference13Ideal.main_v72) = v2 c
          ∧ r.2.mem ((c.tc : Thread Cert.Reference13Ideal.nD Cert.Reference13Ideal.τ).loc Cert.Reference13Ideal.main_v74) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)) (v3 : (c : Dev Cert.Kernel14Ideal.nD) → Buf (Elt Ideal) ((c.tc : Thread Cert.Kernel14Ideal.nD Cert.Kernel14Ideal.τ).loc Cert.Kernel14Ideal.main_v9_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_v9_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v114) = v0 c
          ∧ r.2.mem ((c.tc : Thread Cert.Reference14Ideal.nD Cert.Reference14Ideal.τ).loc Cert.Reference14Ideal.main_v118) = v1 c
          ∧ r.2.mem ((c.tc : Thread Cert.Reference14Ideal.nD Cert.Reference14Ideal.τ).loc Cert.Reference14Ideal.main_v119) = v2 c
          ∧ r.2.mem ((c.tc : Thread Cert.Reference14Ideal.nD Cert.Reference14Ideal.τ).loc Cert.Reference14Ideal.main_v120) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x6144 : Shape := ⟨2, ![8192, 6144]⟩
abbrev S3x3072 : Shape := ⟨2, ![3, 3072]⟩
abbrev S3072 : Shape := ⟨1, ![3072]⟩
abbrev S3072x1024 : Shape := ⟨2, ![3072, 1024]⟩
abbrev S8192x1024 : Shape := ⟨2, ![8192, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S3x3072 : S_.BroadcastsInDim S3x3072 (![] : Fin 0 → Fin S3x3072.rank)
  reducesTo_S3x3072_S_d0_1 : S3x3072.ReducesTo [0, 1] S_
  bcast_S_S3072 : S_.BroadcastsInDim S3072 (![] : Fin 0 → Fin S3072.rank)
  reducesTo_S3072_S_d0 : S3072.ReducesTo [0] S_
  bcast_S_S3072x1024 : S_.BroadcastsInDim S3072x1024 (![] : Fin 0 → Fin S3072x1024.rank)
  reducesTo_S3072x1024_S_d0_1 : S3072x1024.ReducesTo [0, 1] S_
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .bf16) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S8192x1024 .f32 := (extf .f32 · bitsLt_bf16_f32) main_arg4
  let main_v20 : FVec F S8192x1024 .f32 := Host.absf main_v19
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v18 main_v23
  main_v24

def fn {F : FTy → Type} [FloatOps F] (main_arg0 : FVec F S8192x6144 .f32) (main_arg1 : FVec F S3x3072 .f32) (main_arg2 : FVec F S3072 .f32) (main_arg3 : FVec F S3072x1024 .f32) (main_arg4 : FVec F S8192x1024 .bf16) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S3x3072 .f32 := Host.absf main_arg1
  let main_cst_0 : FVec F S_ .f32 := constant S_ .f32 0x7F800000#32
  let main_v5 : FVec F S3x3072 .f32 := broadcastInDim S3x3072 ![] bcast_S_S3x3072 main_cst_0
  let main_v6 : IVec S3x3072 1 := cmpf .olt main_v4 main_v5
  let main_c_1 : IVec S_ 1 := constantI S_ 1 1#1
  let main_v7 : IVec S_ 1 := (fun x v => Host.reduce IntOp.andi x v reducesTo_S3x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_v13 main_v16
-- ==== Pre_finite13.lean ====
abbrev S8192x1024 : Shape := ⟨2, ![8192, 1024]⟩
abbrev S1024x6144 : Shape := ⟨2, ![1024, 6144]⟩
abbrev S3x3072 : Shape := ⟨2, ![3, 3072]⟩
abbrev S3072 : Shape := ⟨1, ![3072]⟩
abbrev S_ : Shape := ⟨0, ![]⟩
abbrev S1024x3072 : Shape := ⟨2, ![1024, 3072]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S1024x6144_S1024x3072_0_3072 : S1024x6144.Slices ![0, 3072] S1024x3072
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S8192x1024 .bf16) (main_arg1 : FVec F S1024x6144 .f32) (main_arg2 : FVec F S3x3072 .f32) (main_arg3 : FVec F S3072 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x3072 .f32 := (extractStridedSlice S1024x3072 ![0, 3072] · slices_S1024x6144_S1024x3072_0_3072) main_arg1
  let main_v6 : FVec F S1024x3072 .f32 := Host.absf main_v5
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_c_1 : IVec S_ 1 := constantI S_ 1 1#1
  let main_v9 : IVec S_ 1 := (fun x v => Host.reduce IntOp.andi x v reducesTo_S1024x3072_S_d0_1 h_S_) main_v8 main_c_1
  let main_v10 : IVec S_ 1 := andi main_v4 main_v9
  main_v10
-- ==== Pre_finite14.lean ====
abbrev S8192x3072 : Shape := ⟨2, ![8192, 3072]⟩
abbrev S8192x1024 : Shape := ⟨2, ![8192, 1024]⟩
abbrev S8192x256 : Shape := ⟨2, ![8192, 256]⟩
abbrev S3072x1024 : Shape := ⟨2, ![3072, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v49 : IVec S_ 1) (main_v50 : FVec F S1024 .f32) (main_cst_18 : FVec F S_ .f32) : IVec S_ 1 :=
  let main_v51 : FVec F S1024 .f32 := broadcastInDim S1024 ![] bcast_S_S1024 main_cst_18
  let main_v52 : IVec S1024 1 := cmpf .olt main_v50 main_v51
  let main_c_19 : IVec S_ 1 := constantI S_ 1 1#1
  let main_v53 : IVec S_ 1 := (fun x v => Host.reduce IntOp.andi x v reducesTo_S1024_S_d0 h_S_) main_v52 main_c_19
  let main_v54 : IVec S_ 1 := andi main_v49 main_v53
  let main_v55 : FVec F S1024 .f32 := Host.absf main_arg11
  let main_cst_20 : FVec F S_ .f32 := constant S_ .f32 0x7F800000#32
  let main_v56 : FVec F S1024 .f32 := broadcastInDim S1024 ![] bcast_S_S1024 main_cst_20
  let main_v57 : IVec S1024 1 := cmpf .olt main_v55 main_v56
  let main_c_21 : IVec S_ 1 := constantI S_ 1 1#1
  let main_v58 : IVec S_ 1 := (fun x v => Host.reduce IntOp.andi x v reducesTo_S1024_S_d0 h_S_) main_v57 main_c_21
  let main_v59 : IVec S_ 1 := andi main_v54 main_v58
  main_v59

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_v29 : IVec S_ 1) (main_v33 : IVec S_ 1) : IVec S_ 1 :=
  let main_v34 : IVec S_ 1 := andi main_v29 main_v33
  let main_v35 : FVec F S1024 .f32 := Host.absf main_arg7
  let main_cst_12 : FVec F S_ .f32 := constant S_ .f32 0x7F800000#32
  let main_v36 : FVec F S1024 .f32 := broadcastInDim S1024 ![] bcast_S_S1024 main_cst_12
  let main_v37 : IVec S1024 1 := cmpf .olt main_v35 main_v36
  let main_c_13 : IVec S_ 1 := constantI S_ 1 1#1
  let main_v38 : IVec S_ 1 := (fun x v => Host.reduce IntOp.andi x v reducesTo_S1024_S_d0 h_S_) main_v37 main_c_13
  let main_v39 : IVec S_ 1 := andi main_v34 main_v38
  let main_v40 : FVec F S1024 .f32 := Host.absf main_arg8
  let main_cst_14 : FVec F S_ .f32 := constant S_ .f32 0x7F800000#32
  let main_v41 : FVec F S1024 .f32 := broadcastInDim S1024 ![] bcast_S_S1024 main_cst_14
  let main_v42 : IVec S1024 1 := cmpf .olt main_v40 main_v41
  let main_c_15 : IVec S_ 1 := constantI S_ 1 1#1
  let main_v43 : IVec S_ 1 := (fun x v => Host.reduce IntOp.andi x v reducesTo_S1024_S_d0 h_S_) main_v42 main_c_15
  let main_v44 : IVec S_ 1 := andi main_v39 main_v43
  let main_v45 : FVec F S1024 .f32 := Host.absf main_arg9
  let main_cst_16 : FVec F S_ .f32 := constant S_ .f32 0x7F800000#32
  let main_v46 : FVec F S1024 .f32 := broadcastInDim S1024 ![] bcast_S_S1024 main_cst_16
  let main_v47 : IVec S1024 1 := cmpf .olt main_v45 main_v46
  let main_c_17 : IVec S_ 1 := constantI S_ 1 1#1
  let main_v48 : IVec S_ 1 := (fun x v => Host.reduce IntOp.andi x v reducesTo_S1024_S_d0 h_S_) main_v47 main_c_17
  let main_v49 : IVec S_ 1 := andi main_v44 main_v48
  let main_v50 : FVec F S1024 .f32 := Host.absf main_arg10
  let main_cst_18 : FVec F S_ .f32 := constant S_ .f32 0x7F800000#32
  fn_part3 (F := F) main_arg11 main_v49 main_v50 main_cst_18

def fn_part1 {F : FTy → Type} [FloatOps F] (main_arg4 : FVec F S3072x1024 .f32) (main_arg5 : FVec F S1024x1024 .f32) (main_arg6 : FVec F S256x1024 .f32) (main_arg7 : FVec F S1024 .f32) (main_arg8 : FVec F S1024 .f32) (main_arg9 : FVec F S1024 .f32) (main_arg10 : FVec F S1024 .f32) (main_arg11 : FVec F S1024 .f32) (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v14 main_v18
  let main_v20 : FVec F S3072x1024 .f32 := Host.absf main_arg4
  let main_cst_6 : FVec F S_ .f32 := constant S_ .f32 0x7F800000#32
  let main_v21 : FVec F S3072x1024 .f32 := broadcastInDim S3072x1024 ![] bcast_S_S3072x1024 main_cst_6
  let main_v22 : IVec S3072x1024 1 := cmpf .olt main_v20 main_v21
  let main_c_7 : IVec S_ 1 := constantI S_ 1 1#1
  let main_v23 : IVec S_ 1 := (fun x v => Host.reduce IntOp.andi x v reducesTo_S3072x1024_S_d0_1 h_S_) main_v22 main_c_7
  let main_v24 : IVec S_ 1 := andi main_v19 main_v23
  let main_v25 : FVec F S1024x1024 .f32 := Host.absf main_arg5
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : IVec S_ 1 := andi main_v24 main_v28
  let main_v30 : FVec F S256x1024 .f32 := Host.absf main_arg6
  let main_cst_10 : FVec F S_ .f32 := constant S_ .f32 0x7F800000#32
  let main_v31 : FVec F S256x1024 .f32 := broadcastInDim S256x1024 ![] bcast_S_S256x1024 main_cst_10
  let main_v32 : IVec S256x1024 1 := cmpf .olt main_v30 main_v31
  let main_c_11 : IVec S_ 1 := constantI S_ 1 1#1
  let main_v33 : IVec S_ 1 := (fun x v => Host.reduce IntOp.andi x v reducesTo_S256x1024_S_d0_1 h_S_) main_v32 main_c_11
  fn_part2 (F := F) main_arg7 main_arg8 main_arg9 main_arg10 main_arg11 main_v29 main_v33

def fn {F : FTy → Type} [FloatOps F] (main_arg0 : FVec F S8192x3072 .bf16) (main_arg1 : FVec F S8192x1024 .f32) (main_arg2 : FVec F S8192x256 .f32) (main_arg3 : FVec F S8192x1024 .f32) (main_arg4 : FVec F S3072x1024 .f32) (main_arg5 : FVec F S1024x1024 .f32) (main_arg6 : FVec F S256x1024 .f32) (main_arg7 : FVec F S1024 .f32) (main_arg8 : FVec F S1024 .f32) (main_arg9 : FVec F S1024 .f32) (main_arg10 : FVec F S1024 .f32) (main_arg11 : FVec F S1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8192x256 .f32 := Host.absf main_arg2
  let main_cst_2 : FVec F S_ .f32 := constant S_ .f32 0x7F800000#32
  let main_v11 : FVec F S8192x256 .f32 := broadcastInDim S8192x256 ![] bcast_S_S8192x256 main_cst_2
  let main_v12 : IVec S8192x256 1 := cmpf .olt main_v10 main_v11
  let main_c_3 : IVec S_ 1 := constantI S_ 1 1#1
  let main_v13 : IVec S_ 1 := (fun x v => Host.reduce IntOp.andi x v reducesTo_S8192x256_S_d0_1 h_S_) main_v12 main_c_3
  let main_v14 : IVec S_ 1 := andi main_v9 main_v13
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_arg4 main_arg5 main_arg6 main_arg7 main_arg8 main_arg9 main_arg10 main_arg11 main_v14 main_v15 main_v16
-- ==== Pre_finite2.lean ====
abbrev S8192x1024 : Shape := ⟨2, ![8192, 1024]⟩
abbrev S1024 : Shape := ⟨1, ![1024]⟩
abbrev S1024x6144 : Shape := ⟨2, ![1024, 6144]⟩
abbrev S1024x1024 : Shape := ⟨2, ![1024, 1024]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_
  bcast_S_S1024x1024 : S_.BroadcastsInDim S1024x1024 (![] : Fin 0 → Fin S1024x1024.rank)
  reducesTo_S1024x1024_S_d0_1 : S1024x1024.ReducesTo [0, 1] S_
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_

variable [Facts]

def fn_part2 {F : FTy → Type} [FloatOps F] (main_v29 : IVec S_ 1) (main_v33 : IVec S8192x1024 1) (main_c_11 : IVec S_ 1) : IVec S_ 1 :=
  let main_v34 : IVec S_ 1 := (fun x v => Host.reduce IntOp.andi x v reducesTo_S8192x1024_S_d0_1 h_S_) main_v33 main_c_11
  let main_v35 : IVec S_ 1 := andi main_v29 main_v34
  main_v35

def fn_part1 {F : FTy → Type} [FloatOps F] (main_arg5 : FVec F S8192x1024 .f32) (main_arg6 : FVec F S8192x6144 .bf16) (main_arg7 : FVec F S8192x1024 .bf16) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x6144 .f32 := (extf .f32 · bitsLt_bf16_f32) main_arg6
  let main_v25 : FVec F S8192x6144 .f32 := Host.absf main_v24
  let main_cst_8 : FVec F S_ .f32 := constant S_ .f32 0x7F800000#32
  let main_v26 : FVec F S8192x6144 .f32 := broadcastInDim S8192x6144 ![] bcast_S_S8192x6144 main_cst_8
  let main_v27 : IVec S8192x6144 1 := cmpf .olt main_v25 main_v26
  let main_c_9 : IVec S_ 1 := constantI S_ 1 1#1
  let main_v28 : IVec S_ 1 := (fun x v => Host.reduce IntOp.andi x v reducesTo_S8192x6144_S_d0_1 h_S_) main_v27 main_c_9
  let main_v29 : IVec S_ 1 := andi main_v23 main_v28
  let main_v30 : FVec F S8192x1024 .f32 := (extf .f32 · bitsLt_bf16_f32) main_arg7
  let main_v31 : FVec F S8192x1024 .f32 := Host.absf main_v30
  let main_cst_10 : FVec F S_ .f32 := constant S_ .f32 0x7F800000#32
  let main_v32 : FVec F S8192x1024 .f32 := broadcastInDim S8192x1024 ![] bcast_S_S8192x1024 main_cst_10
  let main_v33 : IVec S8192x1024 1 := cmpf .olt main_v31 main_v32
  let main_c_11 : IVec S_ 1 := constantI S_ 1 1#1
  fn_part2 (F := F) main_v29 main_v33 main_c_11

def fn {F : FTy → Type} [FloatOps F] (main_arg0 : FVec F S8192x1024 .f32) (main_arg1 : FVec F S1024 .f32) (main_arg2 : FVec F S1024 .f32) (main_arg3 : FVec F S1024x6144 .f32) (main_arg4 : FVec F S1024x1024 .f32) (main_arg5 : FVec F S8192x1024 .f32) (main_arg6 : FVec F S8192x6144 .bf16) (main_arg7 : FVec F S8192x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S8192x6144 : Shape := ⟨2, ![8192, 6144]⟩
abbrev S3x3072 : Shape := ⟨2, ![3, 3072]⟩
abbrev S3072 : Shape := ⟨1, ![3072]⟩
abbrev S3072x1024 : Shape := ⟨2, ![3072, 1024]⟩
abbrev S8192x1024 : Shape := ⟨2, ![8192, 1024]⟩
abbrev S8192x3072 : Shape := ⟨2, ![8192, 3072]⟩
abbrev S_ : Shape := ⟨0, ![]⟩
abbrev S2x3072 : Shape := ⟨2, ![2, 3072]⟩
abbrev S8194x3072 : Shape := ⟨2, ![8194, 3072]⟩
abbrev S1x3072 : Shape := ⟨2, ![1, 3072]⟩
abbrev S8192x4x768 : Shape := ⟨3, ![8192, 4, 768]⟩
abbrev S4x8192x768 : Shape := ⟨3, ![4, 8192, 768]⟩
abbrev S3x4x768 : Shape := ⟨3, ![3, 4, 768]⟩
abbrev S4x3x768 : Shape := ⟨3, ![4, 3, 768]⟩
abbrev S4x8x768 : Shape := ⟨3, ![4, 8, 768]⟩
abbrev S1024x1024 : Shape := ⟨2, ![1024, 1024]⟩
abbrev S768x1024 : Shape := ⟨2, ![768, 1024]⟩
abbrev S1x1024x768 : Shape := ⟨3, ![1, 1024, 768]⟩
abbrev S1x3x768 : Shape := ⟨3, ![1, 3, 768]⟩
abbrev S1024x1536 : Shape := ⟨2, ![1024, 1536]⟩
abbrev S1x8x768 : Shape := ⟨3, ![1, 8, 768]⟩
abbrev S8x768 : Shape := ⟨2, ![8, 768]⟩
abbrev S1024x768 : Shape := ⟨2, ![1024, 768]⟩
abbrev S1016x768 : Shape := ⟨2, ![1016, 768]⟩
abbrev S1x1x768 : Shape := ⟨3, ![1, 1, 768]⟩
abbrev S1x768 : Shape := ⟨2, ![1, 768]⟩
abbrev S768 : Shape := ⟨1, ![768]⟩

abbrev nBuf : Space → Nat
  | .hbm => 93
  | .vmem => 17
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S3072, .f32⟩
  | .hbm, ⟨3, _⟩ => ⟨S3072x1024, .f32⟩
  | .hbm, ⟨4, _⟩ => ⟨S8192x1024, .bf16⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S2x3072, .f32⟩
  | .hbm, ⟨9, _⟩ => ⟨S8194x3072, .f32⟩
  | .hbm, ⟨10, _⟩ => ⟨S1x3072, .f32⟩
  | .hbm, ⟨11, _⟩ => ⟨S3072, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S8192x3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S1x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S_, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S8192x3072, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S8192x3072, .f32⟩
  | .hbm, ⟨52, _⟩ => ⟨S8192x3072, .f32⟩
  | .hbm, ⟨53, _⟩ => ⟨S_, .f32⟩
  | .hbm, ⟨54, _⟩ => ⟨S8192x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S8192x3072, .f32⟩
  | .hbm, ⟨59, _⟩ => ⟨S8192x3072, .f32⟩
  | .hbm, ⟨60, _⟩ => ⟨S_, .f32⟩
  | .hbm, ⟨61, _⟩ => ⟨S8192x3072, .f32⟩
  | .hbm, ⟨62, _⟩ => ⟨S8192x3072, .f32⟩
  | .hbm, ⟨63, _⟩ => ⟨S8192x3072, .f32⟩
  | .hbm, ⟨64, _⟩ => ⟨S8192x3072, .f32⟩
  | .hbm, ⟨65, _⟩ => ⟨S8192x3072, .f32⟩
  | .hbm, ⟨66, _⟩ => ⟨S_, .f32⟩
  | .hbm, ⟨67, _⟩ => ⟨S8192x3072, .f32⟩
  | .hbm, ⟨68, _⟩ => ⟨S8192x3072, .f32⟩
  | .hbm, ⟨69, _⟩ => ⟨S8192x3072, .f32⟩
  | .hbm, ⟨70, _⟩ => ⟨S_, .f32⟩
  | .hbm, ⟨71, _⟩ => ⟨S8192x3072, .f32⟩
  | .hbm, ⟨72, _⟩ => ⟨S8192x3072, .f32⟩
  | .hbm, ⟨73, _⟩ => ⟨S8192x3072, .f32⟩
  | .hbm, ⟨74, _⟩ => ⟨S_, .f32⟩
  | .hbm, ⟨75, _⟩ => ⟨S8192x3072, .f32⟩
  | .hbm, ⟨76, _⟩ => ⟨S8192x3072, .f32⟩
  | .hbm, ⟨77, _⟩ => ⟨S8192x3072, .f32⟩
  | .hbm, ⟨78, _⟩ => ⟨S8192x3072, .f32⟩
  | .hbm, ⟨79, _⟩ => ⟨S8192x4x768, .f32⟩
  | .hbm, ⟨80, _⟩ => ⟨S4x8192x768, .f32⟩
  | .hbm, ⟨81, _⟩ => ⟨S4x8192x768, .bf16⟩
  | .hbm, ⟨82, _⟩ => ⟨S8192x4x768, .f32⟩
  | .hbm, ⟨83, _⟩ => ⟨S4x8192x768, .f32⟩
  | .hbm, ⟨84, _⟩ => ⟨S4x8192x768, .bf16⟩
  | .hbm, ⟨85, _⟩ => ⟨S8192x4x768, .f32⟩
  | .hbm, ⟨86, _⟩ => ⟨S4x8192x768, .f32⟩
  | .hbm, ⟨87, _⟩ => ⟨S4x8192x768, .bf16⟩
  | .hbm, ⟨88, _⟩ => ⟨S3x4x768, .f32⟩
  | .hbm, ⟨89, _⟩ => ⟨S4x3x768, .f32⟩
  | .hbm, ⟨90, _⟩ => ⟨S3072x1024, .bf16⟩
  | .hbm, ⟨91, _⟩ => ⟨S8192x6144, .bf16⟩
  | .hbm, ⟨92, _⟩ => ⟨S4x8x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x3x768, .f32⟩
  | .local _ .vmem, ⟨11, _⟩ => ⟨S1x3x768, .f32⟩
  | .local _ .vmem, ⟨12, _⟩ => ⟨S1024x1536, .bf16⟩
  | .local _ .vmem, ⟨13, _⟩ => ⟨S1024x1536, .bf16⟩
  | .local _ .vmem, ⟨14, _⟩ => ⟨S1x8x768, .f32⟩
  | .local _ .vmem, ⟨15, _⟩ => ⟨S1x8x768, .f32⟩
  | .local _ .vmem, ⟨16, _⟩ => ⟨S8x768, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74_0 : Ref sig .tc := ⟨.hbm, 91, rfl⟩
abbrev main_v74_1 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x6144 : Shape := ⟨2, ![8192, 6144]⟩
abbrev S3x3072 : Shape := ⟨2, ![3, 3072]⟩
abbrev S3072 : Shape := ⟨1, ![3072]⟩
abbrev S3072x1024 : Shape := ⟨2, ![3072, 1024]⟩
abbrev S8192x1024 : Shape := ⟨2, ![8192, 1024]⟩
abbrev S8192x3072 : Shape := ⟨2, ![8192, 3072]⟩
abbrev S_ : Shape := ⟨0, ![]⟩
abbrev S2x3072 : Shape := ⟨2, ![2, 3072]⟩
abbrev S8194x3072 : Shape := ⟨2, ![8194, 3072]⟩
abbrev S1x3072 : Shape := ⟨2, ![1, 3072]⟩
abbrev S8192x2x4x768 : Shape := ⟨4, ![8192, 2, 4, 768]⟩
abbrev S8192x4x2x768 : Shape := ⟨4, ![8192, 4, 2, 768]⟩
abbrev S4x3072 : Shape := ⟨2, ![4, 3072]⟩
abbrev S8x3072 : Shape := ⟨2, ![8, 3072]⟩
abbrev S8x4x768 : Shape := ⟨3, ![8, 4, 768]⟩
abbrev S4x8x768 : Shape := ⟨3, ![4, 8, 768]⟩

abbrev nBuf : Space → Nat
  | .hbm => 148
  | .vmem => 0
  | .smem => 0
  | _ => 0

abbrev hbmTy0_0 (i : Nat) : BufTy := match i % 128 with
  | 0 => ⟨S8192x6144, .f32⟩
  | 1 => ⟨S3x3072, .f32⟩
  | 2 => ⟨S3072, .f32⟩
  | 3 => ⟨S3072x1024, .f32⟩
  | 4 => ⟨S8192x1024, .bf16⟩
  | 5 => ⟨S8192x1024, .f32⟩
  | 6 => ⟨S8192x3072, .f32⟩
  | 7 => ⟨S8192x3072, .f32⟩
  | 8 => ⟨S_, .f32⟩
  | 9 => ⟨S2x3072, .f32⟩
  | 10 => ⟨S8194x3072, .f32⟩
  | 11 => ⟨S_, .f32⟩
  | 12 => ⟨S2x3072, .f32⟩
  | 13 => ⟨S1x3072, .f32⟩
  | 14 => ⟨S3072, .f32⟩
  | 15 => ⟨S8192x3072, .f32⟩
  | 16 => ⟨S1x3072, .f32⟩
  | 17 => ⟨S8192x3072, .f32⟩
  | 18 => ⟨S8192x3072, .f32⟩
  | 19 => ⟨S_, .f32⟩
  | 20 => ⟨S8192x3072, .f32⟩
  | 21 => ⟨S8192x3072, .f32⟩
  | 22 => ⟨S1x3072, .f32⟩
  | 23 => ⟨S3072, .f32⟩
  | 24 => ⟨S8192x3072, .f32⟩
  | 25 => ⟨S1x3072, .f32⟩
  | 26 => ⟨S8192x3072, .f32⟩
  | 27 => ⟨S8192x3072, .f32⟩
  | 28 => ⟨S8192x3072, .f32⟩
  | 29 => ⟨S1x3072, .f32⟩
  | 30 => ⟨S3072, .f32⟩
  | 31 => ⟨S8192x3072, .f32⟩
  | 32 => ⟨S1x3072, .f32⟩
  | 33 => ⟨S8192x3072, .f32⟩
  | 34 => ⟨S8192x3072, .f32⟩
  | 35 => ⟨S8192x3072, .f32⟩
  | 36 => ⟨S1x3072, .f32⟩
  | 37 => ⟨S8192x3072, .f32⟩
  | 38 => ⟨S8192x3072, .f32⟩
  | 39 => ⟨S8192x3072, .f32⟩
  | 40 => ⟨S8192x3072, .f32⟩
  | 41 => ⟨S8192x3072, .f32⟩
  | 42 => ⟨S_, .f32⟩
  | 43 => ⟨S8192x3072, .f32⟩
  | 44 => ⟨S8192x3072, .f32⟩
  | 45 => ⟨S_, .f32⟩
  | 46 => ⟨S8192x3072, .f32⟩
  | 47 => ⟨S8192x3072, .f32⟩
  | 48 => ⟨S8192x3072, .f32⟩
  | 49 => ⟨S_, .f32⟩
  | 50 => ⟨S8192x3072, .f32⟩
  | 51 => ⟨S8192x3072, .f32⟩
  | 52 => ⟨S8192x3072, .f32⟩
  | 53 => ⟨S_, .f32⟩
  | 54 => ⟨S8192x3072, .f32⟩
  | 55 => ⟨S8192x3072, .f32⟩
  | 56 => ⟨S_, .f32⟩
  | 57 => ⟨S8192x3072, .f32⟩
  | 58 => ⟨S8192x3072, .f32⟩
  | 59 => ⟨S8192x3072, .f32⟩
  | 60 => ⟨S_, .f32⟩
  | 61 => ⟨S8192x3072, .f32⟩
  | 62 => ⟨S8192x3072, .f32⟩
  | 63 => ⟨S_, .f32⟩
  | 64 => ⟨S8192x3072, .f32⟩
  | 65 => ⟨S8192x3072, .f32⟩
  | 66 => ⟨S8192x3072, .f32⟩
  | 67 => ⟨S8192x3072, .f32⟩
  | 68 => ⟨S8192x1024, .f32⟩
  | 69 => ⟨S8192x3072, .f32⟩
  | 70 => ⟨S8192x3072, .f32⟩
  | 71 => ⟨S8192x3072, .f32⟩
  | 72 => ⟨S8192x3072, .f32⟩
  | 73 => ⟨S8192x3072, .f32⟩
  | 74 => ⟨S_, .f32⟩
  | 75 => ⟨S8192x3072, .f32⟩
  | 76 => ⟨S8192x3072, .f32⟩
  | 77 => ⟨S8192x3072, .f32⟩
  | 78 => ⟨S_, .f32⟩
  | 79 => ⟨S8192x3072, .f32⟩
  | 80 => ⟨S8192x3072, .f32⟩
  | 81 => ⟨S8192x3072, .f32⟩
  | 82 => ⟨S_, .f32⟩
  | 83 => ⟨S8192x3072, .f32⟩
  | 84 => ⟨S8192x3072, .f32⟩
  | 85 => ⟨S8192x3072, .f32⟩
  | 86 => ⟨S8192x3072, .f32⟩
  | 87 => ⟨S_, .f32⟩
  | 88 => ⟨S3072, .f32⟩
  | 89 => ⟨S1x3072, .f32⟩
  | 90 => ⟨S_, .f32⟩
  | 91 => ⟨S3072, .f32⟩
  | 92 => ⟨S8192x3072, .f32⟩
  | 93 => ⟨S8192x3072, .f32⟩
  | 94 => ⟨S8192x3072, .f32⟩
  | 95 => ⟨S_, .f32⟩
  | 96 => ⟨S3072, .f32⟩
  | 97 => ⟨S1x3072, .f32⟩
  | 98 => ⟨S_, .f32⟩
  | 99 => ⟨S3072, .f32⟩
  | 100 => ⟨S_, .f32⟩
  | 101 => ⟨S8194x3072, .f32⟩
  | 102 => ⟨S1x3072, .f32⟩
  | 103 => ⟨S_, .f32⟩
  | 104 => ⟨S3x3072, .f32⟩
  | 105 => ⟨S8192x3072, .f32⟩
  | 106 => ⟨S8192x3072, .f32⟩
  | 107 => ⟨S8192x3072, .f32⟩
  | 108 => ⟨S_, .f32⟩
  | 109 => ⟨S3072, .f32⟩
  | 110 => ⟨S1x3072, .f32⟩
  | 111 => ⟨S_, .f32⟩
  | 112 => ⟨S3072, .f32⟩
  | 113 => ⟨S_, .f32⟩
  | 114 => ⟨S8194x3072, .f32⟩
  | 115 => ⟨S8194x3072, .f32⟩
  | 116 => ⟨S1x3072, .f32⟩
  | 117 => ⟨S_, .f32⟩
  | 118 => ⟨S3x3072, .f32⟩
  | 119 => ⟨S3x3072, .f32⟩
  | 120 => ⟨S8192x3072, .f32⟩
  | 121 => ⟨S8192x3072, .f32⟩
  | 122 => ⟨S8192x3072, .f32⟩
  | 123 => ⟨S_, .f32⟩
  | 124 => ⟨S3072, .f32⟩
  | 125 => ⟨S1x3072, .f32⟩
  | 126 => ⟨S_, .f32⟩
  | 127 => ⟨S3072, .f32⟩
  | _ => ⟨S8192x6144, .f32⟩

abbrev hbmTy0_1 (i : Nat) : BufTy := match i % 128 with
  | 0 => ⟨S_, .f32⟩
  | 1 => ⟨S8194x3072, .f32⟩
  | 2 => ⟨S8194x3072, .f32⟩
  | 3 => ⟨S1x3072, .f32⟩
  | 4 => ⟨S_, .f32⟩
  | 5 => ⟨S3x3072, .f32⟩
  | 6 => ⟨S3x3072, .f32⟩
  | 7 => ⟨S2x3072, .f32⟩
  | 8 => ⟨S8192x3072, .f32⟩
  | 9 => ⟨S8192x6144, .f32⟩
  | 10 => ⟨S8192x2x4x768, .f32⟩
  | 11 => ⟨S8192x4x2x768, .f32⟩
  | 12 => ⟨S8192x6144, .f32⟩
  | 13 => ⟨S1x3072, .f32⟩
  | 14 => ⟨S_, .f32⟩
  | 15 => ⟨S4x3072, .f32⟩
  | 16 => ⟨S8x3072, .f32⟩
  | 17 => ⟨S8192x6144, .bf16⟩
  | 18 => ⟨S8x4x768, .f32⟩
  | 19 => ⟨S4x8x768, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_cst_24 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_25 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_26 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x6144 : Shape := ⟨2, ![1024, 6144]⟩
abbrev S1024x1024 : Shape := ⟨2, ![1024, 1024]⟩
abbrev S8192x6144 : Shape := ⟨2, ![8192, 6144]⟩
abbrev S8192x2x4x768 : Shape := ⟨4, ![8192, 2, 4, 768]⟩
abbrev S8192x4x2x768 : Shape := ⟨4, ![8192, 4, 2, 768]⟩
abbrev S6144x1024 : Shape := ⟨2, ![6144, 1024]⟩
abbrev S1x1024 : Shape := ⟨2, ![1, 1024]⟩
abbrev S8x1024 : Shape := ⟨2, ![8, 1024]⟩
abbrev S512x6144 : Shape := ⟨2, ![512, 6144]⟩
abbrev S512x1024 : Shape := ⟨2, ![512, 1024]⟩
abbrev S9 : Shape := ⟨1, ![9]⟩
abbrev S1 : Shape := ⟨1, ![1]⟩
abbrev S_ : Shape := ⟨0, ![]⟩
abbrev S768x1024 : Shape := ⟨2, ![768, 1024]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S1024x1024, .f32⟩
  | .hbm, ⟨5, _⟩ => ⟨S8192x1024, .f32⟩
  | .hbm, ⟨6, _⟩ => ⟨S8192x6144, .bf16⟩
  | .hbm, ⟨7, _⟩ => ⟨S8192x1024, .bf16⟩
  | .hbm, ⟨8, _⟩ => ⟨S8192x2x4x768, .bf16⟩
  | .hbm, ⟨9, _⟩ => ⟨S8192x4x2x768, .bf16⟩
  | .hbm, ⟨10, _⟩ => ⟨S8192x6144, .bf16⟩
  | .hbm, ⟨11, _⟩ => ⟨S6144x1024, .f32⟩
  | .hbm, ⟨12, _⟩ => ⟨S6144x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S6144x1024, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x1024 : Shape := ⟨2, ![8192, 1024]⟩
abbrev S1024 : Shape := ⟨1, ![1024]⟩
abbrev S1024x6144 : Shape := ⟨2, ![1024, 6144]⟩
abbrev S1024x1024 : Shape := ⟨2, ![1024, 1024]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S1024x1024, .f32⟩
  | .hbm, ⟨5, _⟩ => ⟨S8192x1024, .f32⟩
  | .hbm, ⟨6, _⟩ => ⟨S8192x6144, .bf16⟩
  | .hbm, ⟨7, _⟩ => ⟨S8192x1024, .bf16⟩
  | .hbm, ⟨8, _⟩ => ⟨S8192x6144, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x6144, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S6x1024, .f32⟩
  | .hbm, ⟨106, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Kernel3.lean ====
abbrev S8192x1024 : Shape := ⟨2, ![8192, 1024]⟩
abbrev S8192x6144 : Shape := ⟨2, ![8192, 6144]⟩
abbrev S8192x2x4x768 : Shape := ⟨4, ![8192, 2, 4, 768]⟩
abbrev S8192x4x2x768 : Shape := ⟨4, ![8192, 4, 2, 768]⟩
abbrev S4x1024x1536 : Shape := ⟨3, ![4, 1024, 1536]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x2x4x768, .bf16⟩
  | .hbm, ⟨3, _⟩ => ⟨S8192x4x2x768, .bf16⟩
  | .hbm, ⟨4, _⟩ => ⟨S8192x6144, .bf16⟩
  | .hbm, ⟨5, _⟩ => ⟨S4x1024x1536, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli c2_i32_3 v9
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32_11 : BitVec 32 := 2#32
  let v28 : BitVec 32 := Scalar.divsi v27 c2_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v27 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v10 v44
  let c2_i32_18 : BitVec 32 := 2#32
  let v46 : BitVec 32 := Scalar.divsi arg0 c2_i32_18
  let c0_i32_19 : BitVec 32 := 0#32
  let v47 : BitVec 1 := Scalar.cmpi .sgt arg0 c0_i32_19
  let v48 : BitVec 32 := Scalar.extui v47
  let c0_i32_20 : BitVec 32 := 0#32
  let v49 : BitVec 1 := Scalar.cmpi .slt arg0 c0_i32_20
  let v50 : BitVec 32 := Scalar.extui v49
  let v51 : BitVec 32 := Scalar.subi v48 v50
  let c0_i32_21 : BitVec 32 := 0#32
  let v52 : BitVec 1 := Scalar.cmpi .sgt c2_i32_18 c0_i32_21
  let v53 : BitVec 32 := Scalar.extui v52
  let c0_i32_22 : BitVec 32 := 0#32
  let v54 : BitVec 1 := Scalar.cmpi .slt c2_i32_18 c0_i32_22
  let v55 : BitVec 32 := Scalar.extui v54
  let v56 : BitVec 32 := Scalar.subi v53 v55
  let v57 : BitVec 1 := Scalar.cmpi .ne v51 v56
  let v58 : BitVec 32 := Scalar.remsi arg0 c2_i32_18
  let c0_i32_23 : BitVec 32 := 0#32
  let v59 : BitVec 1 := Scalar.cmpi .ne v58 c0_i32_23
  let v60 : BitVec 1 := Scalar.andi v57 v59
  let c1_i32_24 : BitVec 32 := 1#32
  let v61 : BitVec 32 := Scalar.subi v46 c1_i32_24
  let v62 : BitVec 32 := Scalar.select v60 v61 v46
  let c2_i32_25 : BitVec 32 := 2#32
  let c0_i32_26 : BitVec 32 := 0#32
  let v63 : BitVec 1 := Scalar.cmpi .eq c2_i32_25 c0_i32_26
  let c1_i32_27 : BitVec 32 := 1#32
  let v64 : BitVec 32 := Scalar.select v63 c1_i32_27 c2_i32_25
  let v65 : BitVec 32 := Scalar.remsi v62 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c0_i32_31 : BitVec 32 := 0#32
  let c0_i32_32 : BitVec 32 := 0#32
  ![v45.toNat, c0_i32_31.toNat, v72.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S8192x6144, .f32⟩
  | .hbm, ⟨4, _⟩ => ⟨S_, .f32⟩
  | .hbm, ⟨5, _⟩ => ⟨S1024x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x3072 : Shape := ⟨2, ![8192, 3072]⟩
abbrev S8192x1024 : Shape := ⟨2, ![8192, 1024]⟩
abbrev S3072x1024 : Shape := ⟨2, ![3072, 1024]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S3072x1024, .f32⟩
  | .hbm, ⟨6, _⟩ => ⟨S8192x1024, .f32⟩
  | .hbm, ⟨7, _⟩ => ⟨S1024x3072, .f32⟩
  | .hbm, ⟨8, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x256 : Shape := ⟨2, ![8192, 256]⟩
abbrev S8192x1024 : Shape := ⟨2, ![8192, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S4096x256, .f32⟩
  | .local _ .vmem, ⟨1, _⟩ => ⟨S4096x256, .f32⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .f32⟩
  | .local _ .vmem, ⟨5, _⟩ => ⟨S2048x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S4x8192x448 : Shape := ⟨3, ![4, 8192, 448]⟩
abbrev S4x1024x448 : Shape := ⟨3, ![4, 1024, 448]⟩
abbrev S4096x1024 : Shape := ⟨2, ![4096, 1024]⟩
abbrev S1x4096x448 : Shape := ⟨3, ![1, 4096, 448]⟩
abbrev S1x1024x448 : Shape := ⟨3, ![1, 1024, 448]⟩
abbrev S1024x448 : Shape := ⟨2, ![1024, 448]⟩
abbrev S4096x448 : Shape := ⟨2, ![4096, 448]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x448, .bf16⟩
  | .hbm, ⟨2, _⟩ => ⟨S4x1024x448, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x448, .bf16⟩
  | .local _ .vmem, ⟨3, _⟩ => ⟨S1x4096x448, .bf16⟩
  | .local _ .vmem, ⟨4, _⟩ => ⟨S1x1024x448, .f32⟩
  | .local _ .vmem, ⟨5, _⟩ => ⟨S1x1024x448, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S4x8192x448 : Shape := ⟨3, ![4, 8192, 448]⟩
abbrev S8192x4x448 : Shape := ⟨3, ![8192, 4, 448]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩
abbrev S1024x4x448 : Shape := ⟨3, ![1024, 4, 448]⟩
abbrev S4x1024x448 : Shape := ⟨3, ![4, 1024, 448]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x448, .bf16⟩
  | .hbm, ⟨2, _⟩ => ⟨S8192x4x448, .bf16⟩
  | .hbm, ⟨3, _⟩ => ⟨S8192x1792, .bf16⟩
  | .hbm, ⟨4, _⟩ => ⟨S8192x1024, .f32⟩
  | .hbm, ⟨5, _⟩ => ⟨S8192x1792, .f32⟩
  | .hbm, ⟨6, _⟩ => ⟨S_, .f32⟩
  | .hbm, ⟨7, _⟩ => ⟨S1024x1792, .f32⟩
  | .hbm, ⟨8, _⟩ => ⟨S8192x1792, .f32⟩
  | .hbm, ⟨9, _⟩ => ⟨S1792x1024, .f32⟩
  | .hbm, ⟨10, _⟩ => ⟨S1024x1792, .f32⟩
  | .hbm, ⟨11, _⟩ => ⟨S1024x4x448, .f32⟩
  | .hbm, ⟨12, _⟩ => ⟨S4x1024x448, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S8x8192x64 : Shape := ⟨3, ![8, 8192, 64]⟩
abbrev S8192x512 : Shape := ⟨2, ![8192, 512]⟩
abbrev S8x1024x64 : Shape := ⟨3, ![8, 1024, 64]⟩
abbrev S1024x512 : Shape := ⟨2, ![1024, 512]⟩
abbrev S512x1024 : Shape := ⟨2, ![512, 1024]⟩
abbrev S1024x64 : Shape := ⟨2, ![1024, 64]⟩
abbrev S1x1024x64 : Shape := ⟨3, ![1, 1024, 64]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8x8192x64, .bf16⟩
  | .hbm, ⟨4, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S8x1024x64, .bf16⟩
  | .local _ .vmem, ⟨4, _⟩ => ⟨S8x1024x64, .bf16⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩
abbrev S8192x8x64 : Shape := ⟨3, ![8192, 8, 64]⟩
abbrev S8x8192x64 : Shape := ⟨3, ![8, 8192, 64]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S8192x8x64, .bf16⟩
  | .hbm, ⟨13, _⟩ => ⟨S8x8192x64, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S8192x512 : Shape := ⟨2, ![8192, 512]⟩
abbrev S8192x256 : Shape := ⟨2, ![8192, 256]⟩
abbrev S8192x1024 : Shape := ⟨2, ![8192, 1024]⟩
abbrev S1024x1792 : Shape := ⟨2, ![1024, 1792]⟩
abbrev S1792x1024 : Shape := ⟨2, ![1792, 1024]⟩
abbrev S4x8192x448 : Shape := ⟨3, ![4, 8192, 448]⟩
abbrev S512x512 : Shape := ⟨2, ![512, 512]⟩
abbrev S512x256 : Shape := ⟨2, ![512, 256]⟩
abbrev S512x1024 : Shape := ⟨2, ![512, 1024]⟩
abbrev S4x512x448 : Shape := ⟨3, ![4, 512, 448]⟩
abbrev S256x1024 : Shape := ⟨2, ![256, 1024]⟩
abbrev S512x448 : Shape := ⟨2, ![512, 448]⟩
abbrev S1x512x448 : Shape := ⟨3, ![1, 512, 448]⟩
abbrev S512x64 : Shape := ⟨2, ![512, 64]⟩
abbrev S1x512x64 : Shape := ⟨3, ![1, 512, 64]⟩
abbrev S1x512x256 : Shape := ⟨3, ![1, 512, 256]⟩
abbrev S512x128 : Shape := ⟨2, ![512, 128]⟩
abbrev S1x512x128 : Shape := ⟨3, ![1, 512, 128]⟩
abbrev S512x384 : Shape := ⟨2, ![512, 384]⟩
abbrev S1x512x384 : Shape := ⟨3, ![1, 512, 384]⟩

abbrev nBuf : Space → Nat
  | .hbm => 10
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S1024x1792, .f32⟩
  | .hbm, ⟨6, _⟩ => ⟨S1792x1024, .f32⟩
  | .hbm, ⟨7, _⟩ => ⟨S1792x1024, .bf16⟩
  | .hbm, ⟨8, _⟩ => ⟨S8192x1024, .f32⟩
  | .hbm, ⟨9, _⟩ => ⟨S4x8192x448, .bf16⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1792x1024, .bf16⟩
  | .local _ .vmem, ⟨11, _⟩ => ⟨S512x1024, .f32⟩
  | .local _ .vmem, ⟨12, _⟩ => ⟨S512x1024, .f32⟩
  | .local _ .vmem, ⟨13, _⟩ => ⟨S4x512x448, .bf16⟩
  | .local _ .vmem, ⟨14, _⟩ => ⟨S4x512x448, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x448 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x512 : Shape := ⟨2, ![8192, 512]⟩
abbrev S8192x256 : Shape := ⟨2, ![8192, 256]⟩
abbrev S8192x1024 : Shape := ⟨2, ![8192, 1024]⟩
abbrev S1024x1792 : Shape := ⟨2, ![1024, 1792]⟩
abbrev S_ : Shape := ⟨0, ![]⟩
abbrev S8192x1792 : Shape := ⟨2, ![8192, 1792]⟩
abbrev S8192x128 : Shape := ⟨2, ![8192, 128]⟩
abbrev S8192x4x448 : Shape := ⟨3, ![8192, 4, 448]⟩
abbrev S4x8192x448 : Shape := ⟨3, ![4, 8192, 448]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S1024x1792, .f32⟩
  | .hbm, ⟨6, _⟩ => ⟨S_, .f32⟩
  | .hbm, ⟨7, _⟩ => ⟨S8192x1792, .f32⟩
  | .hbm, ⟨8, _⟩ => ⟨S8192x512, .f32⟩
  | .hbm, ⟨9, _⟩ => ⟨S8192x128, .f32⟩
  | .hbm, ⟨10, _⟩ => ⟨S8192x128, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x128, .f32⟩
  | .hbm, ⟨15, _⟩ => ⟨S8192x128, .f32⟩
  | .hbm, ⟨16, _⟩ => ⟨S8192x512, .f32⟩
  | .hbm, ⟨17, _⟩ => ⟨S8192x512, .f32⟩
  | .hbm, ⟨18, _⟩ => ⟨S8192x1792, .f32⟩
  | .hbm, ⟨19, _⟩ => ⟨S_, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1792, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1792, .bf16⟩
  | .hbm, ⟨31, _⟩ => ⟨S8192x4x448, .bf16⟩
  | .hbm, ⟨32, _⟩ => ⟨S4x8192x448, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel11.lean ====
abbrev S8192x1024 : Shape := ⟨2, ![8192, 1024]⟩
abbrev S1024x1792 : Shape := ⟨2, ![1024, 1792]⟩
abbrev S1792x1024 : Shape := ⟨2, ![1792, 1024]⟩
abbrev S8x8192x64 : Shape := ⟨3, ![8, 8192, 64]⟩
abbrev S8192x256 : Shape := ⟨2, ![8192, 256]⟩
abbrev S8192x512 : Shape := ⟨2, ![8192, 512]⟩
abbrev S1024x1024 : Shape := ⟨2, ![1024, 1024]⟩
abbrev S8x1024x64 : Shape := ⟨3, ![8, 1024, 64]⟩
abbrev S1024x256 : Shape := ⟨2, ![1024, 256]⟩
abbrev S1024x512 : Shape := ⟨2, ![1024, 512]⟩
abbrev S512x1024 : Shape := ⟨2, ![512, 1024]⟩
abbrev S1024x64 : Shape := ⟨2, ![1024, 64]⟩
abbrev S1x1024x64 : Shape := ⟨3, ![1, 1024, 64]⟩
abbrev S256x1024 : Shape := ⟨2, ![256, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S1792x1024, .f32⟩
  | .hbm, ⟨3, _⟩ => ⟨S1792x1024, .bf16⟩
  | .hbm, ⟨4, _⟩ => ⟨S8x8192x64, .bf16⟩
  | .hbm, ⟨5, _⟩ => ⟨S8192x256, .bf16⟩
  | .hbm, ⟨6, _⟩ => ⟨S8192x512, .f32⟩
  | .hbm, ⟨7, _⟩ => ⟨S8192x512, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1792x1024, .bf16⟩
  | .local _ .vmem, ⟨3, _⟩ => ⟨S8x1024x64, .bf16⟩
  | .local _ .vmem, ⟨4, _⟩ => ⟨S8x1024x64, .bf16⟩
  | .local _ .vmem, ⟨5, _⟩ => ⟨S1024x256, .bf16⟩
  | .local _ .vmem, ⟨6, _⟩ => ⟨S1024x256, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S1024x1792 : Shape := ⟨2, ![1024, 1792]⟩
abbrev S8192x1792 : Shape := ⟨2, ![8192, 1792]⟩
abbrev S8192x512 : Shape := ⟨2, ![8192, 512]⟩
abbrev S8192x128 : Shape := ⟨2, ![8192, 128]⟩
abbrev S8192x8x64 : Shape := ⟨3, ![8192, 8, 64]⟩
abbrev S8x8192x64 : Shape := ⟨3, ![8, 8192, 64]⟩
abbrev S_ : Shape := ⟨0, ![]⟩
abbrev S8192x256 : Shape := ⟨2, ![8192, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1792, .f32⟩
  | .hbm, ⟨2, _⟩ => ⟨S8192x1792, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S_, .f32⟩
  | .hbm, ⟨11, _⟩ => ⟨S8x8192x64, .f32⟩
  | .hbm, ⟨12, _⟩ => ⟨S8x8192x64, .f32⟩
  | .hbm, ⟨13, _⟩ => ⟨S8x8192x64, .bf16⟩
  | .hbm, ⟨14, _⟩ => ⟨S8192x256, .f32⟩
  | .hbm, ⟨15, _⟩ => ⟨S8192x256, .bf16⟩
  | .hbm, ⟨16, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel13.lean ====
abbrev S8192x1024 : Shape := ⟨2, ![8192, 1024]⟩
abbrev S1024x6144 : Shape := ⟨2, ![1024, 6144]⟩
abbrev S3x3072 : Shape := ⟨2, ![3, 3072]⟩
abbrev S3072 : Shape := ⟨1, ![3072]⟩
abbrev S3x4x768 : Shape := ⟨3, ![3, 4, 768]⟩
abbrev S4x3x768 : Shape := ⟨3, ![4, 3, 768]⟩
abbrev S1x4x768 : Shape := ⟨3, ![1, 4, 768]⟩
abbrev S4x1x768 : Shape := ⟨3, ![4, 1, 768]⟩
abbrev S6144x1024 : Shape := ⟨2, ![6144, 1024]⟩
abbrev S4x8192x768 : Shape := ⟨3, ![4, 8192, 768]⟩
abbrev S8192x3072 : Shape := ⟨2, ![8192, 3072]⟩
abbrev S1024x1024 : Shape := ⟨2, ![1024, 1024]⟩
abbrev S768x1024 : Shape := ⟨2, ![768, 1024]⟩
abbrev S1x3x768 : Shape := ⟨3, ![1, 3, 768]⟩
abbrev S1x1x768 : Shape := ⟨3, ![1, 1, 768]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S1016x768 : Shape := ⟨2, ![1016, 768]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3x4x768, .f32⟩
  | .hbm, ⟨5, _⟩ => ⟨S4x3x768, .f32⟩
  | .hbm, ⟨6, _⟩ => ⟨S1x4x768, .f32⟩
  | .hbm, ⟨7, _⟩ => ⟨S4x1x768, .f32⟩
  | .hbm, ⟨8, _⟩ => ⟨S6144x1024, .f32⟩
  | .hbm, ⟨9, _⟩ => ⟨S6144x1024, .bf16⟩
  | .hbm, ⟨10, _⟩ => ⟨S4x8192x768, .bf16⟩
  | .hbm, ⟨11, _⟩ => ⟨S4x8192x768, .bf16⟩
  | .hbm, ⟨12, _⟩ => ⟨S4x8192x768, .bf16⟩
  | .hbm, ⟨13, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1x3x768, .f32⟩
  | .local _ .vmem, ⟨7, _⟩ => ⟨S1x3x768, .f32⟩
  | .local _ .vmem, ⟨8, _⟩ => ⟨S1x1x768, .f32⟩
  | .local _ .vmem, ⟨9, _⟩ => ⟨S1x1x768, .f32⟩
  | .local _ .vmem, ⟨10, _⟩ => ⟨S1x1024x768, .bf16⟩
  | .local _ .vmem, ⟨11, _⟩ => ⟨S1x1024x768, .bf16⟩
  | .local _ .vmem, ⟨12, _⟩ => ⟨S1x1024x768, .bf16⟩
  | .local _ .vmem, ⟨13, _⟩ => ⟨S1x1024x768, .bf16⟩
  | .local _ .vmem, ⟨14, _⟩ => ⟨S1x1024x768, .bf16⟩
  | .local _ .vmem, ⟨15, _⟩ => ⟨S1x1024x768, .bf16⟩
  | .local _ .vmem, ⟨16, _⟩ => ⟨S1024x768, .bf16⟩
  | .local _ .vmem, ⟨17, _⟩ => ⟨S1024x768, .bf16⟩
  | .local _ .vmem, ⟨18, _⟩ => ⟨S8x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel13Ideal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== Reference13Ideal.lean ====
abbrev S8192x1024 : Shape := ⟨2, ![8192, 1024]⟩
abbrev S1024x6144 : Shape := ⟨2, ![1024, 6144]⟩
abbrev S3x3072 : Shape := ⟨2, ![3, 3072]⟩
abbrev S3072 : Shape := ⟨1, ![3072]⟩
abbrev S8192x6144 : Shape := ⟨2, ![8192, 6144]⟩
abbrev S8192x3072 : Shape := ⟨2, ![8192, 3072]⟩
abbrev S_ : Shape := ⟨0, ![]⟩
abbrev S2x3072 : Shape := ⟨2, ![2, 3072]⟩
abbrev S8194x3072 : Shape := ⟨2, ![8194, 3072]⟩
abbrev S1x3072 : Shape := ⟨2, ![1, 3072]⟩
abbrev S8192x4x768 : Shape := ⟨3, ![8192, 4, 768]⟩
abbrev S4x8192x768 : Shape := ⟨3, ![4, 8192, 768]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S8192x1024, .f32⟩
  | .hbm, ⟨5, _⟩ => ⟨S8192x6144, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S2x3072, .f32⟩
  | .hbm, ⟨10, _⟩ => ⟨S8194x3072, .f32⟩
  | .hbm, ⟨11, _⟩ => ⟨S1x3072, .f32⟩
  | .hbm, ⟨12, _⟩ => ⟨S3072, .f32⟩
  | .hbm, ⟨13, _⟩ => ⟨S8192x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S3072, .f32⟩
  | .hbm, ⟨29, _⟩ => ⟨S8192x3072, .f32⟩
  | .hbm, ⟨30, _⟩ => ⟨S1x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S1x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S8192x3072, .f32⟩
  | .hbm, ⟨49, _⟩ => ⟨S8192x3072, .f32⟩
  | .hbm, ⟨50, _⟩ => ⟨S8192x3072, .f32⟩
  | .hbm, ⟨51, _⟩ => ⟨S_, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S8192x3072, .f32⟩
  | .hbm, ⟨56, _⟩ => ⟨S8192x3072, .f32⟩
  | .hbm, ⟨57, _⟩ => ⟨S8192x3072, .f32⟩
  | .hbm, ⟨58, _⟩ => ⟨S_, .f32⟩
  | .hbm, ⟨59, _⟩ => ⟨S8192x3072, .f32⟩
  | .hbm, ⟨60, _⟩ => ⟨S8192x3072, .f32⟩
  | .hbm, ⟨61, _⟩ => ⟨S_, .f32⟩
  | .hbm, ⟨62, _⟩ => ⟨S8192x3072, .f32⟩
  | .hbm, ⟨63, _⟩ => ⟨S8192x3072, .f32⟩
  | .hbm, ⟨64, _⟩ => ⟨S8192x3072, .f32⟩
  | .hbm, ⟨65, _⟩ => ⟨S8192x4x768, .f32⟩
  | .hbm, ⟨66, _⟩ => ⟨S4x8192x768, .f32⟩
  | .hbm, ⟨67, _⟩ => ⟨S4x8192x768, .bf16⟩
  | .hbm, ⟨68, _⟩ => ⟨S8192x4x768, .f32⟩
  | .hbm, ⟨69, _⟩ => ⟨S4x8192x768, .f32⟩
  | .hbm, ⟨70, _⟩ => ⟨S4x8192x768, .bf16⟩
  | .hbm, ⟨71, _⟩ => ⟨S8192x3072, .f32⟩
  | .hbm, ⟨72, _⟩ => ⟨S8192x3072, .f32⟩
  | .hbm, ⟨73, _⟩ => ⟨S_, .f32⟩
  | .hbm, ⟨74, _⟩ => ⟨S8192x3072, .f32⟩
  | .hbm, ⟨75, _⟩ => ⟨S8192x3072, .f32⟩
  | .hbm, ⟨76, _⟩ => ⟨S8192x3072, .f32⟩
  | .hbm, ⟨77, _⟩ => ⟨S_, .f32⟩
  | .hbm, ⟨78, _⟩ => ⟨S8192x3072, .f32⟩
  | .hbm, ⟨79, _⟩ => ⟨S8192x3072, .f32⟩
  | .hbm, ⟨80, _⟩ => ⟨S8192x3072, .f32⟩
  | .hbm, ⟨81, _⟩ => ⟨S_, .f32⟩
  | .hbm, ⟨82, _⟩ => ⟨S8192x3072, .f32⟩
  | .hbm, ⟨83, _⟩ => ⟨S8192x3072, .f32⟩
  | .hbm, ⟨84, _⟩ => ⟨S8192x3072, .f32⟩
  | .hbm, ⟨85, _⟩ => ⟨S8192x3072, .f32⟩
  | .hbm, ⟨86, _⟩ => ⟨S8192x4x768, .f32⟩
  | .hbm, ⟨87, _⟩ => ⟨S4x8192x768, .f32⟩
  | .hbm, ⟨88, _⟩ => ⟨S4x8192x768, .bf16⟩
  | .hbm, ⟨89, _⟩ => ⟨S8192x3072, .f32⟩
  | .hbm, ⟨90, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]
-- ==== Kernel14.lean ====
abbrev S8192x3072 : Shape := ⟨2, ![8192, 3072]⟩
abbrev S8192x1024 : Shape := ⟨2, ![8192, 1024]⟩
abbrev S8192x256 : Shape := ⟨2, ![8192, 256]⟩
abbrev S3072x1024 : Shape := ⟨2, ![3072, 1024]⟩
abbrev S1024x1024 : Shape := ⟨2, ![1024, 1024]⟩
abbrev S256x1024 : Shape := ⟨2, ![256, 1024]⟩
abbrev S1024 : Shape := ⟨1, ![1024]⟩
abbrev S1024x256 : Shape := ⟨2, ![1024, 256]⟩
abbrev S1x1024 : Shape := ⟨2, ![1, 1024]⟩
abbrev S8x1024 : Shape := ⟨2, ![8, 1024]⟩
abbrev S512x3072 : Shape := ⟨2, ![512, 3072]⟩
abbrev S512x1024 : Shape := ⟨2, ![512, 1024]⟩
abbrev S512x256 : Shape := ⟨2, ![512, 256]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S256x3072 : Shape := ⟨2, ![256, 3072]⟩
abbrev S256x256 : Shape := ⟨2, ![256, 256]⟩
abbrev S1x1 : Shape := ⟨2, ![1, 1]⟩

abbrev nBuf : Space → Nat
  | .hbm => 26
  | .vmem => 25
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S3072x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S3072x1024, .bf16⟩
  | .hbm, ⟨13, _⟩ => ⟨S1024x1024, .bf16⟩
  | .hbm, ⟨14, _⟩ => ⟨S1024x256, .f32⟩
  | .hbm, ⟨15, _⟩ => ⟨S1024x256, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S3072x1024, .bf16⟩
  | .local _ .vmem, ⟨23, _⟩ => ⟨S1024x1024, .bf16⟩
  | .local _ .vmem, ⟨24, _⟩ => ⟨S1024x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference14Ideal.lean ====
abbrev S8192x3072 : Shape := ⟨2, ![8192, 3072]⟩
abbrev S8192x1024 : Shape := ⟨2, ![8192, 1024]⟩
abbrev S8192x256 : Shape := ⟨2, ![8192, 256]⟩
abbrev S3072x1024 : Shape := ⟨2, ![3072, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S8192x3072, .bf16⟩
  | 1 => ⟨S8192x1024, .f32⟩
  | 2 => ⟨S8192x256, .f32⟩
  | 3 => ⟨S8192x1024, .f32⟩
  | 4 => ⟨S3072x1024, .f32⟩
  | 5 => ⟨S1024x1024, .f32⟩
  | 6 => ⟨S256x1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S_, .f32⟩
  | 30 => ⟨S8192x1, .f32⟩
  | 31 => ⟨S8192x1, .f32⟩
  | 32 => ⟨S8192x1, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x3072, .f32⟩
  | 45 => ⟨S8192x1024, .f32⟩
  | 46 => ⟨S8192x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S8192x1024, .f32⟩
  | 85 => ⟨S8192x1024, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192, .f32⟩
  | 109 => ⟨S_, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8192, .f32⟩
  | 120 => ⟨S_, .f32⟩
  | 121 => ⟨S8192, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x3072, .bf16⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .bf16⟩
  | 34 => ⟨S8192x1024, .bf16⟩
  | 35 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_cst_20 : Ref sig .tc := ⟨.hbm, 116, rfl⟩
abbrev main_cst_21 : Ref sig .tc := ⟨.hbm, 117, rfl⟩
abbrev main_v83 : Ref sig .tc := ⟨.hbm, 118, rfl⟩
abbrev main_v84 : Ref sig .tc := ⟨.hbm, 119, rfl⟩
abbrev main_cst_22 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_23 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_24 : Ref sig .tc := ⟨.hbm, 135, rfl⟩
abbrev main_v98 : Ref sig .tc := ⟨.hbm, 136, rfl⟩
abbrev main_v99 : Ref sig .tc := ⟨.hbm, 137, rfl⟩
abbrev main_cst_25 : Ref sig .tc := ⟨.hbm, 138, rfl⟩
abbrev main_v100 : Ref sig .tc := ⟨.hbm, 139, rfl⟩
abbrev main_v101 : Ref sig .tc := ⟨.hbm, 140, rfl⟩
abbrev main_cst_26 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_27 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_28 : Ref sig .tc := ⟨.hbm, 151, rfl⟩
abbrev main_v110 : Ref sig .tc := ⟨.hbm, 152, rfl⟩
abbrev main_v111 : Ref sig .tc := ⟨.hbm, 153, rfl⟩
abbrev main_cst_29 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]
-- ==== Proof.DwSum.lean ====
module

public import Idealize.ShloMosaic.Lib.Pointwise

@[expose] public section

noncomputable section

namespace Cert.Dw

/-- Two blocks of 4096 rows make all the rows. -/
theorem sum_halves (f : Fin 8192 → EReal) :
    (∑ r : Fin 4096, f ⟨r, by omega⟩) + ∑ r : Fin 4096, f ⟨4096 + r, by omega⟩ = ∑ r : Fin 8192, f r :=
  (Fin.sum_univ_add (a := 4096) (b := 4096) f).symm

/-- Two accumulated half sums, each read from its own block, are the whole sum. -/
theorem two (f : Fin 8192 → EReal) (g h : Fin 4096 → EReal)
    (hg : ∀ (r : Fin 4096) (k : Fin 8192), k.val = r.val → g r = f k)
    (hh : ∀ (r : Fin 4096) (k : Fin 8192), k.val = 4096 + r.val → h r = f k) :
    ∑ r, g r + ∑ r, h r = ∑ r, f r := by
  rw [← sum_halves f]
  exact congr (congrArg HAdd.hAdd (Finset.sum_congr rfl fun r _ => hg r _ rfl)) (Finset.sum_congr rfl fun r _ => hh r _ rfl)

end Cert.Dw

end
-- ==== Proof.DwUp.lean ====
module

public import proofs.«01_k».proof.Proof.DwSum
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Dw

open Cert.Kernel3Ideal Cert.Kernel3Ideal.Gen Idealize.ShloMosaic Idealize.ShloMosaic.TcCoe Idealize.SL.Sem

theorem pay_at (a : FVec Ideal S1x1024x768 .f32) (x : FVec Ideal S4096x1024 .bf16) (y : FVec Ideal S4096x768 .bf16) (u : Fin 1) (i : Fin 1024) (j : Fin 768) :
    k0_pay2 (F := Ideal) a x y (ix3 u i j) = a (ix3 u i j) + ∑ r : Fin 4096, x (ix2 r i) * y (ix2 r j) := by
  obtain rfl : u = 0 := Subsingleton.elim u 0
  pointwise [k0_pay2]

theorem zero_at (u : Fin 1) (i : Fin 1024) (j : Fin 768) : k0_pay1 (F := Ideal) (ix3 u i j) = 0 := by
  pointwise [k0_pay1]

theorem idx : ∀ t : Fin cfg0.N, win0_0.index t = ![t.val % 2, 0] ∧ win0_1.index t = ![t.val % 2, t.val / 2]
    ∧ win0_2.index t = ![2 * (t.val / 2 % 2) + t.val / 8, 0, t.val / 4 % 2] :=
  (by decide +kernel : ∀ t : Fin grid0.N, _)

theorem lt16 (t : Fin cfg0.N) : t.val < 16 := t.isLt.trans_eq N_0

theorem hz3 : (![0, 0, 0] : Fin 3 → Nat) = fun _ => 0 := funext fun a => by fin_cases a <;> rfl
theorem hz2 : (![0, 0] : Fin 2 → Nat) = fun _ => 0 := funext fun a => by fin_cases a <;> rfl

section Cases

variable {F : FTy → Type} [FloatOps F]

/-- What the first point of a block of columns leaves. -/
theorem out_A (c : Dev nD) (i : grid0.Coords) (arg2 : Memref sig .tc .vmem S4096x1024 .bf16) (harg2 : arg2.IsWhole) (arg3 : Memref sig .tc .vmem S4096x768 .bf16) (harg3 : arg3.IsWhole) (arg4 : Memref sig .tc .vmem S1x1024x768 .f32) (harg4 : arg4.IsWhole) (hc0 : cond0_0 i)
    (x0 : Vec F S4096x1024 .bf16) (x1 : Vec F S4096x768 .bf16) :
    out0_A_2 c i arg2 harg2 arg3 harg3 arg4 harg4 hc0 x0 x1 = k0_pay2 (k0_pay1 (F := F)) x0 x1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x1024x768) hz3, View.readCov_unit_zero (S := S1x1024x768) _ hz3]
  simp only [View.readAt_eq_ld, harg2.read_unread, harg3.read_unread, View.ld_unit_zero (S := S4096x1024) hz2, View.ld_unit_zero (S := S4096x768) hz2, shapeCast_self]

/-- What the second point leaves over the first's sum. -/
theorem out_B (c : Dev nD) (i : grid0.Coords) (arg2 : Memref sig .tc .vmem S4096x1024 .bf16) (harg2 : arg2.IsWhole) (arg3 : Memref sig .tc .vmem S4096x768 .bf16) (harg3 : arg3.IsWhole) (arg4 : Memref sig .tc .vmem S1x1024x768 .f32) (harg4 : arg4.IsWhole) (hc0 : ¬cond0_0 i)
    (x0 : Vec F S4096x1024 .bf16) (x1 : Vec F S4096x768 .bf16) (xo : Vec F S1x1024x768 .f32) :
    out0_B_2 c i arg2 harg2 arg3 harg3 arg4 harg4 hc0 x0 x1 xo = k0_pay2 xo x0 x1 := by
  unfold out0_B_2
  rw [View.read_writes_eq_canon _ _ _ (cover0_B_2 c i arg2 harg2 arg3 harg3 arg4 harg4 hc0 x0 x1 xo)]
  unfold kernelRun0_B
  dsimp only
  rw [View.canon_unit_zero hz3]
  simp only [View.readAt_eq_ld, harg2.read_unread, harg3.read_unread, harg4.read_unread, View.ld_unit_zero (S := S4096x1024) hz2, View.ld_unit_zero (S := S4096x768) hz2, View.ld_unit_zero (S := S1x1024x768) hz3, shapeCast_self]

end Cases

variable (m : (ℓ : Loc nD τ sig) → Buf (Elt Ideal) ℓ) (c : Dev nD)

/-- The arguments, at their own shapes. -/
abbrev aX : FVec Ideal S8192x1024 .bf16 := m ((c : Thread nD τ).loc main_arg0)
abbrev aY : FVec Ideal S8192x6144 .bf16 := m ((c : Thread nD τ).loc main_arg1)

/-- The plain product. -/
def prod (i : Fin 1024) (n : Fin 6144) : EReal := ∑ r : Fin 8192, aX m c (ix2 r i) * aY m c (ix2 r n)

/-- The second operand in the layout of the call: the columns in the order of the blocks of channels. -/
theorem lay_at (r : Fin 8192) (b : Fin 8) (j : Fin 768) : (V m c main_v2 : FVec Ideal S8192x6144 .bf16) (ix2 r ⟨b * 768 + j, by omega⟩)
    = aY m c (ix2 r ⟨b % 2 * 3072 + b / 2 * 768 + j, by omega⟩) := by
  entry_read
  pointwise
  refine congrArg (aY m c) (congrArg (ix2 r) (Fin.ext ?_))
  dsimp only
  omega

/-- The blocks of the operands at a point. -/
abbrev bX (t : Fin cfg0.N) : FVec Ideal S4096x1024 .bf16 := iblk m c 0 t
abbrev bY (t : Fin cfg0.N) : FVec Ideal S4096x768 .bf16 := iblk m c 1 t

theorem blk0 (t : Fin cfg0.N) (r : Fin 4096) (i : Fin 1024) : bX m c t (ix2 r i)
    = (V m c main_arg0 : FVec Ideal S8192x1024 .bf16) (ix2 ⟨t.val % 2 * 4096 + r, by omega⟩ i) := by
  blk_ext [iblk, idx t]
theorem blk1 (t : Fin cfg0.N) (r : Fin 4096) (j : Fin 768) : bY m c t (ix2 r j)
    = (V m c main_v2 : FVec Ideal S8192x6144 .bf16) (ix2 ⟨t.val % 2 * 4096 + r, by omega⟩ ⟨t.val / 2 * 768 + j, by have := lt16 t; omega⟩) := by
  blk_ext [iblk, idx t]

/-- The term of row `r` in the sum of the block of point `t`. -/
theorem term (t : Fin cfg0.N) (b : Fin 8) (hb : t.val / 2 = b.val) (r : Fin 4096) (q : Fin 8192) (hq : t.val % 2 * 4096 + r = q.val) (i : Fin 1024) (j : Fin 768) :
    bX m c t (ix2 r i) * bY m c t (ix2 r j)
      = aX m c (ix2 q i) * aY m c (ix2 q ⟨b % 2 * 3072 + b / 2 * 768 + j, by omega⟩) := by
  rw [blk0, blk1, ← lay_at, V_main_arg0]
  rw [show (⟨t.val % 2 * 4096 + r, by omega⟩ : Fin 8192) = q from Fin.ext hq]
  rw [show (⟨t.val / 2 * 768 + j, by have := lt16 t; omega⟩ : Fin 6144) = ⟨b * 768 + j, by omega⟩ from Fin.ext (by dsimp only; omega)]

theorem outs (t : Fin cfg0.N) (hf : t.val % 2 = 1) (b : Fin 8) (hb : t.val / 2 = b.val) (u : Fin 1) (i : Fin 1024) (j : Fin 768) :
    outsAt0 m c t.val t.isLt (ix3 u i j) = prod m c i ⟨b % 2 * 3072 + b / 2 * 768 + j, by omega⟩ := by
  have h := lt16 t
  have hs : t.val - 1 < cfg0.N := Nat.lt_of_le_of_lt (Nat.sub_le _ _) t.isLt
  rw [outsAt0_B m c t (by omega), out_B, pay_at, outsAt0_A m c ⟨t.val - 1, hs⟩ (by show (t.val - 1) % 2 = 0; omega), out_A, pay_at, zero_at, zero_add,
    prod, ← Cert.Dw.sum_halves]
  refine congr (congrArg HAdd.hAdd (Finset.sum_congr rfl fun r _ => ?_)) (Finset.sum_congr rfl fun r _ => ?_)
  · exact term m c ⟨t.val - 1, hs⟩ b (by dsimp only; omega) r _ (by dsimp only; omega) i j
  · exact term m c t b hb r _ (by dsimp only; omega) i j

theorem arr : (dats m 0 c).arrAt 2 cfg0.N = (fun y => prod m c (y 1) ⟨(y 0).val * 1536 + (y 2).val, by have := (y 0).isLt; have := (y 2).isLt; simp at *; omega⟩ : FVec Ideal S4x1024x1536 .f32) := by
  refine (dats m 0 c).arrAt_eq_of_covers 2 _ (by decide +kernel) fun t hf y => ?_
  have h := lt16 t
  blk_simp
  rw [after0_2]
  idx_vars y
  rw [outs m c t ((flush0_2 t).mp hf) ⟨t.val / 2, by omega⟩ rfl]
  refine congr (congrArg (prod m c) (Fin.ext ?_)) (Fin.ext ?_)
  · blk_simp [idx t]
  · blk_simp [idx t]
    dsimp only
    omega

/-- The reference's product of the same arguments, its columns in four parts. -/
def ref (X : FVec Ideal S8192x1024 .bf16) (Y : FVec Ideal S8192x6144 .bf16) : FVec Ideal S4x1024x1536 .f32 :=
  transpose S4x1024x1536 [1, 0, 2] (shapeCast Cert.Reference3Ideal.S1024x4x1536 (transpose Cert.Reference3Ideal.S1024x6144 [1, 0] (Host.dotGeneral Cert.Reference3Ideal.dot_S8192x6144_S8192x1024_S6144x1024_0_0_1_1_n_n none (extf .f32 Y Cert.Reference3Ideal.Gen.bitsLt_bf16_f32) (extf .f32 X Cert.Reference3Ideal.Gen.bitsLt_bf16_f32)) Cert.Reference3Ideal.Gen.transposes_S6144x1024_S1024x6144_1_0)
    Cert.Reference3Ideal.Gen.shapeCasts_S1024x6144_S1024x4x1536) Cert.Reference3Ideal.Gen.transposes_S1024x4x1536_S4x1024x1536_1_0_2

theorem ref_at (X : FVec Ideal S8192x1024 .bf16) (Y : FVec Ideal S8192x6144 .bf16) (q : Fin 4) (i : Fin 1024) (j : Fin 1536) :
    ref X Y (ix3 q i j) = ∑ r : Fin 8192, Y (ix2 r ⟨q * 1536 + j, by omega⟩) * X (ix2 r i) := by
  pointwise [ref]

theorem res : (dats m 0 c).arrAt 2 cfg0.N = ref (aX m c) (aY m c) := by
  rw [arr]
  funext y
  idx_vars y
  rw [ref_at]
  exact Finset.sum_congr rfl fun r _ => mul_comm _ _

end Cert.Kernel3Ideal.Dw

end
-- ==== Proof.DwDown.lean ====
module

public import proofs.«01_k».proof.Proof.DwSum
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Dw

open Cert.Kernel4Ideal Cert.Kernel4Ideal.Gen Idealize.ShloMosaic Idealize.ShloMosaic.TcCoe Idealize.SL.Sem

theorem pay_at (a : FVec Ideal S768x1024 .f32) (x : FVec Ideal S4096x768 .bf16) (y : FVec Ideal S4096x1024 .bf16) (i : Fin 768) (j : Fin 1024) :
    k0_pay2 (F := Ideal) a x y (ix2 i j) = a (ix2 i j) + ∑ r : Fin 4096, x (ix2 r i) * y (ix2 r j) := by
  pointwise [k0_pay2]

theorem zero_at (i : Fin 768) (j : Fin 1024) : k0_pay1 (F := Ideal) (ix2 i j) = 0 := by
  pointwise [k0_pay1]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem lt8 (t : Fin cfg0.N) : t.val < 8 := t.isLt.trans_eq N_0

variable (m : (ℓ : Loc nD τ sig) → Buf (Elt Ideal) ℓ) (c : Dev nD)

/-- The arguments, at their own shapes. -/
abbrev aX : FVec Ideal S8192x3072 .bf16 := m ((c : Thread nD τ).loc main_arg0)
abbrev aY : FVec Ideal S8192x1024 .bf16 := m ((c : Thread nD τ).loc main_arg1)

/-- The plain product. -/
def prod (i : Fin 3072) (j : Fin 1024) : EReal := ∑ r : Fin 8192, aX m c (ix2 r i) * aY m c (ix2 r j)

theorem blk0 (t : Fin cfg0.N) (r : Fin 4096) (i : Fin 768) : (iblk m c 0 t : FVec Ideal S4096x768 .bf16) (ix2 r i)
    = aX m c (ix2 ⟨t.val % 2 * 4096 + r, by omega⟩ ⟨t.val / 2 * 768 + i, by have := lt8 t; omega⟩) := by
  blk_ext [iblk, idx t]
theorem blk1 (t : Fin cfg0.N) (r : Fin 4096) (j : Fin 1024) : (iblk m c 1 t : FVec Ideal S4096x1024 .bf16) (ix2 r j)
    = aY m c (ix2 ⟨t.val % 2 * 4096 + r, by omega⟩ j) := by
  blk_ext [iblk, idx t]

theorem outs (t : Fin cfg0.N) (hf : t.val % 2 = 1) (i : Fin 768) (j : Fin 1024) :
    outsAt0 m c t.val t.isLt (ix2 i j) = prod m c ⟨t.val / 2 * 768 + i, by have := lt8 t; omega⟩ j := by
  have h8 := lt8 t
  have hs : t.val - 1 < cfg0.N := Nat.lt_of_le_of_lt (Nat.sub_le _ _) t.isLt
  rw [outsAt0_B m c t (by omega), Value.out_B_2_eq, pay_at, outsAt0_A m c ⟨t.val - 1, hs⟩ (by show (t.val - 1) % 2 = 0; omega), Value.out_A_2_eq, pay_at, zero_at, zero_add,
    prod, ← Cert.Dw.sum_halves]
  refine congr (congrArg HAdd.hAdd (Finset.sum_congr rfl fun r _ => ?_)) (Finset.sum_congr rfl fun r _ => ?_)
  · rw [blk0, blk1]
    refine congr (congrArg HMul.hMul (congrArg (aX m c) (congr (congrArg ix2 (Fin.ext ?_)) (Fin.ext ?_)))) (congrArg (aY m c) (congrFun (congrArg ix2 (Fin.ext ?_)) _)) <;>
      dsimp only <;> omega
  · rw [blk0, blk1]
    refine congr (congrArg HMul.hMul (congrArg (aX m c) (congr (congrArg ix2 (Fin.ext ?_)) rfl))) (congrArg (aY m c) (congrFun (congrArg ix2 (Fin.ext ?_)) _)) <;>
      dsimp only <;> omega

theorem arr : (dats m 0 c).arrAt 2 cfg0.N = (fun y => prod m c (y 0) (y 1) : FVec Ideal S3072x1024 .f32) := by
  refine (dats m 0 c).arrAt_eq_of_covers 2 _ (by decide +kernel) fun t hf y => ?_
  blk_simp
  rw [after0_2]
  idx_vars y
  rw [outs m c t ((flush0_2 t).mp hf)]
  refine congr (congrArg (prod m c) (Fin.ext ?_)) (Fin.ext ?_)
  · blk_simp [idx t]
  · blk_simp [idx t]

/-- The reference's product of the same arguments. -/
def ref (X : FVec Ideal S8192x3072 .bf16) (Y : FVec Ideal S8192x1024 .bf16) : FVec Ideal S3072x1024 .f32 :=
  transpose S3072x1024 [1, 0] (Host.dotGeneral Cert.Reference4Ideal.dot_S8192x1024_S8192x3072_S1024x3072_0_0_1_1_n_n none (extf .f32 Y Cert.Reference4Ideal.Gen.bitsLt_bf16_f32) (extf .f32 X Cert.Reference4Ideal.Gen.bitsLt_bf16_f32)) Cert.Reference4Ideal.Gen.transposes_S1024x3072_S3072x1024_1_0

theorem ref_at (X : FVec Ideal S8192x3072 .bf16) (Y : FVec Ideal S8192x1024 .bf16) (i : Fin 3072) (j : Fin 1024) :
    ref X Y (ix2 i j) = ∑ r : Fin 8192, Y (ix2 r j) * X (ix2 r i) := by
  pointwise [ref]

theorem res : (dats m 0 c).arrAt 2 cfg0.N = ref (aX m c) (aY m c) := by
  rw [arr]
  funext y
  idx_vars y
  rw [ref_at]
  exact Finset.sum_congr rfl fun r _ => mul_comm _ _

end Cert.Kernel4Ideal.Dw

end
-- ==== Proof.DwGate.lean ====
module

public import proofs.«01_k».proof.Proof.DwSum
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Kernel5Ideal.Dw

open Cert.Kernel5Ideal Cert.Kernel5Ideal.Gen Idealize.ShloMosaic Idealize.ShloMosaic.TcCoe Idealize.SL.Sem

theorem pay_at (a : FVec Ideal S512x1024 .f32) (x : FVec Ideal S4096x512 .bf16) (y : FVec Ideal S4096x1024 .bf16) (i : Fin 512) (j : Fin 1024) :
    k0_pay2 (F := Ideal) a x y (ix2 i j) = a (ix2 i j) + ∑ r : Fin 4096, x (ix2 r i) * y (ix2 r j) := by
  pointwise [k0_pay2]

theorem zero_at (i : Fin 512) (j : Fin 1024) : k0_pay1 (F := Ideal) (ix2 i j) = 0 := by
  pointwise [k0_pay1]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem lt4 (t : Fin cfg0.N) : t.val < 4 := t.isLt.trans_eq N_0

variable (m : (ℓ : Loc nD τ sig) → Buf (Elt Ideal) ℓ) (c : Dev nD)

/-- The arguments, at their own shapes. -/
abbrev aX : FVec Ideal S8192x1024 .bf16 := m ((c : Thread nD τ).loc main_arg0)
abbrev aY : FVec Ideal S8192x1024 .bf16 := m ((c : Thread nD τ).loc main_arg1)

/-- One row's product, for column `i` of block `t`. -/
def term (t : Fin cfg0.N) (i : Fin 512) (j : Fin 1024) (k : Fin 8192) : EReal :=
  aX m c (ix2 k ⟨t.val / 2 * 512 + i, by have := lt4 t; omega⟩) * aY m c (ix2 k j)

/-- The blocks that point `t` reads, at their own shapes. -/
abbrev bX (t : Fin cfg0.N) : FVec Ideal S4096x512 .bf16 := iblk m c 0 t
abbrev bY (t : Fin cfg0.N) : FVec Ideal S4096x1024 .bf16 := iblk m c 1 t

theorem blk (t : Fin cfg0.N) (i : Fin 512) (j : Fin 1024) (r : Fin 4096) :
    bX m c t (ix2 r i) * bY m c t (ix2 r j) = term m c t i j ⟨t.val % 2 * 4096 + r, by omega⟩ := by
  have h0 : bX m c t (ix2 r i) = aX m c (ix2 ⟨t.val % 2 * 4096 + r, by omega⟩ ⟨t.val / 2 * 512 + i, by have := lt4 t; omega⟩) := by
    blk_ext [iblk, idx t]
  have h1 : bY m c t (ix2 r j) = aY m c (ix2 ⟨t.val % 2 * 4096 + r, by omega⟩ j) := by
    blk_ext [iblk, idx t]
  rw [h0, h1, term]

theorem term_pred (t s : Fin cfg0.N) (hs : s.val / 2 = t.val / 2) (i : Fin 512) (j : Fin 1024) : term m c s i j = term m c t i j := by
  funext k
  simp only [term, hs]

theorem outs (t : Fin cfg0.N) (hf : t.val % 2 = 1) (i : Fin 512) (j : Fin 1024) :
    outsAt0 m c t.val t.isLt (ix2 i j) = ∑ k, term m c t i j k := by
  have hs : t.val - 1 < cfg0.N := Nat.lt_of_le_of_lt (Nat.sub_le _ _) t.isLt
  rw [outsAt0_B m c t (by omega), Value.out_B_2_eq, pay_at, outsAt0_A m c ⟨t.val - 1, hs⟩ (by show (t.val - 1) % 2 = 0; omega), Value.out_A_2_eq, pay_at, zero_at, zero_add]
  refine Cert.Dw.two _ _ _ (fun r k hk => ?_) (fun r k hk => ?_)
  · refine (blk m c ⟨t.val - 1, hs⟩ i j r).trans ?_
    rw [term_pred m c t _ (by dsimp only; omega)]
    exact congrArg _ (Fin.ext (by dsimp only; omega))
  · refine (blk m c t i j r).trans ?_
    exact congrArg _ (Fin.ext (by dsimp only; omega))

/-- The plain product. -/
def prod (X Y : FVec Ideal S8192x1024 .bf16) (i j : Fin 1024) : EReal := ∑ k : Fin 8192, X (ix2 k i) * Y (ix2 k j)

theorem arr : (dats m 0 c).arrAt 2 cfg0.N = (fun y => prod (aX m c) (aY m c) (y 0) (y 1) : FVec Ideal S1024x1024 .f32) := by
  refine (dats m 0 c).arrAt_eq_of_covers 2 _ (by decide +kernel) fun t hf y => ?_
  blk_simp
  rw [after0_2]
  idx_vars y
  rw [outs m c t ((flush0_2 t).mp hf)]
  show prod (aX m c) (aY m c) ⟨t.val / 2 * 512 + y0, by have := lt4 t; omega⟩ y1 = _
  refine congr (congrArg (prod (aX m c) (aY m c)) (Fin.ext ?_)) (Fin.ext ?_)
  · blk_simp [idx t]
  · blk_simp [idx t]

/-- The reference's product of the same arguments. -/
def ref (X Y : FVec Ideal S8192x1024 .bf16) : FVec Ideal S1024x1024 .f32 :=
  transpose S1024x1024 [1, 0] (Host.dotGeneral Cert.Reference5Ideal.dot_S8192x1024_S8192x1024_S1024x1024_0_0_1_1_n_n none (extf .f32 Y Cert.Reference5Ideal.Gen.bitsLt_bf16_f32) (extf .f32 X Cert.Reference5Ideal.Gen.bitsLt_bf16_f32)) Cert.Reference5Ideal.Gen.transposes_S1024x1024_S1024x1024_1_0

theorem ref_at (X Y : FVec Ideal S8192x1024 .bf16) (i j : Fin 1024) : ref X Y (ix2 i j) = prod Y X j i := by
  pointwise [ref, prod]

theorem res : (dats m 0 c).arrAt 2 cfg0.N = ref (aX m c) (aY m c) := by
  rw [arr]
  funext y
  idx_vars y
  rw [ref_at]
  exact Finset.sum_congr rfl fun k _ => mul_comm _ _

end Cert.Kernel5Ideal.Dw

end
-- ==== Proof.DwProj.lean ====
module

public import proofs.«01_k».proof.Proof.DwSum
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Kernel6Ideal.Dw

open Cert.Kernel6Ideal Cert.Kernel6Ideal.Gen Idealize.ShloMosaic Idealize.ShloMosaic.TcCoe Idealize.SL.Sem

theorem pay_at (a : FVec Ideal S256x1024 .f32) (x : FVec Ideal S4096x256 .f32) (y : FVec Ideal S4096x1024 .bf16) (i : Fin 256) (j : Fin 1024) :
    k0_pay2 (F := Ideal) a x y (ix2 i j) = a (ix2 i j) + ∑ r : Fin 4096, x (ix2 r i) * y (ix2 r j) := by
  pointwise [k0_pay2]

theorem zero_at (i : Fin 256) (j : Fin 1024) : k0_pay1 (F := Ideal) (ix2 i j) = 0 := by
  pointwise [k0_pay1]

theorem idx : ∀ t : Fin cfg0.N, win0_0.index t = ![t.val, 0] ∧ win0_1.index t = ![t.val, 0] ∧ win0_2.index t = ![0, 0] :=
  (by decide +kernel : ∀ t : Fin grid0.N, _)

theorem lt2 (t : Fin cfg0.N) : t.val < 2 := t.isLt.trans_eq N_0

variable (m : (ℓ : Loc nD τ sig) → Buf (Elt Ideal) ℓ) (c : Dev nD)

/-- The arguments, at their own shapes. -/
abbrev aX : FVec Ideal S8192x256 .f32 := m ((c : Thread nD τ).loc main_arg0)
abbrev aY : FVec Ideal S8192x1024 .bf16 := m ((c : Thread nD τ).loc main_arg1)

/-- The blocks that point `t` reads, at their own shapes. -/
abbrev bX (t : Fin cfg0.N) : FVec Ideal S4096x256 .f32 := iblk m c 0 t
abbrev bY (t : Fin cfg0.N) : FVec Ideal S4096x1024 .bf16 := iblk m c 1 t

/-- The plain product. -/
def prod (X : FVec Ideal S8192x256 .f32) (Y : FVec Ideal S8192x1024 .bf16) (i : Fin 256) (j : Fin 1024) : EReal :=
  ∑ k : Fin 8192, X (ix2 k i) * Y (ix2 k j)

theorem blk (t : Fin cfg0.N) (i : Fin 256) (j : Fin 1024) (r : Fin 4096) (k : Fin 8192) (hk : k.val = t.val * 4096 + r.val) :
    bX m c t (ix2 r i) * bY m c t (ix2 r j) = aX m c (ix2 k i) * aY m c (ix2 k j) := by
  have hb : t.val * 4096 + r.val < 8192 := hk ▸ k.isLt
  rw [show k = ⟨t.val * 4096 + r.val, hb⟩ from Fin.ext hk]
  have h0 : bX m c t (ix2 r i) = aX m c (ix2 ⟨t.val * 4096 + r.val, hb⟩ i) := by
    blk_ext [iblk, idx t]
  have h1 : bY m c t (ix2 r j) = aY m c (ix2 ⟨t.val * 4096 + r.val, hb⟩ j) := by
    blk_ext [iblk, idx t]
  rw [h0, h1]

theorem outs (t : Fin cfg0.N) (hf : t.val % 2 = 1) (i : Fin 256) (j : Fin 1024) :
    outsAt0 m c t.val t.isLt (ix2 i j) = prod (aX m c) (aY m c) i j := by
  have h2 := lt2 t
  have hs : t.val - 1 < cfg0.N := Nat.lt_of_le_of_lt (Nat.sub_le _ _) t.isLt
  rw [outsAt0_B m c t (by omega), Value.out_B_2_eq, pay_at, outsAt0_A m c ⟨t.val - 1, hs⟩ (by show (t.val - 1) % 2 = 0; omega), Value.out_A_2_eq, pay_at, zero_at, zero_add]
  exact Cert.Dw.two _ _ _ (fun r k hk => blk m c ⟨t.val - 1, hs⟩ i j r k (by dsimp only; omega)) (fun r k hk => blk m c t i j r k (by omega))

theorem arr : (dats m 0 c).arrAt 2 cfg0.N = (fun y => prod (aX m c) (aY m c) (y 0) (y 1) : FVec Ideal S256x1024 .f32) := by
  refine (dats m 0 c).arrAt_eq_of_covers 2 _ (by decide +kernel) fun t hf y => ?_
  blk_simp
  rw [after0_2]
  idx_vars y
  rw [outs m c t ((flush0_2 t).mp hf)]
  refine congr (congrArg (prod (aX m c) (aY m c)) (Fin.ext ?_)) (Fin.ext ?_)
  · blk_simp [idx t]
  · blk_simp [idx t]

/-- The reference's product of the same arguments. -/
def ref (X : FVec Ideal S8192x256 .f32) (Y : FVec Ideal S8192x1024 .bf16) : FVec Ideal S256x1024 .f32 :=
  transpose S256x1024 [1, 0] (Host.dotGeneral Cert.Reference6Ideal.dot_S8192x1024_S8192x256_S1024x256_0_0_1_1_n_n none (extf .f32 Y Cert.Reference6Ideal.Gen.bitsLt_bf16_f32) X) Cert.Reference6Ideal.Gen.transposes_S1024x256_S256x1024_1_0

theorem ref_at (X : FVec Ideal S8192x256 .f32) (Y : FVec Ideal S8192x1024 .bf16) (i : Fin 256) (j : Fin 1024) :
    ref X Y (ix2 i j) = ∑ k : Fin 8192, Y (ix2 k j) * X (ix2 k i) := by
  pointwise [ref]

theorem res : (dats m 0 c).arrAt 2 cfg0.N = ref (aX m c) (aY m c) := by
  rw [arr]
  funext y
  idx_vars y
  rw [ref_at]
  exact Finset.sum_congr rfl fun k _ => mul_comm _ _

end Cert.Kernel6Ideal.Dw

end
-- ==== Proof.FfnPay.lean ====
module

public import proofs.«01_k».proof.Proof.Gen.KernelIdeal.Value
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Ffn

open Cert.KernelIdeal Cert.KernelIdeal.Gen Idealize.ShloMosaic Idealize.ShloMosaic.TcCoe Idealize.SL.Sem

/-- One tile's gradient at the gate's convolution: the product of the output gradient with the block of the down
projection, times the saved derivative. -/
def dg (x0 : FVec Ideal S1024x1024 .bf16) (x1 : FVec Ideal S768x1024 .bf16) (x4 : FVec Ideal S1x1024x768 .bf16)
    (r : Fin 1024) (j : Fin 768) : EReal :=
  (∑ k : Fin 1024, x0 (ix2 r k) * x1 (ix2 j k)) * x4 (ix3 0 r j)

/-- The tile's gradient `s` rows further down, the rows past the end taken from the eight rows `a` of the tile after. -/
def sh (s : ℕ) (hs : s ≤ 2) (x0 : FVec Ideal S1024x1024 .bf16) (x1 : FVec Ideal S768x1024 .bf16) (x4 : FVec Ideal S1x1024x768 .bf16)
    (a : FVec Ideal S8x768 .f32) (r : Fin 1024) (j : Fin 768) : EReal :=
  if h : (r : ℕ) + s < 1024 then dg x0 x1 x4 ⟨r + s, h⟩ j else a (ix2 ⟨r + s - 1024, by omega⟩ j)

variable (x0 : FVec Ideal S1024x1024 .bf16) (x1 : FVec Ideal S768x1024 .bf16) (x4 : FVec Ideal S1x1024x768 .bf16)
    (a : FVec Ideal S8x768 .f32)

theorem pay8_at (r : Fin 1024) (j : Fin 768) : k0_pay8 (F := Ideal) x0 x1 x4 (ix2 r j) = dg x0 x1 x4 r j := by
  pointwise [k0_pay8, k0_pay7, dg]

theorem pay9_at (r : Fin 1024) (j : Fin 768) : k0_pay9 (F := Ideal) x0 x1 x4 a (ix2 r j) = sh 1 (by omega) x0 x1 x4 a r j := by
  pointwise [k0_pay9, sh]
  have e : ∀ k : ℕ, k < 8 → (IntOp.cmpi .sge (BitVec.ofNat 32 k) 7#32 = (1 : BitVec 1) ↔ 7 ≤ k) := fun k hk => by word_cmp
  by_cases h1 : (r : ℕ) < 1016
  · rw [dif_pos h1, dif_pos (by omega), pay8_at]
    congr 1; ext; simp only; omega
  · rw [dif_neg h1]
    unfold Scalar.select
    by_cases h2 : (r : ℕ) + 1 < 1024
    · rw [if_neg (fun h => by have := (e _ (by omega)).1 h; omega), dif_pos h2, pay8_at]
      congr 1; ext; simp only; omega
    · rw [if_pos ((e _ (by omega)).2 (by omega)), dif_neg h2]
      congr 2; ext; simp only; omega

theorem pay10_at (r : Fin 1024) (j : Fin 768) : k0_pay10 (F := Ideal) x0 x1 x4 a (ix2 r j) = sh 2 (by omega) x0 x1 x4 a r j := by
  pointwise [k0_pay10, sh]
  have e : ∀ k : ℕ, k < 8 → (IntOp.cmpi .sge (BitVec.ofNat 32 k) 6#32 = (1 : BitVec 1) ↔ 6 ≤ k) := fun k hk => by word_cmp
  by_cases h1 : (r : ℕ) < 1016
  · rw [dif_pos h1, dif_pos (by omega), pay8_at]
    congr 1; ext; simp only; omega
  · rw [dif_neg h1]
    unfold Scalar.select
    by_cases h2 : (r : ℕ) + 2 < 1024
    · rw [if_neg (fun h => by have := (e _ (by omega)).1 h; omega), dif_pos h2, pay8_at]
      congr 1; ext; simp only; omega
    · rw [if_pos ((e _ (by omega)).2 (by omega)), dif_neg h2]
      congr 2; ext; simp only; omega

theorem pay12_at (r : Fin 8) (j : Fin 768) : k0_pay12 (F := Ideal) (k0_pay11 x0 x1 x4) (ix2 r j)
    = dg x0 x1 x4 ⟨r, by omega⟩ j := by
  pointwise [k0_pay12, k0_pay11]
  exact pay8_at x0 x1 x4 ⟨r, by omega⟩ j

theorem pay13_at (v13 v23 v32 : FVec Ideal S1024x768 .f32) (w2 w1 w0 : FVec Ideal S1x1x768 .f32) (r : Fin 1024) (j : Fin 768) :
    k0_pay13 (F := Ideal) v13 v23 v32 w2 w1 w0 (ix2 r j)
      = w2 (ix3 0 0 j) * v13 (ix2 r j) + w1 (ix3 0 0 j) * v23 (ix2 r j) + w0 (ix3 0 0 j) * v32 (ix2 r j) := by
  pointwise [k0_pay13]

theorem pay14_at (x3 : FVec Ideal S1x1024x768 .bf16) (r : Fin 1024) (j : Fin 768) :
    k0_pay14 (F := Ideal) (k0_pay7 x0 x1) x3 (ix2 r j) = (∑ k : Fin 1024, x0 (ix2 r k) * x1 (ix2 j k)) * x3 (ix3 0 r j) := by
  pointwise [k0_pay14, k0_pay7]

theorem pay4_at (y : S8x768.Idx) : k0_pay4 (F := Ideal) y = (0 : EReal) := by
  pointwise [k0_pay4]

theorem pay5_at (y : S1x8x768.Idx) : k0_pay5 (F := Ideal) y = (0 : EReal) := by
  pointwise [k0_pay5]

variable (x2 : FVec Ideal S1x1024x768 .bf16) (v : FVec Ideal S1024x768 .f32) (acc : FVec Ideal S1x1x768 .f32)

theorem pay15_at (u0 u1 : Fin 1) (j : Fin 768) : k0_pay15 (F := Ideal) (k0_pay6 x2) v acc (ix3 u0 u1 j)
    = acc (ix3 0 0 j) + ∑ r : Fin 1024, v (ix2 r j) * x2 (ix3 0 r j) := by
  pointwise [k0_pay15, k0_pay6]

theorem pay1_at (u0 u1 : Fin 1) (j : Fin 768) : k0_pay1 (F := Ideal) (k0_pay6 x2) v acc (ix3 u0 u1 j)
    = acc (ix3 0 0 j) + ∑ r : Fin 1024, v (ix2 r j) * x2 (ix3 0 r j) := pay15_at x2 v acc u0 u1 j

theorem pay2_at (u0 u1 : Fin 1) (j : Fin 768) : k0_pay2 (F := Ideal) (k0_pay6 x2) v acc (ix3 u0 u1 j)
    = acc (ix3 0 0 j) + ∑ r : Fin 1024, v (ix2 r j) * x2 (ix3 0 r j) := pay15_at x2 v acc u0 u1 j

theorem pay3_at (u0 u1 : Fin 1) (j : Fin 768) : k0_pay3 (F := Ideal) v acc (ix3 u0 u1 j)
    = acc (ix3 0 0 j) + ∑ r : Fin 1024, v (ix2 r j) := by
  pointwise [k0_pay3]

end Cert.KernelIdeal.Ffn

end
-- ==== Proof.FfnOut.lean ====
module

public import proofs.«01_k».proof.Proof.FfnPay
public import Idealize.ShloMosaic.Lib.WritesUnit
public import Idealize.ShloMosaic.Lib.Pipeline.ReadBack

@[expose] public section

set_option maxRecDepth 16384

noncomputable section

namespace Cert.KernelIdeal.Ffn

open Cert.KernelIdeal Cert.KernelIdeal.Gen Idealize.ShloMosaic Idealize.ShloMosaic.TcCoe Idealize.SL.Sem

/-- The newest store at a unit-stride rectangle wins under it; elsewhere the earlier ones stay. -/
theorem canon_step {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e)) (y : s.Idx) :
    View.canon ((⟨Rect.unit off size inb, w⟩ : View.Piece Val s e) :: L) y
      = if h : ∀ a, off a ≤ (y a).val ∧ (y a).val < off a + size a then
          w (Rect.unitLocal (s := s) (off := off) (size := size) y h) else View.canon L y := by
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * (Rect.unitLocal (s := s) (off := off) (size := size) y h a).val = (y a).val
        have := h a
        rw [Rect.unitLocal_val]
        omega)
    conv_lhs => rw [← hy]
    exact View.canon_cons_emb _ w L _
  · rw [dif_neg h]
    exact View.canon_cons_of_not_mem _ L (by rw [Rect.mem_set_unit]; exact h)

section Rows

variable {Val : EltTy → Type} [∀ e, Nonempty (Val e)] {e : EltTy}

theorem row_iff (κ : ℕ) (u : Fin 1) (k : Fin 8) (j : Fin 768) :
    (∀ a : Fin 3, (![0, κ, 0] : Fin 3 → ℕ) a ≤ ((ix3 u k j : S1x8x768.Idx) a).val
      ∧ ((ix3 u k j : S1x8x768.Idx) a).val < (![0, κ, 0] : Fin 3 → ℕ) a + (![1, 1, 768] : Fin 3 → ℕ) a) ↔ k.val = κ := by
  constructor
  · intro h
    have h1 := h 1
    simp at h1
    omega
  · rintro rfl a
    fin_cases a
    · simp
    · simp
    · simp

theorem row_local (κ : ℕ) (u : Fin 1) (k : Fin 8) (j : Fin 768) (h : ∀ a : Fin 3, (![0, κ, 0] : Fin 3 → ℕ) a ≤ ((ix3 u k j : S1x8x768.Idx) a).val ∧ ((ix3 u k j : S1x8x768.Idx) a).val < (![0, κ, 0] : Fin 3 → ℕ) a + (![1, 1, 768] : Fin 3 → ℕ) a) :
    Rect.unitLocal (s := S1x8x768) (off := (![0, κ, 0] : Fin 3 → ℕ)) (size := (![1, 1, 768] : Fin 3 → ℕ)) (ix3 u k j : S1x8x768.Idx) h = (ix3 0 0 j : S1x1x768.Idx) := by
  funext a
  apply Fin.ext
  rw [Rect.unitLocal_val]
  have hk := (row_iff κ u k j).1 h
  fin_cases a
  · simp
  · simp [hk]
  · simp

theorem canon_row (κ : ℕ) (inb : ∀ a, (![0, κ, 0] : Fin 3 → ℕ) a + (![1, 1, 768] : Fin 3 → ℕ) a ≤ S1x8x768.size a)
    (w : S1x1x768.Idx → Val e) (L : List (View.Piece Val S1x8x768 e)) (u : Fin 1) (k : Fin 8) (j : Fin 768) :
    View.canon ((⟨Rect.unit (![0, κ, 0] : Fin 3 → ℕ) (![1, 1, 768] : Fin 3 → ℕ) inb, w⟩ : View.Piece Val S1x8x768 e) :: L) (ix3 u k j)
      = if k.val = κ then w (ix3 0 0 j) else View.canon L (ix3 u k j) := by
  rw [canon_step]
  by_cases h : k.val = κ
  · rw [if_pos h, dif_pos ((row_iff κ u k j).2 h)]
    exact congrArg w (row_local κ u k j _)
  · rw [if_neg h, dif_neg (fun h' => h ((row_iff κ u k j).1 h'))]

theorem read_row {sg : RefSig} {κd : Kind} {sp : Space} (v : View sg κd sp S1x8x768 e) (f : v.ty.Contents Val)
    (κ : ℕ) (inb : ∀ a, (![0, κ, 0] : Fin 3 → ℕ) a + (![1, 1, 768] : Fin 3 → ℕ) a ≤ S1x8x768.size a)
    (w : S1x1x768.Idx → Val e) (L : List (View.Piece Val S1x8x768 e)) (u : Fin 1) (k : Fin 8) (j : Fin 768) :
    v.read Val (v.writes Val f ((⟨Rect.unit (![0, κ, 0] : Fin 3 → ℕ) (![1, 1, 768] : Fin 3 → ℕ) inb, w⟩ : View.Piece Val S1x8x768 e) :: L)) (ix3 u k j)
      = if k.val = κ then w (ix3 0 0 j) else v.read Val (v.writes Val f L) (ix3 u k j) := by
  rw [View.read_writes_cons_unit v f inb w L _ rfl]
  by_cases h : k.val = κ
  · rw [if_pos h, dif_pos ((row_iff κ u k j).2 h)]
    exact congrArg w (row_local κ u k j _)
  · rw [if_neg h, dif_neg (fun h' => h ((row_iff κ u k j).1 h'))]

end Rows

variable (m : (ℓ : Loc nD τ sig) → Buf (Elt Ideal) ℓ)

theorem scrA (c : Dev nD) (t : Fin cfg0.N) (h : t.val % 8 = 0) (r : Fin 8) (j : Fin 768) :
    (outsAt0 m c t.val t.isLt).2.2 (ix2 r j) = dg (iblk m c 0 t) (iblk m c 1 t) (iblk m c 4 t) ⟨r, by omega⟩ j := by
  rw [outsAt0_A m c t h]; frame_out
  exact pay12_at _ _ _ r j

theorem scrB (c : Dev nD) (t : Fin cfg0.N) (h : ¬ t.val % 8 = 0) (r : Fin 8) (j : Fin 768) :
    (outsAt0 m c t.val t.isLt).2.2 (ix2 r j) = dg (iblk m c 0 t) (iblk m c 1 t) (iblk m c 4 t) ⟨r, by omega⟩ j := by
  rw [outsAt0_B m c t h]; frame_out
  exact pay12_at _ _ _ r j

/-- What every point leaves in the carried rows: the first eight rows of its tile's gradient. -/
theorem scr (c : Dev nD) (t : Fin cfg0.N) (r : Fin 8) (j : Fin 768) :
    (outsAt0 m c t.val t.isLt).2.2 (ix2 r j) = dg (iblk m c 0 t) (iblk m c 1 t) (iblk m c 4 t) ⟨r, by omega⟩ j := by
  by_cases h : t.val % 8 = 0
  · exact scrA m c t h r j
  · exact scrB m c t h r j

/-- The carried rows that point `t` begins with. -/
def car (c : Dev nD) (t : Fin cfg0.N) : FVec Ideal S8x768 .f32 := fun y =>
  if h : t.val % 8 = 0 then (0 : EReal)
  else dg (iblk m c 0 ⟨t.val - 1, by omega⟩) (iblk m c 1 ⟨t.val - 1, by omega⟩) (iblk m c 4 ⟨t.val - 1, by omega⟩) ⟨y 0, by have := (y 0).isLt; simp at this; omega⟩ (y 1)

theorem carA (c : Dev nD) (t : Fin cfg0.N) (h : t.val % 8 = 0) : k0_pay4 (F := Ideal) = car m c t := by
  funext y; rw [pay4_at, car, dif_pos h]

theorem carB (c : Dev nD) (t : Fin cfg0.N) (h : ¬ t.val % 8 = 0) : (outsAt0 m c (t.val - 1) (by omega)).2.2 = car m c t := by
  funext y; idx_vars y
  rw [car, dif_neg h]
  exact scr m c ⟨t.val - 1, by omega⟩ _ _

section Block

variable (x0 : FVec Ideal S1024x1024 .bf16) (x1 : FVec Ideal S768x1024 .bf16) (x2 x3 x4 : FVec Ideal S1x1024x768 .bf16)
  (x5 : FVec Ideal S1x3x768 .f32) (a : FVec Ideal S8x768 .f32)

/-- The block that a point writes of the two gradients: the gate's half, then the value's. -/
def blk6 (r : Fin 1024) (q : Fin 1536) : EReal :=
  if h : (q : ℕ) < 768 then
    x5 (ix3 0 2 ⟨q, h⟩) * dg x0 x1 x4 r ⟨q, h⟩ + x5 (ix3 0 1 ⟨q, h⟩) * sh 1 (by omega) x0 x1 x4 a r ⟨q, h⟩
      + x5 (ix3 0 0 ⟨q, h⟩) * sh 2 (by omega) x0 x1 x4 a r ⟨q, h⟩
  else (∑ k : Fin 1024, x0 (ix2 r k) * x1 (ix2 ⟨q - 768, by omega⟩ k)) * x3 (ix3 0 r ⟨q - 768, by omega⟩)

/-- What a point adds to the gradients of the convolution's three weights and of its bias. -/
def inc7 (k : Fin 8) (j : Fin 768) : EReal :=
  if k.val = 3 then ∑ r : Fin 1024, dg x0 x1 x4 r j
  else if k.val = 2 then ∑ r : Fin 1024, dg x0 x1 x4 r j * x2 (ix3 0 r j)
  else if k.val = 1 then ∑ r : Fin 1024, sh 1 (by omega) x0 x1 x4 a r j * x2 (ix3 0 r j)
  else if k.val = 0 then ∑ r : Fin 1024, sh 2 (by omega) x0 x1 x4 a r j * x2 (ix3 0 r j)
  else 0

theorem ld_tap (κ : ℕ) (hκ : κ < 3) (i : ∀ a, (![0, κ, 0] : Fin 3 → ℕ) a + (![1, 1, 768] : Fin 3 → ℕ) a ≤ S1x3x768.size a) (j : Fin 768) :
    View.ld (Val := Elt Ideal) (e' := .f32) x5 (Rect.unit (s := S1x3x768) (![0, κ, 0] : Fin 3 → ℕ) (![1, 1, 768] : Fin 3 → ℕ) i) (ix3 0 0 j : S1x1x768.Idx) = x5 (ix3 0 ⟨κ, hκ⟩ j) := by
  refine congrArg x5 (funext fun a => Fin.ext ?_)
  fin_cases a
  · rfl
  · show κ + 1 * 0 = κ
    omega
  · show 0 + 1 * j.val = j.val
    omega

theorem rows7 (X : FVec Ideal S1x8x768 .f32) (u : Fin 1) (k : Fin 8) (j : Fin 768) :
    (if k.val = 3 then k0_pay3 (F := Ideal) (k0_pay8 x0 x1 x4)
        (View.ld (Val := Elt Ideal) (e' := .f32) X (Rect.unit (s := S1x8x768) (![0, 3, 0] : Fin 3 → ℕ) (![1, 1, 768] : Fin 3 → ℕ) inb_S1x8x768_S1x1x768_0_3_0)) (ix3 0 0 j)
     else if k.val = 2 then k0_pay2 (F := Ideal) (k0_pay6 x2) (k0_pay8 x0 x1 x4)
        (View.ld (Val := Elt Ideal) (e' := .f32) X (Rect.unit (s := S1x8x768) (![0, 2, 0] : Fin 3 → ℕ) (![1, 1, 768] : Fin 3 → ℕ) inb_S1x8x768_S1x1x768_0_2_0)) (ix3 0 0 j)
     else if k.val = 1 then k0_pay1 (F := Ideal) (k0_pay6 x2) (k0_pay9 x0 x1 x4 a)
        (View.ld (Val := Elt Ideal) (e' := .f32) X (Rect.unit (s := S1x8x768) (![0, 1, 0] : Fin 3 → ℕ) (![1, 1, 768] : Fin 3 → ℕ) inb_S1x8x768_S1x1x768_0_1_0)) (ix3 0 0 j)
     else if k.val = 0 then k0_pay15 (F := Ideal) (k0_pay6 x2) (k0_pay10 x0 x1 x4 a)
        (View.ld (Val := Elt Ideal) (e' := .f32) X (Rect.unit (s := S1x8x768) (![0, 0, 0] : Fin 3 → ℕ) (![1, 1, 768] : Fin 3 → ℕ) inb_S1x8x768_S1x1x768_0_0_0)) (ix3 0 0 j)
     else X (ix3 u k j)) = X (ix3 0 k j) + inc7 x0 x1 x2 x4 a k j := by
  have ld (κ : ℕ) (i : ∀ a, (![0, κ, 0] : Fin 3 → ℕ) a + (![1, 1, 768] : Fin 3 → ℕ) a ≤ S1x8x768.size a) (hk : k.val = κ) : View.ld (Val := Elt Ideal) (e' := .f32) X (Rect.unit (s := S1x8x768) (![0, κ, 0] : Fin 3 → ℕ) (![1, 1, 768] : Fin 3 → ℕ) i) (ix3 0 0 j : S1x1x768.Idx) = X (ix3 0 k j) := by
    refine congrArg X (funext fun a => Fin.ext ?_)
    fin_cases a
    · rfl
    · show κ + 1 * 0 = k.val
      omega
    · show 0 + 1 * j.val = j.val
      omega
  unfold inc7
  split_ifs with h3 h2 h1 h0
  · rw [pay3_at, ld 3 _ h3]; simp only [pay8_at]
  · rw [pay2_at, ld 2 _ h2]; simp only [pay8_at]
  · rw [pay1_at, ld 1 _ h1]; simp only [pay9_at]
  · rw [pay15_at, ld 0 _ h0]; simp only [pay10_at]
  · rw [add_zero, Subsingleton.elim u 0]

end Block

theorem w6A (c : Dev nD) (t : Fin cfg0.N) (h : t.val % 8 = 0) (r : Fin 1024) (q : Fin 1536) :
    (outsAt0 m c t.val t.isLt).1 (ix2 r q) = blk6 (iblk m c 0 t) (iblk m c 1 t) (iblk m c 3 t) (iblk m c 4 t) (iblk m c 5 t) (car m c t) r q := by
  rw [outsAt0_A m c t h]; frame_out
  rw [carA m c t h]
  canon_tiles x e
  · idx_vars x
    obtain rfl : r = x0 := Fin.ext e0
    have hx : (⟨q - 768, by omega⟩ : Fin 768) = x1 := Fin.ext (by simp only; omega)
    rw [pay14_at, blk6, dif_neg (by omega), hx]
  · idx_vars x
    obtain rfl : r = x0 := Fin.ext e0
    have hq : (q : ℕ) < 768 := by omega
    have hx : (⟨q, hq⟩ : Fin 768) = x1 := Fin.ext (by simp only; omega)
    rw [pay13_at, blk6, dif_pos hq, hx, pay8_at, pay9_at, pay10_at]
    rw [ld_tap _ 2 (by omega), ld_tap _ 1 (by omega), ld_tap _ 0 (by omega)]
    rfl

theorem w7A (c : Dev nD) (t : Fin cfg0.N) (h : t.val % 8 = 0) (u : Fin 1) (k : Fin 8) (j : Fin 768) :
    (outsAt0 m c t.val t.isLt).2.1 (ix3 u k j) = inc7 (iblk m c 0 t) (iblk m c 1 t) (iblk m c 2 t) (iblk m c 4 t) (car m c t) k j := by
  rw [outsAt0_A m c t h]; frame_out
  rw [carA m c t h]
  simp (disch := decide) only [View.readCov_skip, View.readCov_fill]
  rw [canon_row, canon_row, canon_row, canon_row, View.canon_unit_zero (by decide)]
  rw [rows7, pay5_at, zero_add]

theorem w7B (c : Dev nD) (t : Fin cfg0.N) (h : ¬ t.val % 8 = 0) (u : Fin 1) (k : Fin 8) (j : Fin 768) :
    (outsAt0 m c t.val t.isLt).2.1 (ix3 u k j) = (outsAt0 m c (t.val - 1) (by omega)).2.1 (ix3 u k j)
      + inc7 (iblk m c 0 t) (iblk m c 1 t) (iblk m c 2 t) (iblk m c 4 t) (car m c t) k j := by
  rw [outsAt0_B m c t h]; frame_out
  rw [read_row, read_row, read_row, read_row, View.writes_nil]
  simp only [Memref.IsWhole.read_unread, read_unread_whole]
  rw [carB m c t h, rows7, Subsingleton.elim u 0]

theorem w6B (c : Dev nD) (t : Fin cfg0.N) (h : ¬ t.val % 8 = 0) (r : Fin 1024) (q : Fin 1536) :
    (outsAt0 m c t.val t.isLt).1 (ix2 r q) = blk6 (iblk m c 0 t) (iblk m c 1 t) (iblk m c 3 t) (iblk m c 4 t) (iblk m c 5 t) (car m c t) r q := by
  rw [outsAt0_B m c t h]; frame_out
  simp only [read_unread_whole]
  rw [carB m c t h]
  canon_tiles x e
  · idx_vars x
    obtain rfl : r = x0 := Fin.ext e0
    have hx : (⟨q - 768, by omega⟩ : Fin 768) = x1 := Fin.ext (by simp only; omega)
    rw [pay14_at, blk6, dif_neg (by omega), hx]
  · idx_vars x
    obtain rfl : r = x0 := Fin.ext e0
    have hq : (q : ℕ) < 768 := by omega
    have hx : (⟨q, hq⟩ : Fin 768) = x1 := Fin.ext (by simp only; omega)
    rw [pay13_at, blk6, dif_pos hq, hx, pay8_at, pay9_at, pay10_at]
    rw [ld_tap _ 2 (by omega), ld_tap _ 1 (by omega), ld_tap _ 0 (by omega)]
    rfl

end Cert.KernelIdeal.Ffn

end
-- ==== Proof.DwOut.lean ====
module

public import proofs.«01_k».proof.Proof.FfnOut
public import proofs.«01_k».proof.Proof.Gen.Kernel7Ideal.Value
public import proofs.«01_k».proof.Proof.Gen.Reference7Ideal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Kernel7Ideal.Dw

open Cert.Kernel7Ideal Cert.Kernel7Ideal.Gen Idealize.ShloMosaic Idealize.ShloMosaic.TcCoe Idealize.SL.Sem

/-- Two stores of half the rows each, one above the other: every row comes from its own store. -/
theorem canon_halves {Val : EltTy → Type} [∀ e, Nonempty (Val e)] {e : EltTy}
    (w1 w0 : S512x1024.Idx → Val e) (L : List (View.Piece Val S1024x1024 e)) (i j : Fin 1024) :
    View.canon ((⟨Rect.unit ![512, 0] ![512, 1024] inb_S1024x1024_S512x1024_512_0, w1⟩ : View.Piece Val S1024x1024 e)
        :: ⟨Rect.unit ![0, 0] ![512, 1024] inb_S1024x1024_S512x1024_0_0, w0⟩ :: L) (ix2 i j)
      = if h : i.val < 512 then w0 (ix2 ⟨i, h⟩ j) else w1 (ix2 ⟨i - 512, by omega⟩ j) := by
  rw [Cert.KernelIdeal.Ffn.canon_step, Cert.KernelIdeal.Ffn.canon_step]
  by_cases h : i.val < 512
  · rw [dif_neg (fun h' => by have := (h' 0).1; simp at this; omega), dif_pos (fun a => by fin_cases a <;> simp <;> omega), dif_pos h]
    refine congrArg w0 (funext fun a => Fin.ext ?_)
    rw [Rect.unitLocal_val]
    fin_cases a <;> simp
  · rw [dif_pos (fun a => by fin_cases a <;> simp <;> omega), dif_neg h]
    refine congrArg w1 (funext fun a => Fin.ext ?_)
    rw [Rect.unitLocal_val]
    fin_cases a <;> simp

/-- What one point adds: the upper half of the rows from the first argument, the lower half from the second. -/
def inc (x0 x1 : FVec Ideal S2048x512 .bf16) (x2 : FVec Ideal S2048x1024 .f32) (i j : Fin 1024) : EReal :=
  if h : i.val < 512 then ∑ r : Fin 2048, x0 (ix2 r ⟨i, h⟩) * x2 (ix2 r j) else ∑ r : Fin 2048, x1 (ix2 r ⟨i - 512, by omega⟩) * x2 (ix2 r j)

theorem pay3_at (x2 : FVec Ideal S2048x1024 .f32) (a : FVec Ideal S512x1024 .f32) (x : FVec Ideal S2048x512 .bf16) (i : Fin 512) (j : Fin 1024) :
    k0_pay3 (F := Ideal) x2 a x (ix2 i j) = a (ix2 i j) + ∑ r : Fin 2048, x (ix2 r i) * x2 (ix2 r j) := by
  pointwise [k0_pay3, k0_pay2]

theorem pay4_at (x2 : FVec Ideal S2048x1024 .f32) (a : FVec Ideal S512x1024 .f32) (x : FVec Ideal S2048x512 .bf16) (i : Fin 512) (j : Fin 1024) :
    k0_pay4 (F := Ideal) x2 a x (ix2 i j) = a (ix2 i j) + ∑ r : Fin 2048, x (ix2 r i) * x2 (ix2 r j) := by
  pointwise [k0_pay4, k0_pay2]

theorem zero_at (i j : Fin 1024) : k0_pay1 (F := Ideal) (ix2 i j) = 0 := by
  pointwise [k0_pay1]

/-- Both stores together add the point's increment to what was there. -/
theorem step (A : FVec Ideal S1024x1024 .f32) (a1 a0 : FVec Ideal S512x1024 .f32) (x0 x1 : FVec Ideal S2048x512 .bf16) (x2 : FVec Ideal S2048x1024 .f32) (L : List (View.Piece (Elt Ideal) S1024x1024 .f32))
    (h1 : ∀ (i : Fin 512) (j : Fin 1024), a1 (ix2 i j) = A (ix2 ⟨512 + i, by omega⟩ j)) (h0 : ∀ (i : Fin 512) (j : Fin 1024), a0 (ix2 i j) = A (ix2 ⟨i, by omega⟩ j)) (i j : Fin 1024) :
    View.canon ((⟨Rect.unit ![512, 0] ![512, 1024] inb_S1024x1024_S512x1024_512_0, k0_pay4 (F := Ideal) x2 a1 x1⟩ : View.Piece (Elt Ideal) S1024x1024 .f32)
        :: ⟨Rect.unit ![0, 0] ![512, 1024] inb_S1024x1024_S512x1024_0_0, k0_pay3 (F := Ideal) x2 a0 x0⟩ :: L) (ix2 i j)
      = A (ix2 i j) + inc x0 x1 x2 i j := by
  rw [canon_halves, inc]
  split
  · next h => rw [pay3_at, h0]
  · next h =>
    rw [pay4_at, h1]
    exact congrFun (congrArg HAdd.hAdd (congrArg A (congrFun (congrArg ix2 (Fin.ext (by dsimp only; omega))) _))) _

theorem ld_hi (A : FVec Ideal S1024x1024 .f32) (i : Fin 512) (j : Fin 1024) :
    View.ld (Val := Elt Ideal) (e' := .f32) A (Rect.unit (s := S1024x1024) (![512, 0] : Fin 2 → ℕ) (![512, 1024] : Fin 2 → ℕ) inb_S1024x1024_S512x1024_512_0) (ix2 i j : S512x1024.Idx) = A (ix2 ⟨512 + i, by omega⟩ j) := by
  refine congrArg A (funext fun a => Fin.ext ?_)
  fin_cases a <;> simp [Rect.emb]

theorem ld_lo (A : FVec Ideal S1024x1024 .f32) (i : Fin 512) (j : Fin 1024) :
    View.ld (Val := Elt Ideal) (e' := .f32) A (Rect.unit (s := S1024x1024) (![0, 0] : Fin 2 → ℕ) (![512, 1024] : Fin 2 → ℕ) inb_S1024x1024_S512x1024_0_0) (ix2 i j : S512x1024.Idx) = A (ix2 ⟨i, by omega⟩ j) := by
  refine congrArg A (funext fun a => Fin.ext ?_)
  fin_cases a <;> simp [Rect.emb]

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem lt4 (t : Fin cfg0.N) : t.val < 4 := t.isLt.trans_eq N_0

variable (m : (ℓ : Loc nD τ sig) → Buf (Elt Ideal) ℓ) (c : Dev nD)

theorem outA (t : Fin cfg0.N) (h : t.val % 4 = 0) (i j : Fin 1024) :
    outsAt0 m c t.val t.isLt (ix2 i j) = inc (iblk m c 0 t) (iblk m c 1 t) (iblk m c 2 t) i j := by
  rw [outsAt0_A m c t h]
  frame_out
  simp (disch := decide) only [View.readCov_skip, View.readCov_fill]
  rw [step _ _ _ _ _ _ _ (ld_hi _) (ld_lo _), zero_at, zero_add]

theorem outB (t : Fin cfg0.N) (h : ¬ t.val % 4 = 0) (i j : Fin 1024) :
    outsAt0 m c t.val t.isLt (ix2 i j) = outsAt0 m c (t.val - 1) (by omega) (ix2 i j) + inc (iblk m c 0 t) (iblk m c 1 t) (iblk m c 2 t) i j := by
  rw [outsAt0_B m c t h]
  frame_out
  rw [step _ _ _ _ _ _ _ (ld_hi _) (ld_lo _)]

/-- The arguments, at their own shapes. -/
abbrev aA : FVec Ideal S8192x512 .bf16 := m ((c : Thread nD τ).loc main_arg0)
abbrev aR : FVec Ideal S8192x512 .bf16 := m ((c : Thread nD τ).loc main_arg1)
abbrev aZ : FVec Ideal S8192x1024 .f32 := m ((c : Thread nD τ).loc main_arg2)

/-- One row's product. -/
def term (A R : FVec Ideal S8192x512 .bf16) (Z : FVec Ideal S8192x1024 .f32) (i j : Fin 1024) (k : Fin 8192) : EReal :=
  (if h : i.val < 512 then A (ix2 k ⟨i, h⟩) else R (ix2 k ⟨i - 512, by omega⟩)) * Z (ix2 k j)

theorem blk0 (t : Fin cfg0.N) (r : Fin 2048) (i : Fin 512) : (iblk m c 0 t : FVec Ideal S2048x512 .bf16) (ix2 r i)
    = aA m c (ix2 ⟨t.val * 2048 + r, by have := lt4 t; omega⟩ i) := by
  blk_ext [iblk, idx t]
theorem blk1 (t : Fin cfg0.N) (r : Fin 2048) (i : Fin 512) : (iblk m c 1 t : FVec Ideal S2048x512 .bf16) (ix2 r i)
    = aR m c (ix2 ⟨t.val * 2048 + r, by have := lt4 t; omega⟩ i) := by
  blk_ext [iblk, idx t]
theorem blk2 (t : Fin cfg0.N) (r : Fin 2048) (j : Fin 1024) : (iblk m c 2 t : FVec Ideal S2048x1024 .f32) (ix2 r j)
    = aZ m c (ix2 ⟨t.val * 2048 + r, by have := lt4 t; omega⟩ j) := by
  blk_ext [iblk, idx t]

theorem inc_eq (t : Fin cfg0.N) (i j : Fin 1024) : inc (iblk m c 0 t) (iblk m c 1 t) (iblk m c 2 t) i j
    = ∑ r : Fin 2048, term (aA m c) (aR m c) (aZ m c) i j ⟨t.val * 2048 + r, by have := lt4 t; omega⟩ := by
  rw [inc]
  split
  · next h =>
    refine Finset.sum_congr rfl fun r _ => ?_
    rw [blk0, blk2, term, dif_pos h]
  · next h =>
    refine Finset.sum_congr rfl fun r _ => ?_
    rw [blk1, blk2, term, dif_neg h]

theorem sum_quarters (f : Fin 8192 → EReal) : ∑ s : Fin 4, ∑ r : Fin 2048, f ⟨s.val * 2048 + r, by omega⟩ = ∑ k, f k := by
  rw [← Fintype.sum_prod_type', ← Equiv.sum_comp (finProdFinEquiv (m := 4) (n := 2048)) f]
  refine Finset.sum_congr rfl fun x _ => congrArg f (Fin.ext ?_)
  show x.1.val * 2048 + x.2.val = x.2.val + 2048 * x.1.val
  omega

theorem outs (t : Fin cfg0.N) (hf : t.val % 4 = 4 - 1) (i j : Fin 1024) :
    outsAt0 m c t.val t.isLt (ix2 i j) = ∑ k, term (aA m c) (aR m c) (aZ m c) i j k := by
  have e := Pipeline.eq_sum_fin_of_reset_step_apply_of_flush (N := cfg0.N) (fun n h => fun x : Fin 1024 × Fin 1024 => (outsAt0 m c n h (ix2 x.1 x.2) : EReal)) 4 (fun _ => 0)
    (fun t x => inc (iblk m c 0 t) (iblk m c 1 t) (iblk m c 2 t) x.1 x.2)
    (fun t h x => (outA m c t h x.1 x.2).trans (zero_add _).symm) (fun t h x => outB m c t h x.1 x.2) t hf (i, j)
  refine e.trans ?_
  rw [zero_add, ← sum_quarters]
  refine Finset.sum_congr rfl fun s _ => ?_
  rw [inc_eq]
  refine Finset.sum_congr rfl fun r _ => congrArg _ (Fin.ext ?_)
  have h4 := lt4 t
  show (4 * (t.val / 4) + s.val) * 2048 + r.val = s.val * 2048 + r.val
  omega

/-- The plain product. -/
def prod (A R : FVec Ideal S8192x512 .bf16) (Z : FVec Ideal S8192x1024 .f32) (i j : Fin 1024) : EReal := ∑ k, term A R Z i j k

theorem arr : (dats m 0 c).arrAt 3 cfg0.N = (fun y => prod (aA m c) (aR m c) (aZ m c) (y 0) (y 1) : FVec Ideal S1024x1024 .f32) := by
  refine (dats m 0 c).arrAt_eq_of_covers 3 _ (by decide +kernel) fun t hf y => ?_
  blk_simp
  rw [after0_3]
  idx_vars y
  rw [outs m c t ((flush0_3 t).mp hf)]
  show prod (aA m c) (aR m c) (aZ m c) y0 y1 = _
  refine congr (congrArg (prod (aA m c) (aR m c) (aZ m c)) (Fin.ext ?_)) (Fin.ext ?_)
  · blk_simp [idx t]
  · blk_simp [idx t]

/-- The reference's product of the same arguments. -/
def ref (A R : FVec Ideal S8192x512 .bf16) (Z : FVec Ideal S8192x1024 .f32) : FVec Ideal S1024x1024 .f32 :=
  transpose S1024x1024 [1, 0] (Host.dotGeneral Cert.Reference7Ideal.dot_S8192x1024_S8192x1024_S1024x1024_0_0_1_1_n_n none Z
    (extf .f32 (concatenate Cert.Reference7Ideal.S8192x1024 1 [⟨Cert.Reference7Ideal.S8192x512, A⟩, ⟨Cert.Reference7Ideal.S8192x512, R⟩] Cert.Reference7Ideal.Gen.concatenates_S8192x512_S8192x512_S8192x1024_d1) Cert.Reference7Ideal.Gen.bitsLt_bf16_f32))
    Cert.Reference7Ideal.Gen.transposes_S1024x1024_S1024x1024_1_0

theorem ref_at (A R : FVec Ideal S8192x512 .bf16) (Z : FVec Ideal S8192x1024 .f32) (i j : Fin 1024) :
    ref A R Z (ix2 i j) = ∑ k : Fin 8192, Z (ix2 k j) * (if h : i.val < 512 then A (ix2 k ⟨i, h⟩) else R (ix2 k ⟨i - 512, by omega⟩)) := by
  pointwise [ref]

theorem res : (dats m 0 c).arrAt 3 cfg0.N = ref (aA m c) (aR m c) (aZ m c) := by
  rw [arr]
  funext y
  idx_vars y
  rw [ref_at]
  exact Finset.sum_congr rfl fun k _ => mul_comm _ _

end Cert.Kernel7Ideal.Dw

end
-- ==== Proof.DwIn.lean ====
module

public import proofs.«01_k».proof.Proof.DwSum
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Dw

open Cert.Kernel8Ideal Cert.Kernel8Ideal.Gen Idealize.ShloMosaic Idealize.ShloMosaic.TcCoe Idealize.SL.Sem

theorem pay_at (a : FVec Ideal S1x1024x448 .f32) (x : FVec Ideal S4096x1024 .bf16) (y : FVec Ideal S1x4096x448 .bf16) (u : Fin 1) (i : Fin 1024) (j : Fin 448) :
    k0_pay2 (F := Ideal) a x y (ix3 u i j) = a (ix3 u i j) + ∑ r : Fin 4096, x (ix2 r i) * y (ix3 0 r j) := by
  obtain rfl : u = 0 := Subsingleton.elim u 0
  pointwise [k0_pay2]

theorem zero_at (u : Fin 1) (i : Fin 1024) (j : Fin 448) : k0_pay1 (F := Ideal) (ix3 u i j) = 0 := by
  pointwise [k0_pay1]

theorem idx : ∀ t : Fin cfg0.N, win0_0.index t = ![t.val % 2, 0] ∧ win0_1.index t = ![t.val / 2, t.val % 2, 0] ∧ win0_2.index t = ![t.val / 2, 0, 0] :=
  (by decide +kernel : ∀ t : Fin grid0.N, _)

theorem lt8 (t : Fin cfg0.N) : t.val < 8 := t.isLt.trans_eq N_0

variable (m : (ℓ : Loc nD τ sig) → Buf (Elt Ideal) ℓ) (c : Dev nD)

/-- The arguments, at their own shapes. -/
abbrev aX : FVec Ideal S8192x1024 .bf16 := m ((c : Thread nD τ).loc main_arg0)
abbrev aY : FVec Ideal S4x8192x448 .bf16 := m ((c : Thread nD τ).loc main_arg1)

/-- The plain product, the columns in four parts. -/
def prod (q : Fin 4) (i : Fin 1024) (j : Fin 448) : EReal := ∑ r : Fin 8192, aX m c (ix2 r i) * aY m c (ix3 q r j)

theorem blk0 (t : Fin cfg0.N) (r : Fin 4096) (i : Fin 1024) : (iblk m c 0 t : FVec Ideal S4096x1024 .bf16) (ix2 r i)
    = aX m c (ix2 ⟨t.val % 2 * 4096 + r, by omega⟩ i) := by
  blk_ext [iblk, idx t]
theorem blk1 (t : Fin cfg0.N) (r : Fin 4096) (j : Fin 448) : (iblk m c 1 t : FVec Ideal S1x4096x448 .bf16) (ix3 0 r j)
    = aY m c (ix3 ⟨t.val / 2, by have := lt8 t; omega⟩ ⟨t.val % 2 * 4096 + r, by omega⟩ j) := by
  blk_ext [iblk, idx t]

theorem outs (t : Fin cfg0.N) (hf : t.val % 2 = 1) (u : Fin 1) (i : Fin 1024) (j : Fin 448) :
    outsAt0 m c t.val t.isLt (ix3 u i j) = prod m c ⟨t.val / 2, by have := lt8 t; omega⟩ i j := by
  have h8 := lt8 t
  have hs : t.val - 1 < cfg0.N := Nat.lt_of_le_of_lt (Nat.sub_le _ _) t.isLt
  rw [outsAt0_B m c t (by omega), Value.out_B_2_eq, pay_at, outsAt0_A m c ⟨t.val - 1, hs⟩ (by show (t.val - 1) % 2 = 0; omega), Value.out_A_2_eq, pay_at, zero_at, zero_add,
    prod, ← Cert.Dw.sum_halves]
  refine congr (congrArg HAdd.hAdd (Finset.sum_congr rfl fun r _ => ?_)) (Finset.sum_congr rfl fun r _ => ?_)
  · rw [blk0, blk1]
    refine congr (congrArg HMul.hMul (congrArg (aX m c) (congrFun (congrArg ix2 (Fin.ext ?_)) _))) (congrArg (aY m c) (congrFun (congr (congrArg ix3 (Fin.ext ?_)) (Fin.ext ?_)) _)) <;>
      dsimp only <;> omega
  · rw [blk0, blk1]
    refine congr (congrArg HMul.hMul (congrArg (aX m c) (congrFun (congrArg ix2 (Fin.ext ?_)) _))) (congrArg (aY m c) (congrFun (congr (congrArg ix3 rfl) (Fin.ext ?_)) _)) <;>
      dsimp only <;> omega

theorem arr : (dats m 0 c).arrAt 2 cfg0.N = (fun y => prod m c (y 0) (y 1) (y 2) : FVec Ideal S4x1024x448 .f32) := by
  refine (dats m 0 c).arrAt_eq_of_covers 2 _ (by decide +kernel) fun t hf y => ?_
  blk_simp
  rw [after0_2]
  idx_vars y
  rw [outs m c t ((flush0_2 t).mp hf)]
  refine congr (congr (congrArg (prod m c) (Fin.ext ?_)) (Fin.ext ?_)) (Fin.ext ?_)
  · blk_simp [idx t]
  · blk_simp [idx t]
  · blk_simp [idx t]

/-- The reference's product of the same arguments. -/
def ref (X : FVec Ideal S8192x1024 .bf16) (Y : FVec Ideal S4x8192x448 .bf16) : FVec Ideal S4x1024x448 .f32 :=
  transpose S4x1024x448 [1, 0, 2] (shapeCast Cert.Reference8Ideal.S1024x4x448 (transpose Cert.Reference8Ideal.S1024x1792 [1, 0]
    (Host.dotGeneral Cert.Reference8Ideal.dot_S8192x1792_S8192x1024_S1792x1024_0_0_1_1_n_n none
      (extf .f32 (shapeCast Cert.Reference8Ideal.S8192x1792 (transpose Cert.Reference8Ideal.S8192x4x448 [1, 0, 2] Y Cert.Reference8Ideal.Gen.transposes_S4x8192x448_S8192x4x448_1_0_2) Cert.Reference8Ideal.Gen.shapeCasts_S8192x4x448_S8192x1792) Cert.Reference8Ideal.Gen.bitsLt_bf16_f32)
      (extf .f32 X Cert.Reference8Ideal.Gen.bitsLt_bf16_f32)) Cert.Reference8Ideal.Gen.transposes_S1792x1024_S1024x1792_1_0)
    Cert.Reference8Ideal.Gen.shapeCasts_S1024x1792_S1024x4x448) Cert.Reference8Ideal.Gen.transposes_S1024x4x448_S4x1024x448_1_0_2

theorem ref_at (X : FVec Ideal S8192x1024 .bf16) (Y : FVec Ideal S4x8192x448 .bf16) (q : Fin 4) (i : Fin 1024) (j : Fin 448) :
    ref X Y (ix3 q i j) = ∑ r : Fin 8192, Y (ix3 q r j) * X (ix2 r i) := by
  pointwise [ref]

theorem res : (dats m 0 c).arrAt 2 cfg0.N = ref (aX m c) (aY m c) := by
  rw [arr]
  funext y
  idx_vars y
  rw [ref_at]
  exact Finset.sum_congr rfl fun r _ => mul_comm _ _

end Cert.Kernel8Ideal.Dw

end
-- ==== Proof.DwClaims.lean ====
module

public import proofs.«01_k».proof.Defs
public import proofs.«01_k».proof.Proof.DwUp
public import proofs.«01_k».proof.Proof.DwDown
public import proofs.«01_k».proof.Proof.DwGate
public import proofs.«01_k».proof.Proof.DwProj
public import proofs.«01_k».proof.Proof.DwOut
public import proofs.«01_k».proof.Proof.DwIn
public import Idealize.ShloMosaic.Adequacy
public import Idealize.ShloMosaic.Init

@[expose] public section

noncomputable section

/-! The weight gradients' calls: the references' runs, and the equality of each kernel's array with its reference's. -/

namespace Cert.Proof

open Idealize.ShloMosaic Idealize.SL.Sem

theorem congrArg₃ {α β γ δ : Type} (f : α → β → γ → δ) {a a' : α} {b b' : β} {d d' : γ} (ha : a = a') (hb : b = b') (hd : d = d') : f a b d = f a' b' d' := by
  rw [ha, hb, hd]

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

theorem value3 : Cert.algebraic_Kernel3Ideal_Reference3Ideal := fun m g m' g' _ hA =>
  ⟨fun c => Cert.Kernel3Ideal.Dw.ref (Cert.Kernel3Ideal.Dw.aX m c) (Cert.Kernel3Ideal.Dw.aY m c),
    (θ_run _ _ _).mono (fun r h c => ⟨(h c).1.trans (Cert.Kernel3Ideal.Dw.res m c), (h c).2⟩) (Cert.Kernel3Ideal.Value.run_blocks m g),
    (θ_run _ _ _).mono (fun r h c => ⟨(h c).1.trans (congrArg₂ Cert.Kernel3Ideal.Dw.ref (hA c).1 (hA c).2), (h c).2⟩) (Cert.Reference3Ideal.Value.run m' g')⟩

theorem value4 : Cert.algebraic_Kernel4Ideal_Reference4Ideal := fun m g m' g' _ hA =>
  ⟨fun c => Cert.Kernel4Ideal.Dw.ref (Cert.Kernel4Ideal.Dw.aX m c) (Cert.Kernel4Ideal.Dw.aY m c),
    (θ_run _ _ _).mono (fun r h c => ⟨(h c).1.trans (Cert.Kernel4Ideal.Dw.res m c), (h c).2⟩) (Cert.Kernel4Ideal.Value.run_blocks m g),
    (θ_run _ _ _).mono (fun r h c => ⟨(h c).1.trans (congrArg₂ Cert.Kernel4Ideal.Dw.ref (hA c).1 (hA c).2), (h c).2⟩) (Cert.Reference4Ideal.Value.run m' g')⟩

theorem value5 : Cert.algebraic_Kernel5Ideal_Reference5Ideal := fun m g m' g' _ hA =>
  ⟨fun c => Cert.Kernel5Ideal.Dw.ref (Cert.Kernel5Ideal.Dw.aX m c) (Cert.Kernel5Ideal.Dw.aY m c),
    (θ_run _ _ _).mono (fun r h c => ⟨(h c).1.trans (Cert.Kernel5Ideal.Dw.res m c), (h c).2⟩) (Cert.Kernel5Ideal.Value.run_blocks m g),
    (θ_run _ _ _).mono (fun r h c => ⟨(h c).1.trans (congrArg₂ Cert.Kernel5Ideal.Dw.ref (hA c).1 (hA c).2), (h c).2⟩) (Cert.Reference5Ideal.Value.run m' g')⟩

theorem value6 : Cert.algebraic_Kernel6Ideal_Reference6Ideal := fun m g m' g' _ hA =>
  ⟨fun c => Cert.Kernel6Ideal.Dw.ref (Cert.Kernel6Ideal.Dw.aX m c) (Cert.Kernel6Ideal.Dw.aY m c),
    (θ_run _ _ _).mono (fun r h c => ⟨(h c).1.trans (Cert.Kernel6Ideal.Dw.res m c), (h c).2⟩) (Cert.Kernel6Ideal.Value.run_blocks m g),
    (θ_run _ _ _).mono (fun r h c => ⟨(h c).1.trans (congrArg₂ Cert.Kernel6Ideal.Dw.ref (hA c).1 (hA c).2), (h c).2⟩) (Cert.Reference6Ideal.Value.run m' g')⟩

theorem value7 : Cert.algebraic_Kernel7Ideal_Reference7Ideal := fun m g m' g' _ hA =>
  ⟨fun c => Cert.Kernel7Ideal.Dw.ref (Cert.Kernel7Ideal.Dw.aA m c) (Cert.Kernel7Ideal.Dw.aR m c) (Cert.Kernel7Ideal.Dw.aZ m c),
    (θ_run _ _ _).mono (fun r h c => ⟨(h c).1.trans (Cert.Kernel7Ideal.Dw.res m c), (h c).2⟩) (Cert.Kernel7Ideal.Value.run_blocks m g),
    (θ_run _ _ _).mono (fun r h c => ⟨(h c).1.trans (congrArg₃ Cert.Kernel7Ideal.Dw.ref (hA c).1 (hA c).2.1 (hA c).2.2), (h c).2⟩) (Cert.Reference7Ideal.Value.run m' g')⟩

theorem value8 : Cert.algebraic_Kernel8Ideal_Reference8Ideal := fun m g m' g' _ hA =>
  ⟨fun c => Cert.Kernel8Ideal.Dw.ref (Cert.Kernel8Ideal.Dw.aX m c) (Cert.Kernel8Ideal.Dw.aY m c),
    (θ_run _ _ _).mono (fun r h c => ⟨(h c).1.trans (Cert.Kernel8Ideal.Dw.res m c), (h c).2⟩) (Cert.Kernel8Ideal.Value.run_blocks m g),
    (θ_run _ _ _).mono (fun r h c => ⟨(h c).1.trans (congrArg₂ Cert.Kernel8Ideal.Dw.ref (hA c).1 (hA c).2), (h c).2⟩) (Cert.Reference8Ideal.Value.run m' g')⟩

end Cert.Proof

end
-- ==== Proof.BackOut.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Kernel9Ideal.Out

open Cert.Kernel9Ideal Cert.Kernel9Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, t.val, 0] ∧ win0_3.index t = ![t.val, 0] :=
  (by decide +kernel : ∀ t : Fin grid0.N, _)

/-- The blocks that a point reads, at their own shapes. -/
abbrev bZ (t : Fin cfg0.N) : FVec Ideal S1024x1024 .f32 := iblk m c 0 t
abbrev bW (t : Fin cfg0.N) : FVec Ideal S1024x1024 .bf16 := iblk m c 1 t

theorem ld_top (w : FVec Ideal S1024x1024 .bf16) (k : Fin 512) (j : Fin 1024) : (View.ld (Val := Elt Ideal) (e' := .bf16) w r0_1 : FVec Ideal S512x1024 .bf16) (ix2 k j) = w (ix2 ⟨k, by omega⟩ j) := by
  refine congrArg w (funext fun a => Fin.ext ?_)
  fin_cases a <;> simp [Rect.emb, r0_1]

theorem ld_low (w : FVec Ideal S1024x1024 .bf16) (k : Fin 512) (j : Fin 1024) : (View.ld (Val := Elt Ideal) (e' := .bf16) w r0_10 : FVec Ideal S512x1024 .bf16) (ix2 k j) = w (ix2 ⟨512 + k, by omega⟩ j) := by
  refine congrArg w (funext fun a => Fin.ext ?_)
  fin_cases a <;> simp [Rect.emb, r0_10]

theorem pay6_at (z : FVec Ideal S1024x1024 .f32) (w : FVec Ideal S512x1024 .bf16) (r : Fin 1024) (k : Fin 512) :
    k0_pay6 (F := Ideal) z w (ix2 r k) = ∑ j : Fin 1024, z (ix2 r j) * w (ix2 k j) := by
  pointwise [k0_pay6, k0_pay5]

theorem ld_full (z : FVec Ideal S1024x1024 .f32) : (View.ld (Val := Elt Ideal) (e' := .f32) z r0_0 : FVec Ideal S1024x1024 .f32) = z :=
  View.ld_unit_zero (S := S1024x1024) (by decide) _ _

/-- An entry of the upper product, at its place in the result. -/
theorem head (z : FVec Ideal S1024x1024 .f32) (w : FVec Ideal S1024x1024 .bf16) {r r' : Fin 1024} {q : Fin 512} {n : Fin 1024} (hr : r.val = r'.val) (hq : n.val = q.val) :
    k0_pay6 (F := Ideal) z (View.ld (Val := Elt Ideal) (e' := .bf16) w r0_1) (ix2 r' q) = ∑ k : Fin 1024, z (ix2 r k) * w (ix2 n k) := by
  rw [pay6_at, show r = r' from Fin.ext hr, show n = ⟨q.val, by omega⟩ from Fin.ext hq]
  exact Finset.sum_congr rfl fun k _ => by rw [ld_top]

theorem outs2 (t : Fin cfg0.N) (h : Fin 8) (r : Fin 1024) (j : Fin 64) : ((dats m 0 c).after 2 t : FVec Ideal S8x1024x64 .bf16) (ix3 h r j)
    = ∑ k : Fin 1024, bZ m c t (ix2 r k) * bW m c t (ix2 ⟨h * 64 + j, by omega⟩ k) := by
  rw [after0_2]
  frame_out
  canon_tiles x e
  all_goals
    idx_vars x
    pointwise [k0_pay1, k0_pay2, k0_pay3, k0_pay7, k0_pay8, k0_pay9, k0_pay10, k0_pay11, k0_pay12, k0_pay13]
    try rw [ld_full]
    exact head _ _ e1 (by dsimp only; omega)

theorem outs3 (t : Fin cfg0.N) (r : Fin 1024) (j : Fin 512) : ((dats m 0 c).after 3 t : FVec Ideal S1024x512 .f32) (ix2 r j)
    = ∑ k : Fin 1024, bZ m c t (ix2 r k) * bW m c t (ix2 ⟨512 + j, by omega⟩ k) := by
  rw [after0_3]
  frame_out
  pointwise [k0_pay4, k0_pay5]

/-- The arguments, at their own shapes. -/
abbrev aZ : FVec Ideal S8192x1024 .f32 := m ((c : Thread nD τ).loc main_arg0)
abbrev aW : FVec Ideal S1024x1024 .f32 := m ((c : Thread nD τ).loc main_arg1)

theorem lt8 (t : Fin cfg0.N) : t.val < 8 := t.isLt.trans_eq N_0

theorem blk0 (t : Fin cfg0.N) (r k : Fin 1024) : bZ m c t (ix2 r k) = aZ m c (ix2 ⟨t.val * 1024 + r, by have := lt8 t; omega⟩ k) := by
  blk_ext [iblk, idx t]

theorem blk1 (t : Fin cfg0.N) (i k : Fin 1024) : bW m c t (ix2 i k) = aW m c (ix2 i k) := by
  have h : bW m c t (ix2 i k) = (V m c main_v0 : FVec Ideal S1024x1024 .bf16) (ix2 i k) := by
    blk_ext [iblk, idx t]
  rw [h]
  entry_read
  pointwise

/-- A row of the gradient times the weight transposed. -/
def prod (Z : FVec Ideal S8192x1024 .f32) (W : FVec Ideal S1024x1024 .f32) (n : Fin 8192) (i : Fin 1024) : EReal := ∑ k : Fin 1024, Z (ix2 n k) * W (ix2 i k)

theorem row (t : Fin cfg0.N) (r i i' : Fin 1024) (n : Fin 8192) (hn : n.val = t.val * 1024 + r) (hi : i'.val = i.val) :
    ∑ k : Fin 1024, bZ m c t (ix2 r k) * bW m c t (ix2 i k) = prod (aZ m c) (aW m c) n i' := by
  have h8 := lt8 t
  rw [show n = ⟨t.val * 1024 + r, by omega⟩ from Fin.ext hn, show i' = i from Fin.ext hi]
  exact Finset.sum_congr rfl fun k _ => by rw [blk0, blk1]

theorem arr2 : (dats m 0 c).arrAt 2 cfg0.N = (fun y => prod (aZ m c) (aW m c) (y 1) ⟨(y 0).val * 64 + (y 2).val, by have := (y 0).isLt; have := (y 2).isLt; simp at *; omega⟩ : FVec Ideal S8x8192x64 .bf16) := by
  refine (dats m 0 c).arrAt_eq_of_covers 2 _ (by decide +kernel) fun t hf y => ?_
  blk_simp
  idx_vars y
  refine (outs2 m c t y0 y1 y2).trans (row m c t _ _ _ _ ?_ ?_)
  · blk_simp [idx t]
  · blk_simp [idx t]

theorem arr3 : (dats m 0 c).arrAt 3 cfg0.N = (fun y => prod (aZ m c) (aW m c) (y 0) ⟨512 + (y 1).val, by have := (y 1).isLt; simp at *; omega⟩ : FVec Ideal S8192x512 .f32) := by
  refine (dats m 0 c).arrAt_eq_of_covers 3 _ (by decide +kernel) fun t hf y => ?_
  blk_simp
  idx_vars y
  refine (outs3 m c t y0 y1).trans (row m c t _ _ _ _ ?_ ?_)
  · blk_simp [idx t]
  · blk_simp [idx t]

/-- The reference's gradients. -/
def refA (Z : FVec Ideal S8192x1024 .f32) (W : FVec Ideal S1024x1024 .f32) : FVec Ideal S8x8192x64 .bf16 :=
  transpose S8x8192x64 [1, 0, 2] (shapeCast Cert.Reference9Ideal.S8192x8x64 (truncf .bf16 (extractStridedSlice Cert.Reference9Ideal.S8192x512 ![0, 0] (Host.dotGeneral Cert.Reference9Ideal.dot_S8192x1024_S1024x1024_S8192x1024_1_1_0_0_n_n none Z W)
    Cert.Reference9Ideal.Gen.slices_S8192x1024_S8192x512_0_0) Cert.Reference9Ideal.Gen.bitsLt_bf16_f32) Cert.Reference9Ideal.Gen.shapeCasts_S8192x512_S8192x8x64) Cert.Reference9Ideal.Gen.transposes_S8192x8x64_S8x8192x64_1_0_2

def refR (Z : FVec Ideal S8192x1024 .f32) (W : FVec Ideal S1024x1024 .f32) : FVec Ideal S8192x512 .f32 :=
  extractStridedSlice Cert.Reference9Ideal.S8192x512 ![0, 512] (Host.dotGeneral Cert.Reference9Ideal.dot_S8192x1024_S1024x1024_S8192x1024_1_1_0_0_n_n none Z W) Cert.Reference9Ideal.Gen.slices_S8192x1024_S8192x512_0_512

theorem resA : (dats m 0 c).arrAt 2 cfg0.N = refA (aZ m c) (aW m c) := by
  rw [arr2]
  funext y
  idx_vars y
  refine Eq.symm ?_
  pointwise [refA]
  rfl

theorem resR : (dats m 0 c).arrAt 3 cfg0.N = refR (aZ m c) (aW m c) := by
  rw [arr3]
  funext y
  idx_vars y
  refine Eq.symm ?_
  pointwise [refR]
  rfl

end Cert.Kernel9Ideal.Out

end
-- ==== Proof.BackIn.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Kernel10Ideal.In

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- Four rows side by side. -/
def join (a : Fin 512 → EReal) (b : Fin 256 → EReal) (x g : Fin 512 → EReal) (j : Fin 1792) : EReal :=
  if h : j.val < 512 then a ⟨j, h⟩ else if h2 : j.val < 768 then b ⟨j - 512, by omega⟩
  else if h3 : j.val < 1280 then x ⟨j - 768, by omega⟩ else g ⟨j - 1280, by omega⟩

theorem join_a (a : Fin 512 → EReal) (b : Fin 256 → EReal) (x g : Fin 512 → EReal) {j : Fin 1792} {k : Fin 512} (h : j.val = k.val) : join a b x g j = a k := by
  have hk := k.isLt
  rw [join, dif_pos (h.trans_lt hk)]
  exact congrArg a (Fin.ext h)

theorem join_b (a : Fin 512 → EReal) (b : Fin 256 → EReal) (x g : Fin 512 → EReal) {j : Fin 1792} {k : Fin 256} (h : j.val = 512 + k.val) : join a b x g j = b k := by
  have hk := k.isLt
  have h1 : ¬ j.val < 512 := by omega
  have h2 : j.val < 768 := by omega
  rw [join, dif_neg h1, dif_pos h2]
  exact congrArg b (Fin.ext (by dsimp only; omega))

theorem join_x (a : Fin 512 → EReal) (b : Fin 256 → EReal) (x g : Fin 512 → EReal) {j : Fin 1792} {k : Fin 512} (h : j.val = 768 + k.val) : join a b x g j = x k := by
  have hk := k.isLt
  have h1 : ¬ j.val < 512 := by omega
  have h2 : ¬ j.val < 768 := by omega
  have h3 : j.val < 1280 := by omega
  rw [join, dif_neg h1, dif_neg h2, dif_pos h3]
  exact congrArg x (Fin.ext (by dsimp only; omega))

theorem join_g (a : Fin 512 → EReal) (b : Fin 256 → EReal) (x g : Fin 512 → EReal) {j : Fin 1792} {k : Fin 512} (h : j.val = 1280 + k.val) : join a b x g j = g k := by
  have hk := k.isLt
  have h1 : ¬ j.val < 512 := by omega
  have h2 : ¬ j.val < 768 := by omega
  have h3 : ¬ j.val < 1280 := by omega
  rw [join, dif_neg h1, dif_neg h2, dif_neg h3]
  exact congrArg g (Fin.ext (by dsimp only; omega))

/-- A sum over the joined row, part by part. -/
theorem sum_parts (f : Fin 1792 → EReal) : ∑ j, f j = ((∑ k : Fin 512, f ⟨k, by omega⟩ + ∑ k : Fin 256, f ⟨512 + k, by omega⟩) + ∑ k : Fin 512, f ⟨768 + k, by omega⟩) + ∑ k : Fin 512, f ⟨1280 + k, by omega⟩ := by
  refine (Fin.sum_univ_add (a := 1280) (b := 512) f).trans (congrArg (· + _) ?_)
  refine (Fin.sum_univ_add (a := 768) (b := 512) fun i => f (Fin.castAdd 512 i)).trans (congrArg (· + _) ?_)
  exact Fin.sum_univ_add (a := 512) (b := 256) fun i => f (Fin.castAdd 512 (Fin.castAdd 512 i))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0] ∧ win0_7.index t = ![0, t.val, 0] :=
  (by decide +kernel : ∀ t : Fin grid0.N, _)

/-- The blocks that a point reads, at their own shapes. -/
abbrev bQ (t : Fin cfg0.N) : FVec Ideal S512x512 .bf16 := iblk m c 0 t
abbrev bK (t : Fin cfg0.N) : FVec Ideal S512x256 .f32 := iblk m c 1 t
abbrev bX (t : Fin cfg0.N) : FVec Ideal S512x512 .bf16 := iblk m c 2 t
abbrev bG (t : Fin cfg0.N) : FVec Ideal S512x512 .bf16 := iblk m c 3 t
abbrev bZ (t : Fin cfg0.N) : FVec Ideal S512x1024 .f32 := iblk m c 4 t
abbrev bW (t : Fin cfg0.N) : FVec Ideal S1792x1024 .bf16 := iblk m c 5 t

/-- The row of the joined gradient that a point reads. -/
def bU (t : Fin cfg0.N) (r : Fin 512) (j : Fin 1792) : EReal :=
  join (fun k => bQ m c t (ix2 r k)) (fun k => bK m c t (ix2 r k)) (fun k => bX m c t (ix2 r k)) (fun k => bG m c t (ix2 r k)) j

theorem sum_join (a : Fin 512 → EReal) (b : Fin 256 → EReal) (x g : Fin 512 → EReal) (w : Fin 1792 → EReal) : ∑ j, join a b x g j * w j
    = ((∑ k : Fin 512, a k * w ⟨k, by omega⟩ + ∑ k : Fin 256, b k * w ⟨512 + k, by omega⟩) + ∑ k : Fin 512, x k * w ⟨768 + k, by omega⟩) + ∑ k : Fin 512, g k * w ⟨1280 + k, by omega⟩ := by
  rw [sum_parts]
  refine congrArg₂ (· + ·) (congrArg₂ (· + ·) (congrArg₂ (· + ·) ?_ ?_) ?_) ?_ <;> refine Finset.sum_congr rfl fun k _ => congrArg (· * _) ?_
  · exact join_a _ _ _ _ rfl
  · exact join_b _ _ _ _ rfl
  · exact join_x _ _ _ _ rfl
  · exact join_g _ _ _ _ rfl

theorem outs6 (t : Fin cfg0.N) (r : Fin 512) (j : Fin 1024) : ((dats m 0 c).after 6 t : FVec Ideal S512x1024 .f32) (ix2 r j)
    = ∑ k : Fin 1792, bU m c t r k * bW m c t (ix2 k j) + (Ideal.ofBits .f32 0x3F9837F0#32) * bZ m c t (ix2 r j) := by
  rw [after0_6, outsAt0]
  dsimp only
  frame_out
  pointwise [k0_pay2]
  unfold bU
  rw [sum_join, add_comm _ (_ * _)]
  simp only [← add_assoc]

theorem outs7 (t : Fin cfg0.N) (q : Fin 4) (r : Fin 512) (j : Fin 448) : ((dats m 0 c).after 7 t : FVec Ideal S4x512x448 .bf16) (ix3 q r j) = bU m c t r ⟨q * 448 + j, by omega⟩ := by
  rw [after0_7, outsAt0]
  dsimp only
  frame_out
  canon_tiles x e using (View.cover_of_tiledBy _ ![1, 512, 64] (by sl_kernel_rfl) _)
  all_goals
    idx_vars x
    pointwise [k0_pay1, k0_pay3, k0_pay4, k0_pay5, k0_pay6, k0_pay7, k0_pay8, k0_pay9, k0_pay10, k0_pay11, k0_pay12]
    obtain rfl : r = x1 := Fin.ext e1
    refine Eq.symm ?_
    first
      | exact join_a _ _ _ _ (by dsimp only; omega)
      | exact join_b _ _ _ _ (by dsimp only; omega)
      | exact join_x _ _ _ _ (by dsimp only; omega)
      | exact join_g _ _ _ _ (by dsimp only; omega)

/-- The arguments, at their own shapes. -/
abbrev aQ : FVec Ideal S8192x512 .bf16 := m ((c : Thread nD τ).loc main_arg0)
abbrev aK : FVec Ideal S8192x256 .f32 := m ((c : Thread nD τ).loc main_arg1)
abbrev aX : FVec Ideal S8192x512 .bf16 := m ((c : Thread nD τ).loc main_arg2)
abbrev aG : FVec Ideal S8192x512 .bf16 := m ((c : Thread nD τ).loc main_arg3)
abbrev aZ : FVec Ideal S8192x1024 .f32 := m ((c : Thread nD τ).loc main_arg4)
abbrev aW : FVec Ideal S1024x1792 .f32 := m ((c : Thread nD τ).loc main_arg5)

/-- A row of the joined gradient. -/
def row (Q X G : FVec Ideal S8192x512 .bf16) (K : FVec Ideal S8192x256 .f32) (n : Fin 8192) (j : Fin 1792) : EReal :=
  join (fun k => Q (ix2 n k)) (fun k => K (ix2 n k)) (fun k => X (ix2 n k)) (fun k => G (ix2 n k)) j

theorem lt16 (t : Fin cfg0.N) : t.val < 16 := t.isLt.trans_eq N_0

theorem blk0 (t : Fin cfg0.N) (r k : Fin 512) : bQ m c t (ix2 r k) = aQ m c (ix2 ⟨t.val * 512 + r, by have := lt16 t; omega⟩ k) := by
  blk_ext [iblk, idx t]
theorem blk1 (t : Fin cfg0.N) (r : Fin 512) (k : Fin 256) : bK m c t (ix2 r k) = aK m c (ix2 ⟨t.val * 512 + r, by have := lt16 t; omega⟩ k) := by
  blk_ext [iblk, idx t]
theorem blk2 (t : Fin cfg0.N) (r k : Fin 512) : bX m c t (ix2 r k) = aX m c (ix2 ⟨t.val * 512 + r, by have := lt16 t; omega⟩ k) := by
  blk_ext [iblk, idx t]
theorem blk3 (t : Fin cfg0.N) (r k : Fin 512) : bG m c t (ix2 r k) = aG m c (ix2 ⟨t.val * 512 + r, by have := lt16 t; omega⟩ k) := by
  blk_ext [iblk, idx t]
theorem blk4 (t : Fin cfg0.N) (r : Fin 512) (k : Fin 1024) : bZ m c t (ix2 r k) = aZ m c (ix2 ⟨t.val * 512 + r, by have := lt16 t; omega⟩ k) := by
  blk_ext [iblk, idx t]

theorem blk5 (t : Fin cfg0.N) (j : Fin 1792) (i : Fin 1024) : bW m c t (ix2 j i) = aW m c (ix2 i j) := by
  have h : bW m c t (ix2 j i) = (V m c main_v1 : FVec Ideal S1792x1024 .bf16) (ix2 j i) := by
    blk_ext [iblk, idx t]
  rw [h]
  entry_read
  pointwise

theorem bU_eq (t : Fin cfg0.N) {r : Fin 512} {n : Fin 8192} (hn : n.val = t.val * 512 + r) {j j' : Fin 1792} (hj : j'.val = j.val) : bU m c t r j = row (aQ m c) (aX m c) (aG m c) (aK m c) n j' := by
  have h8 := lt16 t
  rw [show n = ⟨t.val * 512 + r, by omega⟩ from Fin.ext hn, show j' = j from Fin.ext hj]
  simp only [bU, row, blk0, blk1, blk2, blk3]

/-- A row of the joined gradient times the weight transposed, with the scaled gradient of the residual branch. -/
def dx (Q X G : FVec Ideal S8192x512 .bf16) (K : FVec Ideal S8192x256 .f32) (Z : FVec Ideal S8192x1024 .f32) (W : FVec Ideal S1024x1792 .f32) (n : Fin 8192) (i : Fin 1024) : EReal :=
  ∑ k : Fin 1792, row Q X G K n k * W (ix2 i k) + (Ideal.ofBits .f32 0x3F9837F0#32) * Z (ix2 n i)

theorem outs6_eq (t : Fin cfg0.N) {r : Fin 512} {n : Fin 8192} (hn : n.val = t.val * 512 + r) {i i' : Fin 1024} (hi : i'.val = i.val) : ((dats m 0 c).after 6 t : FVec Ideal S512x1024 .f32) (ix2 r i)
    = dx (aQ m c) (aX m c) (aG m c) (aK m c) (aZ m c) (aW m c) n i' := by
  have h8 := lt16 t
  rw [outs6, show i' = i from Fin.ext hi, dx, blk4, ← show n = ⟨t.val * 512 + r, by omega⟩ from Fin.ext hn]
  exact congrArg (· + _) (Finset.sum_congr rfl fun k _ => by rw [bU_eq m c t hn rfl, blk5])

theorem arr6 : (dats m 0 c).arrAt 6 cfg0.N = (fun y => dx (aQ m c) (aX m c) (aG m c) (aK m c) (aZ m c) (aW m c) (y 0) (y 1) : FVec Ideal S8192x1024 .f32) := by
  refine (dats m 0 c).arrAt_eq_of_covers 6 _ (by decide +kernel) fun t hf y => ?_
  blk_simp
  idx_vars y
  refine outs6_eq m c t ?_ ?_
  · blk_simp [idx t]
  · blk_simp [idx t]

theorem arr7 : (dats m 0 c).arrAt 7 cfg0.N = (fun y => row (aQ m c) (aX m c) (aG m c) (aK m c) (y 1) ⟨(y 0).val * 448 + (y 2).val, by have := (y 0).isLt; have := (y 2).isLt; simp at *; omega⟩ : FVec Ideal S4x8192x448 .bf16) := by
  refine (dats m 0 c).arrAt_eq_of_covers 7 _ (by decide +kernel) fun t hf y => ?_
  blk_simp
  idx_vars y
  refine (outs7 m c t y0 y1 y2).trans (bU_eq m c t ?_ ?_)
  · blk_simp [idx t]
  · blk_simp [idx t]

/-- The reference's joined gradient. -/
def refU (Q X G : FVec Ideal S8192x512 .bf16) (K : FVec Ideal S8192x256 .f32) : FVec Ideal Cert.Reference10Ideal.S8192x1792 .f32 :=
  concatenate Cert.Reference10Ideal.S8192x1792 1 [⟨S8192x512, extf .f32 Q Cert.Reference10Ideal.Gen.bitsLt_bf16_f32⟩,
    ⟨Cert.Reference10Ideal.S8192x128, extractStridedSlice Cert.Reference10Ideal.S8192x128 ![0, 0] K Cert.Reference10Ideal.Gen.slices_S8192x256_S8192x128_0_0⟩,
    ⟨Cert.Reference10Ideal.S8192x128, extractStridedSlice Cert.Reference10Ideal.S8192x128 ![0, 128] K Cert.Reference10Ideal.Gen.slices_S8192x256_S8192x128_0_128⟩,
    ⟨S8192x512, extf .f32 X Cert.Reference10Ideal.Gen.bitsLt_bf16_f32⟩, ⟨S8192x512, extf .f32 G Cert.Reference10Ideal.Gen.bitsLt_bf16_f32⟩]
    Cert.Reference10Ideal.Gen.concatenates_S8192x512_S8192x128_S8192x128_S8192x512_S8192x512_S8192x1792_d1

theorem refU_at (Q X G : FVec Ideal S8192x512 .bf16) (K : FVec Ideal S8192x256 .f32) (n : Fin 8192) (j : Fin 1792) : refU Q X G K (ix2 n j) = row Q X G K n j := by
  pointwise [refU]
  refine Eq.symm ?_
  unfold row
  split
  · exact join_a _ _ _ _ rfl
  split
  · exact join_b _ _ _ _ (show j.val = 512 + (j.val - 512) by omega)
  split
  · exact join_b _ _ _ _ (show j.val = 512 + (128 + (j.val - 512 - 128)) by omega)
  split
  · exact join_x _ _ _ _ (show j.val = 768 + (j.val - 512 - 128 - 128) by omega)
  · exact join_g _ _ _ _ (show j.val = 1280 + (j.val - 512 - 128 - 128 - 512) by omega)

/-- The reference's gradients. -/
def refX (Q X G : FVec Ideal S8192x512 .bf16) (K : FVec Ideal S8192x256 .f32) (Z : FVec Ideal S8192x1024 .f32) (W : FVec Ideal S1024x1792 .f32) : FVec Ideal S8192x1024 .f32 :=
  addf (Host.dotGeneral Cert.Reference10Ideal.dot_S8192x1792_S1024x1792_S8192x1024_1_1_0_0_n_n none (refU Q X G K) W)
    (mulf (broadcastInDim Cert.Reference10Ideal.S8192x1024 ![] Cert.Reference10Ideal.Gen.bcast_S_S8192x1024 (constant Cert.Reference10Ideal.S_ .f32 0x3F9837F0#32)) Z)

def refD (Q X G : FVec Ideal S8192x512 .bf16) (K : FVec Ideal S8192x256 .f32) : FVec Ideal S4x8192x448 .bf16 :=
  transpose S4x8192x448 [1, 0, 2] (shapeCast _ (truncf .bf16 (refU Q X G K) Cert.Reference10Ideal.Gen.bitsLt_bf16_f32) Cert.Reference10Ideal.Gen.shapeCasts_S8192x1792_S8192x4x448) Cert.Reference10Ideal.Gen.transposes_S8192x4x448_S4x8192x448_1_0_2

theorem resX : (dats m 0 c).arrAt 6 cfg0.N = refX (aQ m c) (aX m c) (aG m c) (aK m c) (aZ m c) (aW m c) := by
  rw [arr6]
  funext y
  idx_vars y
  refine Eq.symm ?_
  pointwise [refX]
  exact congrArg (· + _) (Finset.sum_congr rfl fun k _ => by rw [refU_at])

theorem resD : (dats m 0 c).arrAt 7 cfg0.N = refD (aQ m c) (aX m c) (aG m c) (aK m c) := by
  rw [arr7]
  funext y
  idx_vars y
  refine Eq.symm ?_
  pointwise [refD]
  exact refU_at _ _ _ _ _ _

end Cert.Kernel10Ideal.In

end
-- ==== Proof.FwdIn.lean ====
module

public import proofs.«01_k».proof.Proof.Gen.Kernel11Ideal.Value
public import proofs.«01_k».proof.Proof.Gen.Reference11Ideal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Kernel11Ideal.Proj

open Cert.Kernel11Ideal Cert.Kernel11Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The blocks that a point reads, at their own shapes. -/
abbrev bX (t : Fin cfg0.N) : FVec Ideal S1024x1024 .f32 := iblk m c 0 t
abbrev bW (t : Fin cfg0.N) : FVec Ideal S1792x1024 .bf16 := iblk m c 1 t

/-- A row of a block times a row of the weight. -/
def dot (t : Fin cfg0.N) (r : Fin 1024) (i : Fin 1792) : EReal := ∑ k : Fin 1024, bX m c t (ix2 r k) * bW m c t (ix2 i k)

theorem ld_top (w : FVec Ideal S1792x1024 .bf16) (j : Fin 512) (k : Fin 1024) : (View.ld (Val := Elt Ideal) (e' := .bf16) w r0_1 : FVec Ideal S512x1024 .bf16) (ix2 j k) = w (ix2 ⟨j, by omega⟩ k) := by
  refine congrArg w (funext fun a => Fin.ext ?_)
  fin_cases a <;> simp [Rect.emb, r0_1]

theorem ld_full (x : FVec Ideal S1024x1024 .f32) : (View.ld (Val := Elt Ideal) (e' := .f32) x r0_0 : FVec Ideal S1024x1024 .f32) = x :=
  View.ld_unit_zero (S := S1024x1024) (by decide) _ _

theorem pay2_at (x : FVec Ideal S1024x1024 .f32) (w : FVec Ideal S512x1024 .bf16) (r : Fin 1024) (j : Fin 512) :
    k0_pay2 (F := Ideal) x w (ix2 r j) = (∑ k : Fin 1024, x (ix2 r k) * w (ix2 j k)) * Ideal.ofBits .f32 0x3E000000#32 := by
  pointwise [k0_pay2, k0_pay1]

/-- An entry of the scaled product, at its place in the result. -/
theorem head (t : Fin cfg0.N) {r r' : Fin 1024} {j : Fin 512} {n : Fin 1792} (hr : r.val = r'.val) (hj : n.val = j.val) :
    k0_pay2 (F := Ideal) (bX m c t) (View.ld (Val := Elt Ideal) (e' := .bf16) (bW m c t) r0_1) (ix2 r' j) = dot m c t r n * Ideal.ofBits .f32 0x3E000000#32 := by
  have hn : n = ⟨j.val, by omega⟩ := Fin.ext hj
  rw [pay2_at, show r = r' from Fin.ext hr, hn, dot]
  exact congrArg (· * _) (Finset.sum_congr rfl fun k _ => by rw [ld_top])

theorem outs2 (t : Fin cfg0.N) (h : Fin 8) (r : Fin 1024) (j : Fin 64) : ((dats m 0 c).after 2 t : FVec Ideal S8x1024x64 .bf16) (ix3 h r j)
    = dot m c t r ⟨h * 64 + j, by omega⟩ * Ideal.ofBits .f32 0x3E000000#32 := by
  rw [after0_2]
  frame_out
  canon_tiles x e
  all_goals
    idx_vars x
    pointwise [k0_pay3, k0_pay4, k0_pay5, k0_pay6, k0_pay7, k0_pay8, k0_pay9, k0_pay10, k0_pay11, k0_pay16]
    try rw [ld_full]
    exact head m c t e1 (by dsimp only; omega)

theorem outs3 (t : Fin cfg0.N) (r : Fin 1024) (j : Fin 256) : ((dats m 0 c).after 3 t : FVec Ideal S1024x256 .bf16) (ix2 r j) = dot m c t r ⟨512 + j, by omega⟩ := by
  rw [after0_3]
  frame_out
  pointwise [k0_pay1, k0_pay15, k0_pay12]
  rfl

theorem outs4 (t : Fin cfg0.N) (r : Fin 1024) (j : Fin 512) : ((dats m 0 c).after 4 t : FVec Ideal S1024x512 .f32) (ix2 r j) = dot m c t r ⟨768 + j, by omega⟩ := by
  rw [after0_4]
  frame_out
  pointwise [k0_pay1, k0_pay15, k0_pay13]
  rfl

theorem outs5 (t : Fin cfg0.N) (r : Fin 1024) (j : Fin 512) : ((dats m 0 c).after 5 t : FVec Ideal S1024x512 .f32) (ix2 r j) = dot m c t r ⟨1280 + j, by omega⟩ := by
  rw [after0_5]
  frame_out
  pointwise [k0_pay1, k0_pay15, k0_pay14]
  rfl

theorem outs6 (t : Fin cfg0.N) (r k : Fin 1024) : ((dats m 0 c).after 6 t : FVec Ideal S1024x1024 .bf16) (ix2 r k) = bX m c t (ix2 r k) := by
  rw [after0_6]
  frame_out
  pointwise [k0_pay1]

/-- The arguments, at their own shapes. -/
abbrev aX : FVec Ideal S8192x1024 .f32 := m ((c : Thread nD τ).loc main_arg0)
abbrev aW : FVec Ideal S1024x1792 .f32 := m ((c : Thread nD τ).loc main_arg1)

theorem lt8 (t : Fin cfg0.N) : t.val < 8 := t.isLt.trans_eq N_0

theorem blk0 (t : Fin cfg0.N) (r k : Fin 1024) : bX m c t (ix2 r k) = aX m c (ix2 ⟨t.val * 1024 + r, by have := lt8 t; omega⟩ k) := by
  blk_ext [iblk, idx t]

theorem blk1 (t : Fin cfg0.N) (i : Fin 1792) (k : Fin 1024) : bW m c t (ix2 i k) = aW m c (ix2 k i) := by
  have h : bW m c t (ix2 i k) = (V m c main_v1 : FVec Ideal S1792x1024 .bf16) (ix2 i k) := by
    blk_ext [iblk, idx t]
  rw [h]
  entry_read
  pointwise

/-- An entry of the product of the input and the weight. -/
def prod (X : FVec Ideal S8192x1024 .f32) (W : FVec Ideal S1024x1792 .f32) (n : Fin 8192) (i : Fin 1792) : EReal := ∑ k : Fin 1024, X (ix2 n k) * W (ix2 k i)

theorem dot_eq (t : Fin cfg0.N) {r : Fin 1024} {n : Fin 8192} {i i' : Fin 1792} (hn : n.val = t.val * 1024 + r) (hi : i'.val = i.val) : dot m c t r i = prod (aX m c) (aW m c) n i' := by
  have h8 := lt8 t
  rw [show n = ⟨t.val * 1024 + r, by omega⟩ from Fin.ext hn, show i' = i from Fin.ext hi]
  exact Finset.sum_congr rfl fun k _ => by rw [blk0, blk1]

theorem arr2 : (dats m 0 c).arrAt 2 cfg0.N = (fun y => prod (aX m c) (aW m c) (y 1) ⟨(y 0).val * 64 + (y 2).val, by have := (y 0).isLt; have := (y 2).isLt; simp at *; omega⟩ * Ideal.ofBits .f32 0x3E000000#32 : FVec Ideal S8x8192x64 .bf16) := by
  refine (dats m 0 c).arrAt_eq_of_covers 2 _ (by decide +kernel) fun t hf y => ?_
  blk_simp
  idx_vars y
  refine (outs2 m c t y0 y1 y2).trans (congrArg (· * _) (dot_eq m c t ?_ ?_))
  · blk_simp [idx t]
  · blk_simp [idx t]

theorem arr3 : (dats m 0 c).arrAt 3 cfg0.N = (fun y => prod (aX m c) (aW m c) (y 0) ⟨512 + (y 1).val, by have := (y 1).isLt; simp at *; omega⟩ : FVec Ideal S8192x256 .bf16) := by
  refine (dats m 0 c).arrAt_eq_of_covers 3 _ (by decide +kernel) fun t hf y => ?_
  blk_simp
  idx_vars y
  refine (outs3 m c t y0 y1).trans (dot_eq m c t ?_ ?_)
  · blk_simp [idx t]
  · blk_simp [idx t]

theorem arr4 : (dats m 0 c).arrAt 4 cfg0.N = (fun y => prod (aX m c) (aW m c) (y 0) ⟨768 + (y 1).val, by have := (y 1).isLt; simp at *; omega⟩ : FVec Ideal S8192x512 .f32) := by
  refine (dats m 0 c).arrAt_eq_of_covers 4 _ (by decide +kernel) fun t hf y => ?_
  blk_simp
  idx_vars y
  refine (outs4 m c t y0 y1).trans (dot_eq m c t ?_ ?_)
  · blk_simp [idx t]
  · blk_simp [idx t]

theorem arr5 : (dats m 0 c).arrAt 5 cfg0.N = (fun y => prod (aX m c) (aW m c) (y 0) ⟨1280 + (y 1).val, by have := (y 1).isLt; simp at *; omega⟩ : FVec Ideal S8192x512 .f32) := by
  refine (dats m 0 c).arrAt_eq_of_covers 5 _ (by decide +kernel) fun t hf y => ?_
  blk_simp
  idx_vars y
  refine (outs5 m c t y0 y1).trans (dot_eq m c t ?_ ?_)
  · blk_simp [idx t]
  · blk_simp [idx t]

theorem arr6 : (dats m 0 c).arrAt 6 cfg0.N = (fun y => aX m c (ix2 (y 0) (y 1)) : FVec Ideal S8192x1024 .bf16) := by
  refine (dats m 0 c).arrAt_eq_of_covers 6 _ (by decide +kernel) fun t hf y => ?_
  blk_simp
  idx_vars y
  refine (outs6 m c t y0 y1).trans ((blk0 m c t y0 y1).trans (congrArg (aX m c) ?_))
  blk_ext [idx t]

/-- The reference's product and its parts. -/
def refP (X : FVec Ideal S8192x1024 .f32) (W : FVec Ideal S1024x1792 .f32) : FVec Ideal Cert.Reference11Ideal.S8192x1792 .f32 :=
  Host.dotGeneral Cert.Reference11Ideal.dot_S8192x1024_S1024x1792_S8192x1792_1_0_0_1_n_n none X W

theorem refP_at (X : FVec Ideal S8192x1024 .f32) (W : FVec Ideal S1024x1792 .f32) (n : Fin 8192) (i : Fin 1792) : refP X W (ix2 n i) = prod X W n i := by
  pointwise [refP]
  rfl

def refQ (X : FVec Ideal S8192x1024 .f32) (W : FVec Ideal S1024x1792 .f32) : FVec Ideal S8x8192x64 .bf16 :=
  truncf .bf16 (mulf (transpose S8x8192x64 [1, 0, 2] (shapeCast Cert.Reference11Ideal.S8192x8x64 (extractStridedSlice Cert.Reference11Ideal.S8192x512 ![0, 0] (refP X W) Cert.Reference11Ideal.Gen.slices_S8192x1792_S8192x512_0_0)
    Cert.Reference11Ideal.Gen.shapeCasts_S8192x512_S8192x8x64) Cert.Reference11Ideal.Gen.transposes_S8192x8x64_S8x8192x64_1_0_2)
    (broadcastInDim S8x8192x64 ![] Cert.Reference11Ideal.Gen.bcast_S_S8x8192x64 (constant Cert.Reference11Ideal.S_ .f32 0x3E000000#32))) Cert.Reference11Ideal.Gen.bitsLt_bf16_f32

def refK (X : FVec Ideal S8192x1024 .f32) (W : FVec Ideal S1024x1792 .f32) : FVec Ideal S8192x256 .bf16 :=
  truncf .bf16 (concatenate S8192x256 1 [⟨Cert.Reference11Ideal.S8192x128, extractStridedSlice Cert.Reference11Ideal.S8192x128 ![0, 512] (refP X W) Cert.Reference11Ideal.Gen.slices_S8192x1792_S8192x128_0_512⟩,
    ⟨Cert.Reference11Ideal.S8192x128, extractStridedSlice Cert.Reference11Ideal.S8192x128 ![0, 640] (refP X W) Cert.Reference11Ideal.Gen.slices_S8192x1792_S8192x128_0_640⟩]
    Cert.Reference11Ideal.Gen.concatenates_S8192x128_S8192x128_S8192x256_d1) Cert.Reference11Ideal.Gen.bitsLt_bf16_f32

def refR (X : FVec Ideal S8192x1024 .f32) (W : FVec Ideal S1024x1792 .f32) : FVec Ideal S8192x512 .f32 :=
  extractStridedSlice S8192x512 ![0, 768] (refP X W) Cert.Reference11Ideal.Gen.slices_S8192x1792_S8192x512_0_768

def refG (X : FVec Ideal S8192x1024 .f32) (W : FVec Ideal S1024x1792 .f32) : FVec Ideal S8192x512 .f32 :=
  extractStridedSlice S8192x512 ![0, 1280] (refP X W) Cert.Reference11Ideal.Gen.slices_S8192x1792_S8192x512_0_1280

def refB (X : FVec Ideal S8192x1024 .f32) : FVec Ideal S8192x1024 .bf16 := truncf .bf16 X Cert.Reference11Ideal.Gen.bitsLt_bf16_f32

theorem resQ : (dats m 0 c).arrAt 2 cfg0.N = refQ (aX m c) (aW m c) := by
  rw [arr2]
  funext y
  idx_vars y
  refine Eq.symm ?_
  pointwise [refQ]
  exact congrArg (· * _) (refP_at _ _ _ _)

theorem resK : (dats m 0 c).arrAt 3 cfg0.N = refK (aX m c) (aW m c) := by
  rw [arr3]
  funext y
  idx_vars y
  refine Eq.symm ?_
  pointwise [refK]
  split
  · exact refP_at _ _ _ _
  · refine (refP_at _ _ _ _).trans (congrArg (prod _ _ _) (Fin.ext ?_))
    dsimp only
    omega

theorem resR : (dats m 0 c).arrAt 4 cfg0.N = refR (aX m c) (aW m c) := by
  rw [arr4]
  funext y
  idx_vars y
  refine Eq.symm ?_
  pointwise [refR]
  exact refP_at _ _ _ _

theorem resG : (dats m 0 c).arrAt 5 cfg0.N = refG (aX m c) (aW m c) := by
  rw [arr5]
  funext y
  idx_vars y
  refine Eq.symm ?_
  pointwise [refG]
  exact refP_at _ _ _ _

theorem resB : (dats m 0 c).arrAt 6 cfg0.N = refB (aX m c) := by
  rw [arr6]
  funext y
  idx_vars y
  refine Eq.symm ?_
  pointwise [refB]

end Cert.Kernel11Ideal.Proj

end
-- ==== Proof.FwdOut.lean ====
module

public import proofs.«01_k».proof.Proof.Gen.Kernel12Ideal.Value
public import proofs.«01_k».proof.Proof.Gen.Reference12Ideal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Kernel12Ideal.Norm

open Cert.Kernel12Ideal Cert.Kernel12Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The blocks that a point reads, at their own shapes. -/
abbrev bA (t : Fin cfg0.N) : FVec Ideal S1024x512 .bf16 := iblk m c 0 t
abbrev bR (t : Fin cfg0.N) : FVec Ideal S1024x512 .bf16 := iblk m c 1 t
abbrev bX (t : Fin cfg0.N) : FVec Ideal S1024x1024 .f32 := iblk m c 2 t
abbrev bW (t : Fin cfg0.N) : FVec Ideal S1024x1024 .bf16 := iblk m c 3 t
abbrev bG (t : Fin cfg0.N) : FVec Ideal S1x1024 .f32 := iblk m c 4 t
abbrev bB (t : Fin cfg0.N) : FVec Ideal S1x1024 .f32 := iblk m c 5 t

/-- The mean of a row. -/
def mean (z : Fin 1024 → EReal) : EReal := Ideal.div (∑ k, z k) (Ideal.ofBits .f32 0x44800000#32)

/-- A row with its mean taken off, over the root of its variance and the small constant. -/
def unit (z : Fin 1024 → EReal) (j : Fin 1024) : EReal :=
  (z j - mean z) * Ideal.rsqrt (Ideal.div (∑ k, (z k - mean z) * (z k - mean z)) (Ideal.ofBits .f32 0x44800000#32) + Ideal.ofBits .f32 0x3727C5AC#32)

/-- The residual sum of a row of a block. -/
def bP (t : Fin cfg0.N) (r j : Fin 1024) : EReal :=
  Ideal.ofBits .f32 0x3F9837F0#32 * bX m c t (ix2 r j) + (∑ k : Fin 512, bA m c t (ix2 r k) * bW m c t (ix2 ⟨k, by omega⟩ j) + ∑ k : Fin 512, bR m c t (ix2 r k) * bW m c t (ix2 ⟨512 + k, by omega⟩ j))

theorem pay5_at (a : FVec Ideal S1024x512 .bf16) (w : FVec Ideal S512x1024 .bf16) (b : FVec Ideal S1024x512 .bf16) (v : FVec Ideal S512x1024 .bf16) (x : FVec Ideal S1024x1024 .f32) (r j : Fin 1024) :
    k0_pay5 (F := Ideal) a w b v x (ix2 r j) = unit (fun k => k0_pay2 (F := Ideal) a w b v x (ix2 r k)) j := by
  pointwise [k0_pay5]
  rfl

theorem outs6 (t : Fin cfg0.N) (r j : Fin 1024) : ((dats m 0 c).after 6 t : FVec Ideal S1024x1024 .f32) (ix2 r j) = bP m c t r j := by
  rw [after0_6]
  frame_out
  pointwise [k0_pay2]
  rfl

theorem pay2_at (t : Fin cfg0.N) (r j : Fin 1024) : k0_pay2 (F := Ideal) (bA m c t) (View.ld (Val := Elt Ideal) (e' := .bf16) (bW m c t) r0_1) (bR m c t) (View.ld (Val := Elt Ideal) (e' := .bf16) (bW m c t) r0_2) (bX m c t) (ix2 r j) = bP m c t r j := by
  pointwise [k0_pay2]
  rfl

theorem outs7 (t : Fin cfg0.N) (r j : Fin 1024) : ((dats m 0 c).after 7 t : FVec Ideal S1024x1024 .bf16) (ix2 r j) = unit (bP m c t r) j * bG m c t (ix2 0 j) + bB m c t (ix2 0 j) := by
  rw [after0_7]
  frame_out
  pointwise [k0_pay1, k0_pay3, k0_pay4]
  refine congrArg (· * _ + _) ((pay5_at _ _ _ _ _ r j).trans (congrArg (unit · j) (funext fun k => pay2_at m c t r k)))

/-- The arguments, at their own shapes. -/
abbrev aA : FVec Ideal S8192x512 .bf16 := m ((c : Thread nD τ).loc main_arg0)
abbrev aR : FVec Ideal S8192x512 .bf16 := m ((c : Thread nD τ).loc main_arg1)
abbrev aX : FVec Ideal S8192x1024 .f32 := m ((c : Thread nD τ).loc main_arg2)
abbrev aW : FVec Ideal S1024x1024 .f32 := m ((c : Thread nD τ).loc main_arg3)
abbrev aG : FVec Ideal S1024 .f32 := m ((c : Thread nD τ).loc main_arg4)
abbrev aB : FVec Ideal S1024 .f32 := m ((c : Thread nD τ).loc main_arg5)

theorem lt8 (t : Fin cfg0.N) : t.val < 8 := t.isLt.trans_eq N_0

theorem blk0 (t : Fin cfg0.N) (r : Fin 1024) (k : Fin 512) : bA m c t (ix2 r k) = aA m c (ix2 ⟨t.val * 1024 + r, by have := lt8 t; omega⟩ k) := by
  blk_ext [iblk, idx t]
theorem blk1 (t : Fin cfg0.N) (r : Fin 1024) (k : Fin 512) : bR m c t (ix2 r k) = aR m c (ix2 ⟨t.val * 1024 + r, by have := lt8 t; omega⟩ k) := by
  blk_ext [iblk, idx t]
theorem blk2 (t : Fin cfg0.N) (r k : Fin 1024) : bX m c t (ix2 r k) = aX m c (ix2 ⟨t.val * 1024 + r, by have := lt8 t; omega⟩ k) := by
  blk_ext [iblk, idx t]

theorem blk3 (t : Fin cfg0.N) (i k : Fin 1024) : bW m c t (ix2 i k) = aW m c (ix2 i k) := by
  have h : bW m c t (ix2 i k) = (V m c main_v0 : FVec Ideal S1024x1024 .bf16) (ix2 i k) := by
    blk_ext [iblk, idx t]
  rw [h]
  entry_read
  pointwise

theorem blk4 (t : Fin cfg0.N) (k : Fin 1024) : bG m c t (ix2 0 k) = aG m c (ix1 k) := by
  have h : bG m c t (ix2 0 k) = (V m c main_v1 : FVec Ideal S1x1024 .f32) (ix2 0 k) := by
    blk_ext [iblk, idx t]
  rw [h]
  entry_read
  pointwise

theorem blk5 (t : Fin cfg0.N) (k : Fin 1024) : bB m c t (ix2 0 k) = aB m c (ix1 k) := by
  have h : bB m c t (ix2 0 k) = (V m c main_v2 : FVec Ideal S1x1024 .f32) (ix2 0 k) := by
    blk_ext [iblk, idx t]
  rw [h]
  entry_read
  pointwise

/-- The residual sum of a row. -/
def pre (A R : FVec Ideal S8192x512 .bf16) (X : FVec Ideal S8192x1024 .f32) (W : FVec Ideal S1024x1024 .f32) (n : Fin 8192) (j : Fin 1024) : EReal :=
  Ideal.ofBits .f32 0x3F9837F0#32 * X (ix2 n j) + (∑ k : Fin 512, A (ix2 n k) * W (ix2 ⟨k, by omega⟩ j) + ∑ k : Fin 512, R (ix2 n k) * W (ix2 ⟨512 + k, by omega⟩ j))

theorem bP_eq (t : Fin cfg0.N) {r : Fin 1024} {n : Fin 8192} (hn : n.val = t.val * 1024 + r) : bP m c t r = pre (aA m c) (aR m c) (aX m c) (aW m c) n := by
  have h8 := lt8 t
  rw [show n = ⟨t.val * 1024 + r, by omega⟩ from Fin.ext hn]
  funext j
  simp only [bP, pre, blk0, blk1, blk2, blk3]

/-- The normalised row, scaled and shifted. -/
def norm (A R : FVec Ideal S8192x512 .bf16) (X : FVec Ideal S8192x1024 .f32) (W : FVec Ideal S1024x1024 .f32) (G B : FVec Ideal S1024 .f32) (n : Fin 8192) (j : Fin 1024) : EReal :=
  unit (pre A R X W n) j * G (ix1 j) + B (ix1 j)

theorem outs6_eq (t : Fin cfg0.N) {r : Fin 1024} {n : Fin 8192} (hn : n.val = t.val * 1024 + r) {j j' : Fin 1024} (hj : j'.val = j.val) : ((dats m 0 c).after 6 t : FVec Ideal S1024x1024 .f32) (ix2 r j)
    = pre (aA m c) (aR m c) (aX m c) (aW m c) n j' := by
  rw [outs6, bP_eq m c t hn, show j' = j from Fin.ext hj]

theorem outs7_eq (t : Fin cfg0.N) {r : Fin 1024} {n : Fin 8192} (hn : n.val = t.val * 1024 + r) {j j' : Fin 1024} (hj : j'.val = j.val) : ((dats m 0 c).after 7 t : FVec Ideal S1024x1024 .bf16) (ix2 r j)
    = norm (aA m c) (aR m c) (aX m c) (aW m c) (aG m c) (aB m c) n j' := by
  rw [outs7, bP_eq m c t hn, blk4, blk5, show j' = j from Fin.ext hj, norm]

theorem arr6 : (dats m 0 c).arrAt 6 cfg0.N = (fun y => pre (aA m c) (aR m c) (aX m c) (aW m c) (y 0) (y 1) : FVec Ideal S8192x1024 .f32) := by
  refine (dats m 0 c).arrAt_eq_of_covers 6 _ (by decide +kernel) fun t hf y => ?_
  blk_simp
  idx_vars y
  refine outs6_eq m c t ?_ ?_
  · blk_simp [idx t]
  · blk_simp [idx t]

theorem arr7 : (dats m 0 c).arrAt 7 cfg0.N = (fun y => norm (aA m c) (aR m c) (aX m c) (aW m c) (aG m c) (aB m c) (y 0) (y 1) : FVec Ideal S8192x1024 .bf16) := by
  refine (dats m 0 c).arrAt_eq_of_covers 7 _ (by decide +kernel) fun t hf y => ?_
  blk_simp
  idx_vars y
  refine outs7_eq m c t ?_ ?_
  · blk_simp [idx t]
  · blk_simp [idx t]

/-- The reference's residual sum. -/
def refZ (A R : FVec Ideal S8192x512 .bf16) (X : FVec Ideal S8192x1024 .f32) (W : FVec Ideal S1024x1024 .f32) : FVec Ideal S8192x1024 .f32 :=
  addf (mulf (broadcastInDim S8192x1024 ![] Cert.Reference12Ideal.Gen.bcast_S_S8192x1024 (constant Cert.Reference12Ideal.S_ .f32 0x3F9837F0#32)) X)
    (Host.dotGeneral Cert.Reference12Ideal.dot_S8192x1024_S1024x1024_S8192x1024_1_0_0_1_n_n none (extf .f32 (concatenate S8192x1024 1 [⟨S8192x512, A⟩, ⟨S8192x512, R⟩] Cert.Reference12Ideal.Gen.concatenates_S8192x512_S8192x512_S8192x1024_d1) Cert.Reference12Ideal.Gen.bitsLt_bf16_f32) W)

theorem refZ_at (A R : FVec Ideal S8192x512 .bf16) (X : FVec Ideal S8192x1024 .f32) (W : FVec Ideal S1024x1024 .f32) (n : Fin 8192) (j : Fin 1024) : refZ A R X W (ix2 n j) = pre A R X W n j := by
  pointwise [refZ]
  rfl

/-- The mean of every row, and the rows with their mean taken off. -/
def refM (Z : FVec Ideal S8192x1024 .f32) : FVec Ideal Cert.Reference12Ideal.S8192x1 .f32 :=
  Host.divf (broadcastInDim Cert.Reference12Ideal.S8192x1 ![0] Cert.Reference12Ideal.Gen.bcast_S8192_S8192x1_0 (Host.reduceAdd Z (constant Cert.Reference12Ideal.S_ .f32 0x00000000#32) Cert.Reference12Ideal.Gen.reducesTo_S8192x1024_S8192_d1 Cert.Reference12Ideal.Gen.h_S_))
    (broadcastInDim Cert.Reference12Ideal.S8192x1 ![] Cert.Reference12Ideal.Gen.bcast_S_S8192x1 (constant Cert.Reference12Ideal.S_ .f32 0x44800000#32))

def refC (Z : FVec Ideal S8192x1024 .f32) : FVec Ideal S8192x1024 .f32 :=
  subf Z (broadcastInDim S8192x1024 ![0, 1] Cert.Reference12Ideal.Gen.bcast_S8192x1_S8192x1024_0_1 (refM Z))

/-- The reference's layer norm. -/
def refN (Z : FVec Ideal S8192x1024 .f32) (G B : FVec Ideal S1024 .f32) : FVec Ideal S8192x1024 .bf16 :=
  truncf .bf16 (addf (mulf (mulf (refC Z) (broadcastInDim S8192x1024 ![0, 1] Cert.Reference12Ideal.Gen.bcast_S8192x1_S8192x1024_0_1
    (Host.rsqrt (addf (refM (mulf (refC Z) (refC Z))) (broadcastInDim Cert.Reference12Ideal.S8192x1 ![] Cert.Reference12Ideal.Gen.bcast_S_S8192x1 (constant Cert.Reference12Ideal.S_ .f32 0x3727C5AC#32))))))
    (broadcastInDim S8192x1024 ![0, 1] Cert.Reference12Ideal.Gen.bcast_S1x1024_S8192x1024_0_1 (broadcastInDim S1x1024 ![1] Cert.Reference12Ideal.Gen.bcast_S1024_S1x1024_1 G)))
    (broadcastInDim S8192x1024 ![0, 1] Cert.Reference12Ideal.Gen.bcast_S1x1024_S8192x1024_0_1 (broadcastInDim S1x1024 ![1] Cert.Reference12Ideal.Gen.bcast_S1024_S1x1024_1 B))) Cert.Reference12Ideal.Gen.bitsLt_bf16_f32

theorem refN_at (Z : FVec Ideal S8192x1024 .f32) (G B : FVec Ideal S1024 .f32) (n : Fin 8192) (j : Fin 1024) : refN Z G B (ix2 n j) = unit (fun k => Z (ix2 n k)) j * G (ix1 j) + B (ix1 j) := by
  pointwise [refN, refC, refM]
  rfl

theorem resZ : (dats m 0 c).arrAt 6 cfg0.N = refZ (aA m c) (aR m c) (aX m c) (aW m c) := by
  rw [arr6]
  funext y
  idx_vars y
  exact (refZ_at _ _ _ _ y0 y1).symm

theorem resN : (dats m 0 c).arrAt 7 cfg0.N = refN (refZ (aA m c) (aR m c) (aX m c) (aW m c)) (aG m c) (aB m c) := by
  rw [arr7]
  funext y
  idx_vars y
  refine Eq.symm ((refN_at _ _ _ y0 y1).trans ?_)
  exact congrArg (unit · y1 * _ + _) (funext fun k => refZ_at _ _ _ _ y0 k)

theorem ref_eq (m' : (ℓ : Loc Cert.Reference12Ideal.nD Cert.Reference12Ideal.τ Cert.Reference12Ideal.sig) → Buf (Elt Ideal) ℓ) (c' : Dev Cert.Reference12Ideal.nD) :
    Cert.Reference12Ideal.Value.res_main_v30 m' c' = refN (refZ (m' ((c'.tc : Thread _ _).loc Cert.Reference12Ideal.main_arg0)) (m' ((c'.tc : Thread _ _).loc Cert.Reference12Ideal.main_arg1)) (m' ((c'.tc : Thread _ _).loc Cert.Reference12Ideal.main_arg2)) (m' ((c'.tc : Thread _ _).loc Cert.Reference12Ideal.main_arg3))) (m' ((c'.tc : Thread _ _).loc Cert.Reference12Ideal.main_arg4)) (m' ((c'.tc : Thread _ _).loc Cert.Reference12Ideal.main_arg5)) := rfl

end Cert.Kernel12Ideal.Norm

end
-- ==== Proof.ProjClaims.lean ====
module

public import proofs.«01_k».proof.Defs
public import proofs.«01_k».proof.Proof.DwClaims
public import proofs.«01_k».proof.Proof.BackOut
public import proofs.«01_k».proof.Proof.BackIn
public import proofs.«01_k».proof.Proof.FwdIn
public import proofs.«01_k».proof.Proof.FwdOut
public import Idealize.ShloMosaic.Adequacy
public import Idealize.ShloMosaic.Init

@[expose] public section

noncomputable section

/-! The projections' calls: the references' runs, and the equality of each kernel's arrays with its reference's. -/

namespace Cert.Proof

open Idealize.ShloMosaic Idealize.SL.Sem

theorem congrArg₄ {α β γ δ ε : Type} (f : α → β → γ → δ → ε) {a a' : α} {b b' : β} {d d' : γ} {e e' : δ} (ha : a = a') (hb : b = b') (hd : d = d') (he : e = e') : f a b d e = f a' b' d' e' := by
  rw [ha, hb, hd, he]

theorem congrArg₆ {α β γ δ ε ζ η : Type} (f : α → β → γ → δ → ε → ζ → η) {a a' : α} {b b' : β} {d d' : γ} {e e' : δ} {i i' : ε} {j j' : ζ}
    (ha : a = a') (hb : b = b') (hd : d = d') (he : e = e') (hi : i = i') (hj : j = j') : f a b d e i j = f a' b' d' e' i' j' := by
  rw [ha, hb, hd, he, hi, hj]

theorem frame_reference9 : Cert.quiescent_Reference9Ideal := fun m ρ _ =>
  (θ_run Cert.Reference9Ideal.defs _ _).mono (fun r h => ⟨fun c => (h c).2.2, sem_eq_zero_of_no_sems (by decide) r.2⟩) (Cert.Reference9Ideal.Value.run (F := Ideal) m ρ)

theorem frame_reference10 : Cert.quiescent_Reference10Ideal := fun m ρ _ =>
  (θ_run Cert.Reference10Ideal.defs _ _).mono (fun r h => ⟨fun c => (h c).2.2, sem_eq_zero_of_no_sems (by decide) r.2⟩) (Cert.Reference10Ideal.Value.run (F := Ideal) m ρ)

theorem frame_reference11 : Cert.quiescent_Reference11Ideal := fun m ρ _ =>
  (θ_run Cert.Reference11Ideal.defs _ _).mono (fun r h => ⟨fun c => (h c).2.2.2.2.2, sem_eq_zero_of_no_sems (by decide) r.2⟩) (Cert.Reference11Ideal.Value.run (F := Ideal) m ρ)

theorem frame_reference12 : Cert.quiescent_Reference12Ideal := fun m ρ _ =>
  (θ_run Cert.Reference12Ideal.defs _ _).mono (fun r h => ⟨fun c => (h c).2.2, sem_eq_zero_of_no_sems (by decide) r.2⟩) (Cert.Reference12Ideal.Value.run (F := Ideal) m ρ)

section Out
open Cert.Kernel9Ideal.Out

theorem value9 : Cert.algebraic_Kernel9Ideal_Reference9Ideal := fun m g m' g' _ hA =>
  ⟨fun c => refA (aZ m c) (aW m c), fun c => refR (aZ m c) (aW m c),
    (θ_run _ _ _).mono (fun r h c => ⟨(h c).1.trans (resA m c), (h c).2.1.trans (resR m c), (h c).2.2⟩) (Cert.Kernel9Ideal.Value.run_blocks m g),
    (θ_run _ _ _).mono (fun r h c => ⟨(h c).1.trans (congrArg₂ refA (hA c).1 (hA c).2), (h c).2.1.trans (congrArg₂ refR (hA c).1 (hA c).2), (h c).2.2⟩) (Cert.Reference9Ideal.Value.run m' g')⟩

end Out

section In
open Cert.Kernel10Ideal.In

theorem value10 : Cert.algebraic_Kernel10Ideal_Reference10Ideal := fun m g m' g' _ hA =>
  ⟨fun c => refX (aQ m c) (aX m c) (aG m c) (aK m c) (aZ m c) (aW m c), fun c => refD (aQ m c) (aX m c) (aG m c) (aK m c),
    (θ_run _ _ _).mono (fun r h c => ⟨(h c).1.trans (resX m c), (h c).2.1.trans (resD m c), (h c).2.2⟩) (Cert.Kernel10Ideal.Value.run_blocks m g),
    (θ_run _ _ _).mono (fun r h c => ⟨(h c).1.trans (congrArg₆ refX (hA c).1 (hA c).2.2.1 (hA c).2.2.2.1 (hA c).2.1 (hA c).2.2.2.2.1 (hA c).2.2.2.2.2),
      (h c).2.1.trans (congrArg₄ refD (hA c).1 (hA c).2.2.1 (hA c).2.2.2.1 (hA c).2.1), (h c).2.2⟩) (Cert.Reference10Ideal.Value.run m' g')⟩

end In

section Proj
open Cert.Kernel11Ideal.Proj

theorem value11 : Cert.algebraic_Kernel11Ideal_Reference11Ideal := fun m g m' g' _ hA =>
  ⟨fun c => refQ (aX m c) (aW m c), fun c => refK (aX m c) (aW m c), fun c => refR (aX m c) (aW m c), fun c => refG (aX m c) (aW m c), fun c => refB (aX m c),
    (θ_run _ _ _).mono (fun r h c => ⟨(h c).1.trans (resQ m c), (h c).2.1.trans (resK m c), (h c).2.2.1.trans (resR m c), (h c).2.2.2.1.trans (resG m c), (h c).2.2.2.2.1.trans (resB m c), (h c).2.2.2.2.2⟩)
      (Cert.Kernel11Ideal.Value.run_blocks m g),
    (θ_run _ _ _).mono (fun r h c => ⟨(h c).1.trans (congrArg₂ refQ (hA c).1 (hA c).2), (h c).2.1.trans (congrArg₂ refK (hA c).1 (hA c).2), (h c).2.2.1.trans (congrArg₂ refR (hA c).1 (hA c).2),
      (h c).2.2.2.1.trans (congrArg₂ refG (hA c).1 (hA c).2), (h c).2.2.2.2.1.trans (congrArg refB (hA c).1), (h c).2.2.2.2.2⟩) (Cert.Reference11Ideal.Value.run m' g')⟩

end Proj

section Norm
open Cert.Kernel12Ideal.Norm

theorem value12 : Cert.algebraic_Kernel12Ideal_Reference12Ideal := fun m g m' g' _ hA =>
  ⟨fun c => refZ (aA m c) (aR m c) (aX m c) (aW m c), fun c => refN (refZ (aA m c) (aR m c) (aX m c) (aW m c)) (aG m c) (aB m c),
    (θ_run _ _ _).mono (fun r h c => ⟨(h c).1.trans (resZ m c), (h c).2.1.trans (resN m c), (h c).2.2⟩) (Cert.Kernel12Ideal.Value.run_blocks m g),
    (θ_run _ _ _).mono (fun r h c => ⟨(h c).1.trans (congrArg₄ refZ (hA c).1 (hA c).2.1 (hA c).2.2.1 (hA c).2.2.2.1),
      ((h c).2.1.trans (ref_eq m' c)).trans (congrArg₃ refN (congrArg₄ refZ (hA c).1 (hA c).2.1 (hA c).2.2.1 (hA c).2.2.2.1) (hA c).2.2.2.2.1 (hA c).2.2.2.2.2), (h c).2.2⟩) (Cert.Reference12Ideal.Value.run m' g')⟩

end Norm

end Cert.Proof

end
-- ==== Proof.UpPay.lean ====
module

public import proofs.«01_k».proof.Proof.Gen.Kernel13Ideal.Value
public import Idealize.ShloMosaic.Lib.Pipeline.ValueKit
public import Idealize.ShloMosaic.Lib.Pointwise
public import Idealize.ShloMosaic.Lib.WordCmp

@[expose] public section

set_option maxRecDepth 16384

noncomputable section

namespace Cert.Kernel13Ideal.Up

open Cert.Kernel13Ideal Cert.Kernel13Ideal.Gen Idealize.ShloMosaic Idealize.ShloMosaic.TcCoe Idealize.SL.Sem

/-- The two folded products of gelu's constants, gelu's first constant, and one half. -/
def cCK : EReal := Named.named (F := Ideal) κ "gelu_ck" (φ := .f32) 0x3D122279#32
def c3CK : EReal := Named.named (F := Ideal) κ "gelu_3ck" (φ := .f32) 0x3DDB33B6#32
def cC : EReal := Ideal.ofBits FTy.f32 0x3F4C422A#32
def cH : EReal := Ideal.ofBits FTy.f32 0x3F000000#32

/-- gelu at one number as the kernel forms it: the tangent, the half, the value, the derivative. -/
def th (x : EReal) : EReal := Ideal.tanh (x * (cC + cCK * (x * x)))
def hf (x : EReal) : EReal := cH * (1 + th x)
def ge (x : EReal) : EReal := x * hf x
def dge (x : EReal) : EReal := hf x * (1 + x * (1 - th x) * (cC + c3CK * (x * x)))

/-- One tile of a product with transposed weights. -/
def mm (x0 : FVec Ideal S1024x1024 .bf16) (x1 : FVec Ideal S768x1024 .bf16) (r : Fin 1024) (j : Fin 768) : EReal :=
  ∑ k : Fin 1024, x0 (ix2 r k) * x1 (ix2 j k)

/-- The gate's tile `s` rows further up, the rows before the first taken from the last of the eight rows `a`. -/
def up (s : ℕ) (hs : s ≤ 2) (x0 : FVec Ideal S1024x1024 .bf16) (x1 : FVec Ideal S768x1024 .bf16)
    (a : FVec Ideal S8x768 .f32) (r : Fin 1024) (j : Fin 768) : EReal :=
  if h : s ≤ (r : ℕ) then mm x0 x1 ⟨r - s, by omega⟩ j else a (ix2 ⟨8 + r - s, by omega⟩ j)

variable (x0 : FVec Ideal S1024x1024 .bf16) (x1 x2 : FVec Ideal S768x1024 .bf16) (a : FVec Ideal S8x768 .f32)
    (b w0 w1 w2 : FVec Ideal S1x1x768 .f32)

theorem pay5_at (r : Fin 1024) (j : Fin 768) : k0_pay5 (F := Ideal) x0 x1 (ix2 r j) = mm x0 x1 r j := by
  pointwise [k0_pay5, mm]

theorem pay6_at (r : Fin 1024) (j : Fin 768) : k0_pay6 (F := Ideal) x0 x2 (ix2 r j) = mm x0 x2 r j := by
  pointwise [k0_pay6, mm]

theorem pay7_at (u : Fin 1) (r : Fin 1024) (j : Fin 768) : k0_pay7 (F := Ideal) x0 x1 (ix3 u r j) = mm x0 x1 r j := by
  pointwise [k0_pay7]
  exact pay5_at x0 x1 r j

theorem pay10_at (r : Fin 8) (j : Fin 768) : k0_pay10 (F := Ideal) (k0_pay5 x0 x1) (ix2 r j) = mm x0 x1 ⟨1016 + r, by omega⟩ j := by
  pointwise [k0_pay10]
  exact pay5_at x0 x1 ⟨1016 + r, by omega⟩ j

theorem pay4_at (y : S8x768.Idx) : k0_pay4 (F := Ideal) y = (0 : EReal) := by
  pointwise [k0_pay4]

theorem up_sel (s : ℕ) (h1 : 1 ≤ s) (hs : s ≤ 2) (z : BitVec 32) (e : ∀ k : ℕ, k < 8 → (IntOp.cmpi .slt (BitVec.ofNat 32 k) z = (1 : BitVec 1) ↔ k < s))
    (r : Fin 1024) (j : Fin 768) :
    (if h : (r : ℕ) < 8 then Scalar.select (IntOp.cmpi .slt (BitVec.ofNat 32 r) z) (a (ix2 ⟨(r + 8 - s) % 8, by omega⟩ j))
        (k0_pay5 (F := Ideal) x0 x1 (ix2 ⟨(r + 1024 - s) % 1024, by omega⟩ j))
      else k0_pay5 (F := Ideal) x0 x1 (ix2 ⟨(8 + (r - 8) + 1024 - s) % 1024, by omega⟩ j)) = up s hs x0 x1 a r j := by
  unfold up
  by_cases h8 : (r : ℕ) < 8
  · rw [dif_pos h8]
    unfold Scalar.select
    by_cases h2 : s ≤ (r : ℕ)
    · rw [if_neg (fun h => by have := (e _ h8).1 h; omega), dif_pos h2, pay5_at]
      congr 1; ext; simp only; omega
    · rw [if_pos ((e _ h8).2 (by omega)), dif_neg h2]
      congr 2; ext; simp only; omega
  · rw [dif_neg h8, dif_pos (by omega), pay5_at]
    congr 1; ext; simp only; omega

theorem pay8_at (r : Fin 1024) (j : Fin 768) : k0_pay8 (F := Ideal) x0 x1 a b w0 (ix2 r j)
    = b (ix3 0 0 j) + w0 (ix3 0 0 j) * up 2 (by omega) x0 x1 a r j := by
  pointwise [k0_pay8]
  exact congrArg (b (ix3 0 0 j) + w0 (ix3 0 0 j) * ·) (up_sel x0 x1 a 2 (by omega) (by omega) 2#32 (fun k hk => by word_cmp) r j)

theorem pay9_at (v : FVec Ideal S1024x768 .f32) (r : Fin 1024) (j : Fin 768) : k0_pay9 (F := Ideal) (k0_pay5 x0 x1) a v w1 w2 (ix2 r j)
    = v (ix2 r j) + w1 (ix3 0 0 j) * up 1 (by omega) x0 x1 a r j + w2 (ix3 0 0 j) * mm x0 x1 r j := by
  pointwise [k0_pay9]
  rw [← pay5_at x0 x1 r j]
  exact congrArg (fun z => v (ix2 r j) + w1 (ix3 0 0 j) * z + w2 (ix3 0 0 j) * k0_pay5 (F := Ideal) x0 x1 (ix2 r j)) (up_sel x0 x1 a 1 (by omega) (by omega) 1#32 (fun k hk => by word_cmp) r j)

variable (v6 v9 v v65 v66 v69 v71 : FVec Ideal S1024x768 .f32)

theorem pay12_at (y : S1024x768.Idx) : k0_pay12 (F := Ideal) v6 a v w1 w2 y = th (k0_pay9 (F := Ideal) v6 a v w1 w2 y) := by
  pointwise [k0_pay12, k0_pay11, th]
  rfl

theorem pay13_at (y : S1024x768.Idx) : k0_pay13 (F := Ideal) v6 a v w1 w2 y = hf (k0_pay9 (F := Ideal) v6 a v w1 w2 y) := by
  pointwise [k0_pay13, hf]
  rw [pay12_at]
  rfl

theorem pay14_at (y : S1024x768.Idx) : k0_pay14 (F := Ideal) v6 a v w1 w2 y = ge (k0_pay9 (F := Ideal) v6 a v w1 w2 y) := by
  pointwise [k0_pay14, ge]
  rw [pay13_at]

theorem pay1_at (u : Fin 1) (r : Fin 1024) (j : Fin 768) : k0_pay1 (F := Ideal) (k0_pay14 v6 a v w1 w2) (ix3 u r j)
    = ge (k0_pay9 (F := Ideal) v6 a v w1 w2 (ix2 r j)) := by
  pointwise [k0_pay1]
  exact pay14_at a w1 w2 v6 v (ix2 r j)

theorem pay3_at (r : Fin 1024) (j : Fin 768) : k0_pay3 (F := Ideal) v9 (k0_pay14 v6 a v w1 w2) (ix2 r j)
    = ge (k0_pay9 (F := Ideal) v6 a v w1 w2 (ix2 r j)) * v9 (ix2 r j) := by
  pointwise [k0_pay3]
  rw [pay14_at]

theorem pay2_at (u : Fin 1) (r : Fin 1024) (j : Fin 768) :
    k0_pay2 (F := Ideal) v9 (k0_pay13 v6 a v w1 w2) (k0_pay15 v6 a v w1 w2) (k0_pay16 v6 a v w1 w2) k0_pay17 (ix3 u r j)
      = v9 (ix2 r j) * dge (k0_pay9 (F := Ideal) v6 a v w1 w2 (ix2 r j)) := by
  pointwise [k0_pay2, k0_pay15, k0_pay16, k0_pay17, k0_pay11]
  rw [pay13_at, pay12_at]
  rfl

end Cert.Kernel13Ideal.Up

end
-- ==== Proof.UpOut.lean ====
module

public import proofs.«01_k».proof.Proof.UpPay
public import Idealize.ShloMosaic.Lib.WritesUnit
public import Idealize.ShloMosaic.Lib.Pipeline.ReadBack

@[expose] public section

set_option maxRecDepth 16384

noncomputable section

namespace Cert.Kernel13Ideal.Up

open Cert.Kernel13Ideal Cert.Kernel13Ideal.Gen Idealize.ShloMosaic Idealize.ShloMosaic.TcCoe Idealize.SL.Sem

section Block

variable (x0 : FVec Ideal S1024x1024 .bf16) (x1 x2 : FVec Ideal S768x1024 .bf16) (x3 : FVec Ideal S1x3x768 .f32)
    (x4 : FVec Ideal S1x1x768 .f32) (a : FVec Ideal S8x768 .f32)

theorem ld_tap (κ : ℕ) (hκ : κ < 3) (i : ∀ a, (![0, κ, 0] : Fin 3 → ℕ) a + (![1, 1, 768] : Fin 3 → ℕ) a ≤ S1x3x768.size a) (j : Fin 768) :
    View.ld (Val := Elt Ideal) (e' := .f32) x3 (Rect.unit (s := S1x3x768) (![0, κ, 0] : Fin 3 → ℕ) (![1, 1, 768] : Fin 3 → ℕ) i) (ix3 0 0 j : S1x1x768.Idx) = x3 (ix3 0 ⟨κ, hκ⟩ j) := by
  refine congrArg x3 (funext fun a => Fin.ext ?_)
  fin_cases a
  · rfl
  · show κ + 1 * 0 = κ
    omega
  · show 0 + 1 * j.val = j.val
    omega

/-- The convolution's output on one tile. -/
def cv (r : Fin 1024) (j : Fin 768) : EReal :=
  x4 (ix3 0 0 j) + x3 (ix3 0 0 j) * up 2 (by omega) x0 x1 a r j + x3 (ix3 0 1 j) * up 1 (by omega) x0 x1 a r j
    + x3 (ix3 0 2 j) * mm x0 x1 r j

/-- The convolution's output as the body forms it. -/
abbrev cvp : FVec Ideal S1024x768 .f32 := k0_pay9 (F := Ideal) (k0_pay5 x0 x1) a
  (k0_pay8 x0 x1 a x4 (View.ld (Val := Elt Ideal) (e' := .f32) x3 (Rect.unit (s := S1x3x768) (![0, 0, 0] : Fin 3 → ℕ) (![1, 1, 768] : Fin 3 → ℕ) inb_S1x3x768_S1x1x768_0_0_0)))
  (View.ld (Val := Elt Ideal) (e' := .f32) x3 (Rect.unit (s := S1x3x768) (![0, 1, 0] : Fin 3 → ℕ) (![1, 1, 768] : Fin 3 → ℕ) inb_S1x3x768_S1x1x768_0_1_0))
  (View.ld (Val := Elt Ideal) (e' := .f32) x3 (Rect.unit (s := S1x3x768) (![0, 2, 0] : Fin 3 → ℕ) (![1, 1, 768] : Fin 3 → ℕ) inb_S1x3x768_S1x1x768_0_2_0))

theorem cvp_at (r : Fin 1024) (j : Fin 768) : cvp x0 x1 x3 x4 a (ix2 r j) = cv x0 x1 x3 x4 a r j := by
  unfold cvp cv
  rw [pay9_at, pay8_at, ld_tap x3 0 (by omega), ld_tap x3 1 (by omega), ld_tap x3 2 (by omega)]
  rfl

end Block

variable (m : (ℓ : Loc nD τ sig) → Buf (Elt Ideal) ℓ)

/-- What every point leaves in the carried rows: the last eight rows of its tile of the gate. -/
theorem scr (c : Dev nD) (t : Fin cfg0.N) (r : Fin 8) (j : Fin 768) :
    (outsAt0 m c t.val t.isLt).2.2.2.2 (ix2 r j) = mm (iblk m c 0 t) (iblk m c 1 t) ⟨1016 + r, by omega⟩ j := by
  by_cases h : t.val % 8 = 0
  · rw [outsAt0_A m c t h]; frame_out
    exact pay10_at _ _ r j
  · rw [outsAt0_B m c t h]; frame_out
    exact pay10_at _ _ r j

/-- The carried rows that point `t` begins with. -/
def car (c : Dev nD) (t : Fin cfg0.N) : FVec Ideal S8x768 .f32 := fun y =>
  if h : t.val % 8 = 0 then (0 : EReal)
  else mm (iblk m c 0 ⟨t.val - 1, by omega⟩) (iblk m c 1 ⟨t.val - 1, by omega⟩) ⟨1016 + y 0, by have := (y 0).isLt; simp at this; omega⟩ (y 1)

theorem carA (c : Dev nD) (t : Fin cfg0.N) (h : t.val % 8 = 0) : k0_pay4 (F := Ideal) = car m c t := by
  funext y; rw [pay4_at, car, dif_pos h]

theorem carB (c : Dev nD) (t : Fin cfg0.N) (h : ¬ t.val % 8 = 0) : (outsAt0 m c (t.val - 1) (by omega)).2.2.2.2 = car m c t := by
  funext y; idx_vars y
  rw [car, dif_neg h]
  exact scr m c ⟨t.val - 1, by omega⟩ _ _

theorem w5 (c : Dev nD) (t : Fin cfg0.N) (u : Fin 1) (r : Fin 1024) (j : Fin 768) :
    (outsAt0 m c t.val t.isLt).1 (ix3 u r j) = mm (iblk m c 0 t) (iblk m c 1 t) r j := by
  by_cases h : t.val % 8 = 0
  · rw [outsAt0_A m c t h]; frame_out
    exact pay7_at _ _ u r j
  · rw [outsAt0_B m c t h]; frame_out
    exact pay7_at _ _ u r j

/-- The convolution's output on the tile of point `t`. -/
abbrev cvt (c : Dev nD) (t : Fin cfg0.N) (r : Fin 1024) (j : Fin 768) : EReal :=
  cv (iblk m c 0 t) (iblk m c 1 t) (iblk m c 3 t) (iblk m c 4 t) (car m c t) r j

theorem w6 (c : Dev nD) (t : Fin cfg0.N) (u : Fin 1) (r : Fin 1024) (j : Fin 768) :
    (outsAt0 m c t.val t.isLt).2.1 (ix3 u r j) = ge (cvt m c t r j) := by
  by_cases h : t.val % 8 = 0
  · rw [outsAt0_A m c t h]; frame_out
    rw [carA m c t h]
    exact (pay1_at _ _ _ _ _ u r j).trans (congrArg ge (cvp_at _ _ _ _ _ r j))
  · rw [outsAt0_B m c t h]; frame_out
    simp only [read_unread_whole]
    rw [carB m c t h]
    exact (pay1_at _ _ _ _ _ u r j).trans (congrArg ge (cvp_at _ _ _ _ _ r j))

theorem w7 (c : Dev nD) (t : Fin cfg0.N) (u : Fin 1) (r : Fin 1024) (j : Fin 768) :
    (outsAt0 m c t.val t.isLt).2.2.1 (ix3 u r j) = mm (iblk m c 0 t) (iblk m c 2 t) r j * dge (cvt m c t r j) := by
  by_cases h : t.val % 8 = 0
  · rw [outsAt0_A m c t h]; frame_out
    rw [carA m c t h]
    exact (pay2_at _ _ _ _ _ _ u r j).trans (congr (congrArg _ (pay6_at _ _ r j)) (congrArg dge (cvp_at _ _ _ _ _ r j)))
  · rw [outsAt0_B m c t h]; frame_out
    simp only [read_unread_whole]
    rw [carB m c t h]
    exact (pay2_at _ _ _ _ _ _ u r j).trans (congr (congrArg _ (pay6_at _ _ r j)) (congrArg dge (cvp_at _ _ _ _ _ r j)))

theorem w8 (c : Dev nD) (t : Fin cfg0.N) (r : Fin 1024) (j : Fin 768) :
    (outsAt0 m c t.val t.isLt).2.2.2.1 (ix2 r j) = ge (cvt m c t r j) * mm (iblk m c 0 t) (iblk m c 2 t) r j := by
  by_cases h : t.val % 8 = 0
  · rw [outsAt0_A m c t h]; frame_out
    rw [carA m c t h]
    exact (pay3_at _ _ _ _ _ _ r j).trans (congr (congrArg _ (congrArg ge (cvp_at _ _ _ _ _ r j))) (pay6_at _ _ r j))
  · rw [outsAt0_B m c t h]; frame_out
    simp only [read_unread_whole]
    rw [carB m c t h]
    exact (pay3_at _ _ _ _ _ _ r j).trans (congr (congrArg _ (congrArg ge (cvp_at _ _ _ _ _ r j))) (pay6_at _ _ r j))

end Cert.Kernel13Ideal.Up

end
-- ==== Proof.UpArr.lean ====
module

public import proofs.«01_k».proof.Proof.UpOut

@[expose] public section

set_option maxRecDepth 16384

noncomputable section

namespace Cert.Kernel13Ideal.Up

open Cert.Kernel13Ideal Cert.Kernel13Ideal.Gen Idealize.ShloMosaic Idealize.ShloMosaic.TcCoe Idealize.SL.Sem

theorem idx : ∀ t : Fin cfg0.N, win0_0.index t = ![t.val % 8, 0] ∧ win0_1.index t = ![t.val / 8, 0]
    ∧ win0_2.index t = ![4 + t.val / 8, 0] ∧ win0_3.index t = ![t.val / 8, 0, 0]
    ∧ win0_4.index t = ![t.val / 8, 0, 0] ∧ win0_5.index t = ![t.val / 8, t.val % 8, 0]
    ∧ win0_6.index t = ![t.val / 8, t.val % 8, 0] ∧ win0_7.index t = ![t.val / 8, t.val % 8, 0]
    ∧ win0_8.index t = ![t.val % 8, t.val / 8] :=
  (by decide +kernel : ∀ t : Fin grid0.N, _)

theorem lt32 (t : Fin cfg0.N) : t.val < 32 := t.isLt.trans_eq N_0

variable (m : (ℓ : Loc nD τ sig) → Buf (Elt Ideal) ℓ) (c : Dev nD)

/-- The operands of the call as the region finds them. -/
def bH : FVec Ideal S8192x1024 .bf16 := V m c main_arg0
def bU : FVec Ideal S6144x1024 .bf16 := V m c main_v5
def bW : FVec Ideal S4x3x768 .f32 := V m c main_v1
def bB : FVec Ideal S4x1x768 .f32 := V m c main_v3

/-- The arguments, at their own shapes. -/
abbrev aH : FVec Ideal S8192x1024 .bf16 := m ((c : Thread nD τ).loc main_arg0)
abbrev aU : FVec Ideal S1024x6144 .f32 := m ((c : Thread nD τ).loc main_arg1)
abbrev aW : FVec Ideal S3x3072 .f32 := m ((c : Thread nD τ).loc main_arg2)
abbrev aB : FVec Ideal S3072 .f32 := m ((c : Thread nD τ).loc main_arg3)

/-- The row of the arrays at which row `r` of point `t`'s tile lies. -/
def row (t : Fin cfg0.N) (r : Fin 1024) : Fin 8192 := ⟨t.val % 8 * 1024 + r, by omega⟩
/-- The chunk of channels of point `t`. -/
def chk (t : Fin cfg0.N) : Fin 4 := ⟨t.val / 8, by have := lt32 t; omega⟩
/-- Channel `j` of chunk `q`. -/
def chan (q : Fin 4) (j : Fin 768) : Fin 3072 := ⟨q * 768 + j, by omega⟩

theorem bH_at : bH m c = aH m c := by
  unfold bH
  entry_read
  rfl
theorem bU_at (i : Fin 6144) (k : Fin 1024) : bU m c (ix2 i k) = aU m c (ix2 k i) := by
  unfold bU
  entry_read
  pointwise
theorem bW_at (q : Fin 4) (k : Fin 3) (j : Fin 768) : bW m c (ix3 q k j) = aW m c (ix2 k (chan q j)) := by
  unfold bW chan
  entry_read
  pointwise
theorem bB_at (q : Fin 4) (j : Fin 768) : bB m c (ix3 q 0 j) = aB m c (ix1 (chan q j)) := by
  unfold bB chan
  entry_read
  pointwise

theorem blk0 (t : Fin cfg0.N) (r k : Fin 1024) : (iblk m c 0 t : FVec Ideal S1024x1024 .bf16) (ix2 r k) = aH m c (ix2 (row t r) k) := by
  rw [← bH_at]
  unfold bH row
  blk_ext [iblk, idx t]
theorem blk1 (t : Fin cfg0.N) (j : Fin 768) (k : Fin 1024) :
    (iblk m c 1 t : FVec Ideal S768x1024 .bf16) (ix2 j k) = aU m c (ix2 k ⟨chan (chk t) j, by omega⟩) := by
  rw [← bU_at]
  unfold bU chan chk
  blk_ext [iblk, idx t]
theorem blk2 (t : Fin cfg0.N) (j : Fin 768) (k : Fin 1024) :
    (iblk m c 2 t : FVec Ideal S768x1024 .bf16) (ix2 j k) = aU m c (ix2 k ⟨3072 + chan (chk t) j, by omega⟩) := by
  rw [← bU_at]
  unfold bU chan chk
  blk_ext [iblk, idx t]
theorem blk3 (t : Fin cfg0.N) (k : Fin 3) (j : Fin 768) : (iblk m c 3 t : FVec Ideal S1x3x768 .f32) (ix3 0 k j) = aW m c (ix2 k (chan (chk t) j)) := by
  rw [← bW_at]
  unfold bW chk
  blk_ext [iblk, idx t]
theorem blk4 (t : Fin cfg0.N) (j : Fin 768) : (iblk m c 4 t : FVec Ideal S1x1x768 .f32) (ix3 0 0 j) = aB m c (ix1 (chan (chk t) j)) := by
  rw [← bB_at]
  unfold bB chk
  blk_ext [iblk, idx t]

/-- The product of the inputs and the up-projection, row `r`, column `i`. -/
def pr (x : FVec Ideal S8192x1024 .bf16) (u : FVec Ideal S1024x6144 .f32) (r : Fin 8192) (i : Fin 6144) : EReal :=
  ∑ k : Fin 1024, x (ix2 r k) * u (ix2 k i)

/-- The gate `s` rows further up, nothing before the first row. -/
def gs (x : FVec Ideal S8192x1024 .bf16) (u : FVec Ideal S1024x6144 .f32) (s : ℕ) (r : Fin 8192) (j : Fin 3072) : EReal :=
  if h : s ≤ (r : ℕ) then pr x u ⟨r - s, by omega⟩ ⟨j, by omega⟩ else 0

/-- The convolution's output. -/
def co (x : FVec Ideal S8192x1024 .bf16) (u : FVec Ideal S1024x6144 .f32) (w : FVec Ideal S3x3072 .f32) (b : FVec Ideal S3072 .f32)
    (r : Fin 8192) (j : Fin 3072) : EReal :=
  b (ix1 j) + w (ix2 0 j) * gs x u 2 r j + w (ix2 1 j) * gs x u 1 r j + w (ix2 2 j) * pr x u r ⟨j, by omega⟩

theorem mm1 (t : Fin cfg0.N) (r : Fin 1024) (j : Fin 768) :
    mm (iblk m c 0 t) (iblk m c 1 t) r j = pr (aH m c) (aU m c) (row t r) ⟨chan (chk t) j, by omega⟩ := by
  unfold mm pr
  simp only [blk0, blk1]

theorem mm2 (t : Fin cfg0.N) (r : Fin 1024) (j : Fin 768) :
    mm (iblk m c 0 t) (iblk m c 2 t) r j = pr (aH m c) (aU m c) (row t r) ⟨3072 + chan (chk t) j, by omega⟩ := by
  unfold mm pr
  simp only [blk0, blk2]

theorem up_eq (s : ℕ) (hs : s ≤ 2) (t : Fin cfg0.N) (r : Fin 1024) (j : Fin 768) :
    up s hs (iblk m c 0 t) (iblk m c 1 t) (car m c t) r j = gs (aH m c) (aU m c) s (row t r) (chan (chk t) j) := by
  unfold up gs
  by_cases h : s ≤ (r : ℕ)
  · rw [dif_pos h, dif_pos (by simp only [row]; omega), mm1]
    congr 1
    ext; simp only [row]; omega
  · rw [dif_neg h]
    unfold car
    by_cases h0 : t.val % 8 = 0
    · rw [dif_pos h0, dif_neg (by simp only [row]; omega)]
    · have e : chk ⟨t.val - 1, by omega⟩ = chk t := Fin.ext (by simp only [chk]; omega)
      rw [dif_neg h0, dif_pos (by simp only [row]; omega)]
      refine (mm1 m c ⟨t.val - 1, by omega⟩ _ _).trans ?_
      refine congr (congrArg (pr (aH m c) (aU m c)) (Fin.ext ?_)) (Fin.ext ?_)
      · show (t.val - 1) % 8 * 1024 + (1016 + (8 + r.val - s)) = t.val % 8 * 1024 + r.val - s
        omega
      · exact congrArg (fun q : Fin 4 => (q : ℕ) * 768 + (j : ℕ)) e

theorem cv_eq (t : Fin cfg0.N) (r : Fin 1024) (j : Fin 768) :
    cvt m c t r j = co (aH m c) (aU m c) (aW m c) (aB m c) (row t r) (chan (chk t) j) := by
  unfold cvt cv co
  rw [blk4, blk3, blk3, blk3, up_eq, up_eq, mm1]

/-- The four arrays as the call leaves them. -/
def outG (x : FVec Ideal S8192x1024 .bf16) (u : FVec Ideal S1024x6144 .f32) (q : Fin 4) (r : Fin 8192) (j : Fin 768) : EReal :=
  pr x u r ⟨chan q j, by omega⟩
def outE (x : FVec Ideal S8192x1024 .bf16) (u : FVec Ideal S1024x6144 .f32) (w : FVec Ideal S3x3072 .f32) (b : FVec Ideal S3072 .f32)
    (q : Fin 4) (r : Fin 8192) (j : Fin 768) : EReal := ge (co x u w b r (chan q j))
def outD (x : FVec Ideal S8192x1024 .bf16) (u : FVec Ideal S1024x6144 .f32) (w : FVec Ideal S3x3072 .f32) (b : FVec Ideal S3072 .f32)
    (q : Fin 4) (r : Fin 8192) (j : Fin 768) : EReal := pr x u r ⟨3072 + chan q j, by omega⟩ * dge (co x u w b r (chan q j))
def outA (x : FVec Ideal S8192x1024 .bf16) (u : FVec Ideal S1024x6144 .f32) (w : FVec Ideal S3x3072 .f32) (b : FVec Ideal S3072 .f32)
    (r : Fin 8192) (j : Fin 3072) : EReal := ge (co x u w b r j) * pr x u r ⟨3072 + j, by omega⟩

theorem o5 (t : Fin cfg0.N) (u : Fin 1) (r : Fin 1024) (j : Fin 768) :
    (outsAt0 m c t.val t.isLt).1 (ix3 u r j) = outG (aH m c) (aU m c) (chk t) (row t r) j := (w5 m c t u r j).trans (mm1 m c t r j)
theorem o6 (t : Fin cfg0.N) (u : Fin 1) (r : Fin 1024) (j : Fin 768) :
    (outsAt0 m c t.val t.isLt).2.1 (ix3 u r j) = outE (aH m c) (aU m c) (aW m c) (aB m c) (chk t) (row t r) j := by
  rw [w6, cv_eq, outE]
theorem o7 (t : Fin cfg0.N) (u : Fin 1) (r : Fin 1024) (j : Fin 768) :
    (outsAt0 m c t.val t.isLt).2.2.1 (ix3 u r j) = outD (aH m c) (aU m c) (aW m c) (aB m c) (chk t) (row t r) j := by
  rw [w7, cv_eq, mm2, outD]
theorem o8 (t : Fin cfg0.N) (r : Fin 1024) (j : Fin 768) :
    (outsAt0 m c t.val t.isLt).2.2.2.1 (ix2 r j) = outA (aH m c) (aU m c) (aW m c) (aB m c) (row t r) (chan (chk t) j) := by
  rw [w8, cv_eq, mm2, outA]

theorem arr5 : (dats m 0 c).arrAt 5 cfg0.N = (fun y => outG (aH m c) (aU m c) (y 0) (y 1) (y 2) : FVec Ideal S4x8192x768 .bf16) := by
  refine (dats m 0 c).arrAt_eq_of_covers 5 _ (by decide +kernel) fun t hf y => ?_
  blk_simp
  rw [after0_5]
  idx_vars y
  rw [o5]
  refine congr (congr (congrArg (outG (aH m c) (aU m c)) (Fin.ext ?_)) (Fin.ext ?_)) (Fin.ext ?_)
  · blk_simp [idx t]
    rfl
  · blk_simp [idx t]
    rfl
  · blk_simp [idx t]

theorem arr6 : (dats m 0 c).arrAt 6 cfg0.N = (fun y => outE (aH m c) (aU m c) (aW m c) (aB m c) (y 0) (y 1) (y 2) : FVec Ideal S4x8192x768 .bf16) := by
  refine (dats m 0 c).arrAt_eq_of_covers 6 _ (by decide +kernel) fun t hf y => ?_
  blk_simp
  rw [after0_6]
  idx_vars y
  rw [o6]
  refine congr (congr (congrArg (outE (aH m c) (aU m c) (aW m c) (aB m c)) (Fin.ext ?_)) (Fin.ext ?_)) (Fin.ext ?_)
  · blk_simp [idx t]
    rfl
  · blk_simp [idx t]
    rfl
  · blk_simp [idx t]

theorem arr7 : (dats m 0 c).arrAt 7 cfg0.N = (fun y => outD (aH m c) (aU m c) (aW m c) (aB m c) (y 0) (y 1) (y 2) : FVec Ideal S4x8192x768 .bf16) := by
  refine (dats m 0 c).arrAt_eq_of_covers 7 _ (by decide +kernel) fun t hf y => ?_
  blk_simp
  rw [after0_7]
  idx_vars y
  rw [o7]
  refine congr (congr (congrArg (outD (aH m c) (aU m c) (aW m c) (aB m c)) (Fin.ext ?_)) (Fin.ext ?_)) (Fin.ext ?_)
  · blk_simp [idx t]
    rfl
  · blk_simp [idx t]
    rfl
  · blk_simp [idx t]

theorem arr8 : (dats m 0 c).arrAt 8 cfg0.N = (fun y => outA (aH m c) (aU m c) (aW m c) (aB m c) (y 0) (y 1) : FVec Ideal S8192x3072 .bf16) := by
  refine (dats m 0 c).arrAt_eq_of_covers 8 _ (by decide +kernel) fun t hf y => ?_
  blk_simp
  rw [after0_8]
  idx_vars y
  rw [o8]
  refine congr (congrArg (outA (aH m c) (aU m c) (aW m c) (aB m c)) (Fin.ext ?_)) (Fin.ext ?_)
  · blk_simp [idx t]
    rfl
  · blk_simp [idx t]
    rfl

end Cert.Kernel13Ideal.Up

end
-- ==== Proof.FfnReal.lean ====
module

public import proofs.«01_k».proof.Proof.Gen.Pre_finite
public import Idealize.ShloMosaic.Lib.ReduceAll
public import Idealize.ShloMosaic.Lib.Pointwise
public import Idealize.ShloMosaic.Lib.Pipeline.ValueKit

@[expose] public section

set_option maxRecDepth 16384

noncomputable section

namespace Cert.Ffn

open Idealize.ShloMosaic Cert.Pre_finite Cert.Pre_finite.Gen

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, by norm_cast⟩
theorem IsR.mul {x y : EReal} (hx : IsR x) (hy : IsR y) : IsR (x * y) := by
  obtain ⟨a, rfl⟩ := hx; obtain ⟨b, rfl⟩ := hy; exact ⟨a * b, by norm_cast⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (by simp)).add (ih fun i hi => h i (by simp [hi]))
theorem isR_of_ne {x : EReal} (h1 : x ≠ ⊤) (h2 : x ≠ ⊥) : IsR x := ⟨x.toReal, (EReal.coe_toReal h1 h2).symm⟩

variable (a0 : FVec Ideal S8192x6144 .f32) (a1 : FVec Ideal S3x3072 .f32) (a2 : FVec Ideal S3072 .f32)
  (a3 : FVec Ideal S3072x1024 .f32) (a4 : FVec Ideal S8192x1024 .bf16)

instance : Subsingleton S_.Idx := ⟨fun a b => funext fun i => i.elim0⟩

theorem all_real {s : Shape} (x : FVec Ideal s .f32) (axes : List (Fin s.rank)) (hb) (hr : s.ReducesTo axes S_) (j)
    (h : Host.reduce IntOp.andi (cmpf .olt (Host.absf x) (broadcastInDim s ![] hb (constant S_ .f32 0x7F800000#32))) (constantI S_ 1 1#1) hr h_S_ j = 1#1) (i : s.Idx) :
    IsR (x i) := by
  have := Host.reduce_andi_all _ _ hr h_S_ j h i
  revert this
  pointwise
  have ht : Ideal.ofBits FTy.f32 2139095040#32 = ⊤ := by simp [Ideal.ofBits, Ideal.ieee]
  rw [ht]
  intro h
  have h' : max (x i : EReal) (-(x i : EReal)) < ⊤ := by
    by_contra hn
    have hd : decide (FloatOps.absf (x i) < (⊤ : EReal)) = false := decide_eq_false hn
    rw [hd] at h
    exact absurd h (by decide)
  refine isR_of_ne (fun e => ?_) (fun e => ?_)
  · rw [e] at h'; simp at h'
  · rw [e] at h'; simp at h'

theorem IsR.tanh {x : EReal} (h : IsR x) : IsR (Ideal.tanh x) := by
  obtain ⟨a, rfl⟩ := h; exact ⟨Real.tanh a, Ideal.tanh_coe a⟩

/-- The pull of `a * b` through the smooth gate is `a` times the pull of `b`. -/
theorem pull_mul {a b x t p C K H O T : EReal} (ha : IsR a) (hb : IsR b) (hx : IsR x) (ht : IsR t) (hp : IsR p) (hC : IsR C) (hK : IsR K)
    (hH : IsR H) (hO : IsR O) (hT : IsR T) :
    a * b * p + C * (H * (x * (a * b)) * ((O + t) * (O - t))) + K * (C * (H * (x * (a * b)) * ((O + t) * (O - t)))) * (T * (x * x))
      = a * (b * p + C * (H * (x * b) * ((O + t) * (O - t))) + K * (C * (H * (x * b) * ((O + t) * (O - t)))) * (T * (x * x))) := by
  obtain ⟨a, rfl⟩ := ha; obtain ⟨b, rfl⟩ := hb; obtain ⟨x, rfl⟩ := hx; obtain ⟨t, rfl⟩ := ht; obtain ⟨p, rfl⟩ := hp
  obtain ⟨C, rfl⟩ := hC; obtain ⟨K, rfl⟩ := hK; obtain ⟨H, rfl⟩ := hH; obtain ⟨O, rfl⟩ := hO; obtain ⟨T, rfl⟩ := hT
  norm_cast
  congr 1
  ring

theorem pre (h : Cert.Pre_finite.fn (F := Ideal) a0 a1 a2 a3 a4 = fun _ => 1#1) :
    (∀ i, IsR (a0 i)) ∧ (∀ i, IsR (a1 i)) ∧ (∀ i, IsR (a2 i)) ∧ (∀ i, IsR (a3 i)) ∧ (∀ i, IsR (a4 i)) := by
  have e := congrFun h (fun i => i.elim0)
  unfold Cert.Pre_finite.fn Cert.Pre_finite.fn_part1 at e
  simp only [andi, IntOp.andi_eq_one] at e
  obtain ⟨⟨⟨⟨e0, e1⟩, e2⟩, e3⟩, e4⟩ := e
  exact ⟨all_real a0 _ _ _ _ e0, all_real a1 _ _ _ _ e1, all_real a2 _ _ _ _ e2, all_real a3 _ _ _ _ e3, all_real (extf .f32 a4 bitsLt_bf16_f32) _ _ _ _ e4⟩

end Cert.Ffn

end
-- ==== Proof.UpRef.lean ====
module

public import proofs.«01_k».proof.Proof.UpArr
public import proofs.«01_k».proof.Proof.FfnReal
public import proofs.«01_k».proof.Proof.Gen.Reference13Ideal.Run
public import proofs.«01_k».proof.Proof.Gen.Pre_finite13
public import Idealize.ShloMosaic.Lib.Pointwise

@[expose] public section

set_option maxRecDepth 16384

noncomputable section

namespace Cert.Reference13Ideal.Up

open Cert.Reference13Ideal Cert.Reference13Ideal.Gen Cert.Reference13Ideal.Value Cert.Kernel13Ideal.Up Cert.Ffn
open Idealize.ShloMosaic Idealize.ShloMosaic.TcCoe Idealize.SL.Sem

section Consts

theorem cC_eq : cC = ((6693141 / 8388608 : ℝ) : EReal) := by
  unfold cC; simp [Ideal.ofBits, Ideal.ieee, -EReal.coe_mul]; norm_num
theorem cK_eq : Ideal.ofBits FTy.f32 0x3D372713#32 = ((12003091 / 268435456 : ℝ) : EReal) := by
  simp [Ideal.ofBits, Ideal.ieee, -EReal.coe_mul]; norm_num
theorem cH_eq : cH = ((1 / 2 : ℝ) : EReal) := by
  unfold cH; simp [Ideal.ofBits, Ideal.ieee, -EReal.coe_mul]; norm_num
theorem cT_eq : Ideal.ofBits FTy.f32 0x40400000#32 = ((3 : ℝ) : EReal) := by
  simp [Ideal.ofBits, Ideal.ieee, -EReal.coe_mul]; norm_num
theorem cCK_eq : cCK = ((80338380498831 / 2251799813685248 : ℝ) : EReal) := IdealRules.named_const.ideal_named_scalar _ _ _ _ rfl
theorem c3CK_eq : c3CK = ((241015141496493 / 2251799813685248 : ℝ) : EReal) := IdealRules.named_const.ideal_named_scalar _ _ _ _ rfl

end Consts

/-- The tangent as the reference forms it. -/
def rth (x : EReal) : EReal := Ideal.tanh (cC * (x + Ideal.ofBits FTy.f32 0x3D372713#32 * (x * x * x)))

theorem rth_top : rth ⊤ = 1 := by
  unfold rth
  rw [cC_eq, cK_eq, EReal.top_mul_top, EReal.top_mul_top, EReal.coe_mul_top_of_pos (by norm_num), EReal.top_add_top,
    EReal.coe_mul_top_of_pos (by norm_num), Ideal.tanh_top]
theorem rth_bot : rth ⊥ = -1 := by
  unfold rth
  rw [cC_eq, cK_eq, EReal.bot_mul_bot, EReal.top_mul_bot, EReal.coe_mul_bot_of_pos (by norm_num), EReal.bot_add,
    EReal.coe_mul_bot_of_pos (by norm_num), Ideal.tanh_bot]
theorem th_top : th ⊤ = 1 := by
  unfold th
  rw [cC_eq, cCK_eq, EReal.top_mul_top, EReal.coe_mul_top_of_pos (by norm_num), EReal.coe_add_top, EReal.top_mul_top, Ideal.tanh_top]
theorem th_bot : th ⊥ = -1 := by
  unfold th
  rw [cC_eq, cCK_eq, EReal.bot_mul_bot, EReal.coe_mul_top_of_pos (by norm_num), EReal.coe_add_top, EReal.bot_mul_top, Ideal.tanh_bot]

theorem rth_eq (x : EReal) : rth x = th x := by
  induction x with
  | bot => rw [rth_bot, th_bot]
  | top => rw [rth_top, th_top]
  | coe x =>
    unfold rth th
    rw [cC_eq, cK_eq, cCK_eq]
    refine congrArg Ideal.tanh ?_
    norm_cast
    ring

theorem th_real {x : EReal} (hx : IsR x) : IsR (th x) := by
  unfold th
  rw [cC_eq, cCK_eq]
  exact (hx.mul ((IsR.coe _).add ((IsR.coe _).mul (hx.mul hx)))).tanh

/-- The derivative that the reference pulls back, times the value's half. -/
def rdv (x v : EReal) : EReal :=
  v * (cH * (1 + rth x)) + cC * (cH * (x * v) * ((1 + rth x) * (1 - rth x)))
    + Ideal.ofBits FTy.f32 0x3D372713#32 * (cC * (cH * (x * v) * ((1 + rth x) * (1 - rth x)))) * (Ideal.ofBits FTy.f32 0x40400000#32 * (x * x))

theorem sub_one : (1 : EReal) - 1 = 0 := by rw [← EReal.coe_one, ← EReal.coe_sub, sub_self, EReal.coe_zero]
theorem add_neg_one : (1 : EReal) + -1 = 0 := by rw [← EReal.coe_one, ← EReal.coe_neg, ← EReal.coe_add, add_neg_cancel, EReal.coe_zero]

theorem rdv_eq (x : EReal) {v : EReal} (hv : IsR v) : rdv x v = v * dge x := by
  unfold rdv dge hf
  rw [rth_eq]
  obtain ⟨v, rfl⟩ := hv
  induction x with
  | bot =>
    rw [th_bot, add_neg_one]
    simp only [mul_zero, zero_mul, add_zero]
  | top =>
    rw [th_top, sub_one]
    simp only [mul_zero, zero_mul, add_zero, mul_one]
  | coe x =>
    obtain ⟨t, ht⟩ := th_real (IsR.coe x)
    rw [ht, cC_eq, cK_eq, cH_eq, cT_eq, c3CK_eq]
    norm_cast
    congr 1
    ring

variable (x : FVec Ideal S8192x1024 .bf16) (u : FVec Ideal S1024x6144 .f32) (w : FVec Ideal S3x3072 .f32) (b : FVec Ideal S3072 .f32)

/-- The reference's steps: the product, its halves, the padded gate, the convolution, the tangent, the outputs. -/
def rU : FVec Ideal S8192x6144 .f32 := Host.dotGeneral dot_S8192x1024_S1024x6144_S8192x6144_1_0_0_1_n_n none (extf .f32 x bitsLt_bf16_f32) u
def rG : FVec Ideal S8192x3072 .f32 := extractStridedSlice S8192x3072 ![0, 0] (rU x u) slices_S8192x6144_S8192x3072_0_0
def rV : FVec Ideal S8192x3072 .f32 := extractStridedSlice S8192x3072 ![0, 3072] (rU x u) slices_S8192x6144_S8192x3072_0_3072
def rP : FVec Ideal S8194x3072 .f32 := concatenate S8194x3072 0 [⟨S2x3072, (broadcastInDim S2x3072 ![] bcast_S_S2x3072 (constant S_ .f32 0x00000000#32))⟩, ⟨S8192x3072, rG x u⟩] concatenates_S2x3072_S8192x3072_S8194x3072_d0
def rTap (i : Fin 2 → ℕ) (h : S3x3072.Slices i S1x3072) : FVec Ideal S8192x3072 .f32 :=
  broadcastInDim S8192x3072 ![0, 1] bcast_S1x3072_S8192x3072_0_1 (broadcastInDim S1x3072 ![1] bcast_S3072_S1x3072_1 (shapeCast S3072 (extractStridedSlice S1x3072 i w h) shapeCasts_S1x3072_S3072))
def rC : FVec Ideal S8192x3072 .f32 :=
  addf (addf (addf (addf (broadcastInDim S8192x3072 ![] bcast_S_S8192x3072 (constant S_ .f32 0x00000000#32))
    (mulf (rTap w ![0, 0] slices_S3x3072_S1x3072_0_0) (extractStridedSlice S8192x3072 ![0, 0] (rP x u) slices_S8194x3072_S8192x3072_0_0)))
    (mulf (rTap w ![1, 0] slices_S3x3072_S1x3072_1_0) (extractStridedSlice S8192x3072 ![1, 0] (rP x u) slices_S8194x3072_S8192x3072_1_0)))
    (mulf (rTap w ![2, 0] slices_S3x3072_S1x3072_2_0) (extractStridedSlice S8192x3072 ![2, 0] (rP x u) slices_S8194x3072_S8192x3072_2_0)))
    (broadcastInDim S8192x3072 ![0, 1] bcast_S1x3072_S8192x3072_0_1 (broadcastInDim S1x3072 ![1] bcast_S3072_S1x3072_1 b))
/-- A constant at every index. -/
abbrev all (k : BitVec 32) : FVec Ideal S8192x3072 .f32 := broadcastInDim S8192x3072 ![] bcast_S_S8192x3072 (constant S_ .f32 k)
def rT (z : FVec Ideal S8192x3072 .f32) : FVec Ideal S8192x3072 .f32 :=
  Host.tanh (mulf (all 0x3F4C422A#32) (addf z (mulf (all 0x3D372713#32) (mulf (mulf z z) z))))
def rH (z : FVec Ideal S8192x3072 .f32) : FVec Ideal S8192x3072 .f32 := mulf (all 0x3F000000#32) (addf (all 0x3F800000#32) (rT z))
def rE (z : FVec Ideal S8192x3072 .f32) : FVec Ideal S8192x3072 .f32 := mulf z (rH z)
def rI (z v : FVec Ideal S8192x3072 .f32) : FVec Ideal S8192x3072 .f32 :=
  mulf (all 0x3F4C422A#32) (mulf (mulf (all 0x3F000000#32) (mulf z v)) (mulf (addf (all 0x3F800000#32) (rT z)) (subf (all 0x3F800000#32) (rT z))))
def rD (z v : FVec Ideal S8192x3072 .f32) : FVec Ideal S8192x3072 .f32 :=
  addf (addf (mulf v (rH z)) (rI z v)) (mulf (mulf (all 0x3D372713#32) (rI z v)) (mulf (all 0x40400000#32) (mulf z z)))
/-- One of the three outputs that the call lays out by chunks. -/
def rL (z : FVec Ideal S8192x3072 .f32) : FVec Ideal S4x8192x768 .bf16 :=
  truncf .bf16 (transpose S4x8192x768 [1, 0, 2] (shapeCast S8192x4x768 z shapeCasts_S8192x3072_S8192x4x768) transposes_S8192x4x768_S4x8192x768_1_0_2) bitsLt_bf16_f32

variable (m : (ℓ : Loc nD τ sig) → Buf (Elt Ideal) ℓ) (c : Dev nD)

/-- The reference's arguments, at their own shapes. -/
abbrev lH : FVec Ideal S8192x1024 .bf16 := m ((c.tc : Thread nD τ).loc main_arg0)
abbrev lU : FVec Ideal S1024x6144 .f32 := m ((c.tc : Thread nD τ).loc main_arg1)
abbrev lW : FVec Ideal S3x3072 .f32 := m ((c.tc : Thread nD τ).loc main_arg2)
abbrev lB : FVec Ideal S3072 .f32 := m ((c.tc : Thread nD τ).loc main_arg3)

theorem out1_eq : res_main_v57 m c = rL (rE (rC (lH m c) (lU m c) (lW m c) (lB m c))) := by
  unfold res_main_v57; rfl
theorem out2_eq : res_main_v72 m c = rL (rD (rC (lH m c) (lU m c) (lW m c) (lB m c)) (rV (lH m c) (lU m c))) := by
  unfold res_main_v72; rfl
theorem out3_eq : res_main_v74 m c = (truncf .bf16 (mulf (rE (rC (lH m c) (lU m c) (lW m c) (lB m c))) (rV (lH m c) (lU m c))) bitsLt_bf16_f32 : FVec Ideal S8192x3072 .bf16) := by
  unfold res_main_v74; rfl

theorem rU_at (r : Fin 8192) (i : Fin 6144) : rU x u (ix2 r i) = pr x u r i := by
  pointwise [rU, pr]
theorem rG_at (r : Fin 8192) (j : Fin 3072) : rG x u (ix2 r j) = pr x u r ⟨j, by omega⟩ := by
  pointwise [rG]
  exact rU_at x u r ⟨j, by omega⟩
theorem rV_at (r : Fin 8192) (j : Fin 3072) : rV x u (ix2 r j) = pr x u r ⟨3072 + j, by omega⟩ := by
  pointwise [rV]
  exact rU_at x u r ⟨3072 + j, by omega⟩
theorem rP_at (r : Fin 8194) (j : Fin 3072) : rP x u (ix2 r j) = if h : 2 ≤ (r : ℕ) then pr x u ⟨r - 2, by omega⟩ ⟨j, by omega⟩ else 0 := by
  pointwise [rP]
  by_cases h : 2 ≤ (r : ℕ)
  · rw [dif_neg (by omega), dif_pos h, rG_at]
  · rw [dif_pos (by omega), dif_neg h]
theorem rC_at (r : Fin 8192) (j : Fin 3072) : rC x u w b (ix2 r j) = co x u w b r j := by
  have e2 : rP x u (ix2 ⟨r, by omega⟩ j) = gs x u 2 r j := rP_at x u ⟨r, by omega⟩ j
  have e1 : rP x u (ix2 ⟨r + 1, by omega⟩ j) = gs x u 1 r j := by
    rw [rP_at, gs]
    by_cases h : 1 ≤ (r : ℕ)
    · rw [dif_pos (by simp only; omega), dif_pos h]
      congr 1
    · rw [dif_neg (by simp only; omega), dif_neg h]
  have e0 : rP x u (ix2 ⟨r + 2, by omega⟩ j) = pr x u r ⟨j, by omega⟩ := by
    rw [rP_at, dif_pos (by simp only; omega)]
    congr 1
  pointwise [rC, rTap]
  unfold co
  rw [← e2, ← e1, ← e0]
  simp only [Nat.add_comm 1, Nat.add_comm 2]
  abel
theorem rT_at (z : FVec Ideal S8192x3072 .f32) (y) : rT z y = rth (z y) := by
  pointwise [rT]
  rfl
theorem rH_at (z : FVec Ideal S8192x3072 .f32) (y) : rH z y = cH * (1 + rth (z y)) := by
  pointwise [rH]
  rw [rT_at]
  rfl
theorem rE_at (z : FVec Ideal S8192x3072 .f32) (y) : rE z y = ge (z y) := by
  pointwise [rE]
  rw [rH_at, rth_eq]
  rfl
theorem rD_at (z v : FVec Ideal S8192x3072 .f32) (y) : rD z v y = rdv (z y) (v y) := by
  pointwise [rD, rI]
  rw [rH_at, rT_at]
  rfl
theorem rL_at (z : FVec Ideal S8192x3072 .f32) (q : Fin 4) (r : Fin 8192) (j : Fin 768) : rL z (ix3 q r j) = z (ix2 r (chan q j)) := by
  unfold chan
  pointwise [rL]

/-- The inputs and the value's columns of the weights hold real numbers. -/
theorem pre13 (h : Cert.Pre_finite13.fn (F := Ideal) x u w b = fun _ => 1#1) :
    (∀ i, IsR (x i)) ∧ (∀ (k : Fin 1024) (j : Fin 3072), IsR (u (ix2 k ⟨3072 + j, by omega⟩))) := by
  have e := congrFun h (fun i => i.elim0)
  unfold Cert.Pre_finite13.fn at e
  simp only [andi, IntOp.andi_eq_one] at e
  obtain ⟨e0, e1⟩ := e
  refine ⟨all_real (extf .f32 x bitsLt_bf16_f32) _ _ _ _ e0, fun k j => ?_⟩
  have := all_real _ _ _ _ _ e1 (ix2 k j)
  revert this
  pointwise
  exact id

theorem G_eq : rL (rG x u) = (fun y => outG x u (y 0) (y 1) (y 2) : FVec Ideal S4x8192x768 .bf16) := by
  funext y; idx_vars y
  rw [rL_at, rG_at]
  rfl
theorem E_eq : rL (rE (rC x u w b)) = (fun y => outE x u w b (y 0) (y 1) (y 2) : FVec Ideal S4x8192x768 .bf16) := by
  funext y; idx_vars y
  rw [rL_at, rE_at, rC_at]
  rfl
theorem D_eq (hx : ∀ i, IsR (x i)) (hu : ∀ (k : Fin 1024) (j : Fin 3072), IsR (u (ix2 k ⟨3072 + j, by omega⟩))) :
    rL (rD (rC x u w b) (rV x u)) = (fun y => outD x u w b (y 0) (y 1) (y 2) : FVec Ideal S4x8192x768 .bf16) := by
  funext y; idx_vars y
  rw [rL_at, rD_at, rC_at, rV_at]
  exact rdv_eq _ (IsR.sum _ _ fun k _ => (hx _).mul (hu k _))
theorem A_eq : (truncf .bf16 (mulf (rE (rC x u w b)) (rV x u)) bitsLt_bf16_f32 : FVec Ideal S8192x3072 .bf16)
    = (fun y => outA x u w b (y 0) (y 1) : FVec Ideal S8192x3072 .bf16) := by
  funext y; idx_vars y
  refine Eq.trans (b := rE (rC x u w b) (ix2 y0 y1) * rV x u (ix2 y0 y1)) (by pointwise) ?_
  rw [rE_at, rC_at, rV_at]
  rfl

end Cert.Reference13Ideal.Up

end
-- ==== Proof.UpClaims.lean ====
module

public import proofs.«01_k».proof.Defs
public import proofs.«01_k».proof.Proof.UpRef
public import Idealize.ShloMosaic.Adequacy
public import Idealize.ShloMosaic.Init

@[expose] public section

noncomputable section

/-! The up-projection's call: its named constants, the reference's run, and the equality of the four arrays. -/

namespace Cert.Proof

open Idealize.ShloMosaic Idealize.SL.Sem Cert.Kernel13Ideal.Up Cert.Reference13Ideal.Up

theorem preserves13 : Cert.preserves_Kernel13_Kernel13Ideal :=
  ⟨IdealRules.named_const.statement Cert.Kernel13Ideal.κ "gelu_ck" .f32 0x3D122279#32 ((80338380498831 / 2251799813685248 : ℝ) : EReal) rfl,
    IdealRules.named_const.statement Cert.Kernel13Ideal.κ "gelu_3ck" .f32 0x3DDB33B6#32 ((241015141496493 / 2251799813685248 : ℝ) : EReal) rfl⟩

theorem frame_ideal13 : Cert.quiescent_Kernel13Ideal := fun m ρ _ => Cert.Kernel13Ideal.Gen.frame (F := Ideal) m ρ

theorem frame_reference13 : Cert.quiescent_Reference13Ideal := fun m ρ _ =>
  (θ_run Cert.Reference13Ideal.defs _ _).mono (fun r h => ⟨fun c => (h c).2.2.2.2, sem_eq_zero_of_no_sems (by decide) r.2⟩) (Cert.Reference13Ideal.Value.run (F := Ideal) m ρ)

theorem value13 : Cert.algebraic_Kernel13Ideal_Reference13Ideal_pre_finite13 := by
  intro m g m' g' hp hA
  have hA' : ∀ c, lH m' c = aH m c ∧ lU m' c = aU m c ∧ lW m' c = aW m c ∧ lB m' c = aB m c := hA
  have hR := fun c => pre13 (aH m c) (aU m c) (aW m c) (aB m c) (hp c)
  refine ⟨fun c => rL (rG (aH m c) (aU m c)), fun c => rL (rE (rC (aH m c) (aU m c) (aW m c) (aB m c))),
    fun c => rL (rD (rC (aH m c) (aU m c) (aW m c) (aB m c)) (rV (aH m c) (aU m c))),
    fun c => truncf .bf16 (mulf (rE (rC (aH m c) (aU m c) (aW m c) (aB m c))) (rV (aH m c) (aU m c))) Cert.Reference13Ideal.Gen.bitsLt_bf16_f32, ?_, ?_⟩
  · refine (θ_run _ _ _).mono (fun r h c => ?_) (Cert.Kernel13Ideal.Value.run_blocks m g)
    obtain ⟨e5, e6, e7, e8, e⟩ := h c
    obtain ⟨hx, hu⟩ := hR c
    exact ⟨(e5.trans (arr5 m c)).trans (G_eq _ _).symm, (e6.trans (arr6 m c)).trans (E_eq _ _ _ _).symm,
      (e7.trans (arr7 m c)).trans (D_eq _ _ _ _ hx hu).symm, (e8.trans (arr8 m c)).trans (A_eq _ _ _ _).symm, e⟩
  · refine (θ_run _ _ _).mono (fun r h c => ?_) (Cert.Reference13Ideal.Value.run (F := Ideal) m' g')
    obtain ⟨e0, e1, e2, e3, e⟩ := h c
    obtain ⟨h0, h1, h2, h3⟩ := hA' c
    beta_reduce
    rw [← h0, ← h1, ← h2, ← h3]
    exact ⟨e0, e1.trans (out1_eq m' c), e2.trans (out2_eq m' c), e3.trans (out3_eq m' c), e⟩

end Cert.Proof

end
-- ==== Proof.Dh1Run.lean ====
module

public import proofs.«01_k».proof.Proof.Gen.Kernel2Ideal.Frame.Runs

@[expose] public section

set_option maxRecDepth 16384

noncomputable section

namespace Cert.Kernel2Ideal.Dh1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point, run to its end: the pieces that its stores and its nine copies leave in the two outputs and in the two
scratch buffers. Eight copies fill the first scratch in parts while all are in flight, so each takes its own window of the scratch and
leaves the rest; each wait puts a window back. -/
noncomputable def runA (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) :
    Σ' (L6 : List (View.Piece (Elt F) S512x1024 .f32)), Σ' (L7 : List (View.Piece (Elt F) S8x1024 .f32)), Σ' (LS0 : List (View.Piece (Elt F) S6144x1024 .bf16)), { LS1 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_dh1 i arg1 harg1 arg2 harg2 arg3 harg3 arg4 harg4 (Memref.whole main_v4) (Memref.isWhole_whole _) (Memref.whole main_v5) (Memref.isWhole_whole _) arg7 harg7 arg8 harg8 arg9 harg9 arg10 harg10 arg11 harg11 arg12 harg12 cc0_scratch2) K } := by
  refine ⟨?_, ?_, ?_, ?_, fun W K => ?run⟩
  case run =>
    simp only [cc0_ffn_dh1_eq_skeleton]; unfold cc0_ffn_dh1_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg4.eq_unread hf3; obtain rfl := harg7.eq_unread hf4; obtain rfl := harg8.eq_unread hf5
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

set_option maxHeartbeats 1000000 in
/-- The body at a later point, run to its end, over what the point before left. -/
noncomputable def runB (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) :
    Σ' (L6 : List (View.Piece (Elt F) S512x1024 .f32)), Σ' (L7 : List (View.Piece (Elt F) S8x1024 .f32)), Σ' (LS0 : List (View.Piece (Elt F) S6144x1024 .bf16)), { LS1 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ owns (c : Thread nD τ) arg11 fullShare xs0 ∗ owns (c : Thread nD τ) arg12 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xo7) L7) ∗ owns (c : Thread nD τ) arg11 fullShare xs0 ∗ owns (c : Thread nD τ) arg12 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_dh1 i arg1 harg1 arg2 harg2 arg3 harg3 arg4 harg4 (Memref.whole main_v4) (Memref.isWhole_whole _) (Memref.whole main_v5) (Memref.isWhole_whole _) arg7 harg7 arg8 harg8 arg9 harg9 arg10 harg10 arg11 harg11 arg12 harg12 cc0_scratch2) K } := by
  refine ⟨?_, ?_, [], [], fun W K => ?run⟩
  case run =>
    simp only [cc0_ffn_dh1_eq_skeleton]; unfold cc0_ffn_dh1_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg4.eq_unread hf3; obtain rfl := harg7.eq_unread hf4; obtain rfl := harg8.eq_unread hf5; obtain rfl := harg10.eq_unread hf7; obtain rfl := harg11.eq_unread hfs0; obtain rfl := harg12.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexact H7
    isplitl [HS0]
    · iexists _; isplitr; · ipureintro; exact harg11.read_unread _
      iexact HS0
    isplitl [HS1]
    · iexists _; isplitr; · ipureintro; exact harg12.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.Kernel2Ideal.Dh1

end
-- ==== Proof.Dh1Frame.lean ====
module

public import proofs.«01_k».proof.Proof.Dh1Run
public import Idealize.ShloMosaic.Lib.Claim
public import Idealize.ShloMosaic.Lib.Pipeline.Value

@[expose] public section

set_option maxRecDepth 16384

noncomputable section

namespace Cert.Kernel2Ideal.Dh1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The pieces stored in the first output tile its block. -/
theorem cover0_A_6 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) (y : S512x1024.Idx) :
    ∃ pc ∈ (runA c i arg1 harg1 arg2 harg2 arg3 harg3 arg4 harg4 arg7 harg7 arg8 harg8 arg9 harg9 arg10 harg10 arg11 harg11 arg12 harg12 hc0 x0 x1 x2 x3 x4 x5 fh0 fh1).1, y ∈ pc.1.set :=
  View.cover_of_tiledL (runA c i arg1 harg1 arg2 harg2 arg3 harg3 arg4 harg4 arg7 harg7 arg8 harg8 arg9 harg9 arg10 harg10 arg11 harg11 arg12 harg12 hc0 x0 x1 x2 x3 x4 x5 fh0 fh1).1 S512x1024.size (by sl_kernel_rfl) y

/-- What the first point leaves in the block of the first output. -/
def out0_A_6 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) : Vec F S512x1024 .f32 :=
  VO0_6.read (Elt F) (VO0_6.writes (Elt F) VO0_6.junk (runA c i arg1 harg1 arg2 harg2 arg3 harg3 arg4 harg4 arg7 harg7 arg8 harg8 arg9 harg9 arg10 harg10 arg11 harg11 arg12 harg12 hc0 x0 x1 x2 x3 x4 x5 fh0 fh1).1)

theorem cover0_A_7 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) (y : S8x1024.Idx) :
    ∃ pc ∈ (runA c i arg1 harg1 arg2 harg2 arg3 harg3 arg4 harg4 arg7 harg7 arg8 harg8 arg9 harg9 arg10 harg10 arg11 harg11 arg12 harg12 hc0 x0 x1 x2 x3 x4 x5 fh0 fh1).2.1, y ∈ pc.1.set :=
  View.cover_of_tiledBy (runA c i arg1 harg1 arg2 harg2 arg3 harg3 arg4 harg4 arg7 harg7 arg8 harg8 arg9 harg9 arg10 harg10 arg11 harg11 arg12 harg12 hc0 x0 x1 x2 x3 x4 x5 fh0 fh1).2.1 ![1, 1024] (by sl_kernel_rfl) y

def out0_A_7 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) : Vec F S8x1024 .f32 :=
  VO0_7.read (Elt F) (VO0_7.writes (Elt F) VO0_7.junk (runA c i arg1 harg1 arg2 harg2 arg3 harg3 arg4 harg4 arg7 harg7 arg8 harg8 arg9 harg9 arg10 harg10 arg11 harg11 arg12 harg12 hc0 x0 x1 x2 x3 x4 x5 fh0 fh1).2.1)

theorem scover0_A_0 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) (y : S6144x1024.Idx) :
    ∃ pc ∈ (runA c i arg1 harg1 arg2 harg2 arg3 harg3 arg4 harg4 arg7 harg7 arg8 harg8 arg9 harg9 arg10 harg10 arg11 harg11 arg12 harg12 hc0 x0 x1 x2 x3 x4 x5 fh0 fh1).2.2.1, y ∈ pc.1.set :=
  View.cover_of_tiledL (runA c i arg1 harg1 arg2 harg2 arg3 harg3 arg4 harg4 arg7 harg7 arg8 harg8 arg9 harg9 arg10 harg10 arg11 harg11 arg12 harg12 hc0 x0 x1 x2 x3 x4 x5 fh0 fh1).2.2.1 S768x1024.size (by sl_kernel_rfl) y

def sout0_A_0 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) : Vec F S6144x1024 .bf16 :=
  VS0_0.read (Elt F) (VS0_0.writes (Elt F) VS0_0.junk (runA c i arg1 harg1 arg2 harg2 arg3 harg3 arg4 harg4 arg7 harg7 arg8 harg8 arg9 harg9 arg10 harg10 arg11 harg11 arg12 harg12 hc0 x0 x1 x2 x3 x4 x5 fh0 fh1).2.2.1)

theorem scover0_A_1 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) (y : S1024x1024.Idx) :
    ∃ pc ∈ (runA c i arg1 harg1 arg2 harg2 arg3 harg3 arg4 harg4 arg7 harg7 arg8 harg8 arg9 harg9 arg10 harg10 arg11 harg11 arg12 harg12 hc0 x0 x1 x2 x3 x4 x5 fh0 fh1).2.2.2.1, y ∈ pc.1.set :=
  View.cover_of_tiledL (runA c i arg1 harg1 arg2 harg2 arg3 harg3 arg4 harg4 arg7 harg7 arg8 harg8 arg9 harg9 arg10 harg10 arg11 harg11 arg12 harg12 hc0 x0 x1 x2 x3 x4 x5 fh0 fh1).2.2.2.1 S1024x1024.size (by sl_kernel_rfl) y

def sout0_A_1 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (fh0 : HbBuf0 (F := F) c hbM0_0) (fh1 : HbBuf0 (F := F) c hbM0_1) : Vec F S1024x1024 .bf16 :=
  VS0_1.read (Elt F) (VS0_1.writes (Elt F) VS0_1.junk (runA c i arg1 harg1 arg2 harg2 arg3 harg3 arg4 harg4 arg7 harg7 arg8 harg8 arg9 harg9 arg10 harg10 arg11 harg11 arg12 harg12 hc0 x0 x1 x2 x3 x4 x5 fh0 fh1).2.2.2.1)

theorem cover0_B_6 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) (y : S512x1024.Idx) :
    ∃ pc ∈ (runB c i arg1 harg1 arg2 harg2 arg3 harg3 arg4 harg4 arg7 harg7 arg8 harg8 arg9 harg9 arg10 harg10 arg11 harg11 arg12 harg12 hc0 x0 x1 x2 x3 x4 x5 xo7 xs0 xs1 fh0 fh1).1, y ∈ pc.1.set :=
  View.cover_of_tiledL (runB c i arg1 harg1 arg2 harg2 arg3 harg3 arg4 harg4 arg7 harg7 arg8 harg8 arg9 harg9 arg10 harg10 arg11 harg11 arg12 harg12 hc0 x0 x1 x2 x3 x4 x5 xo7 xs0 xs1 fh0 fh1).1 S512x1024.size (by sl_kernel_rfl) y

def out0_B_6 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) : Vec F S512x1024 .f32 :=
  VO0_6.read (Elt F) (VO0_6.writes (Elt F) VO0_6.junk (runB c i arg1 harg1 arg2 harg2 arg3 harg3 arg4 harg4 arg7 harg7 arg8 harg8 arg9 harg9 arg10 harg10 arg11 harg11 arg12 harg12 hc0 x0 x1 x2 x3 x4 x5 xo7 xs0 xs1 fh0 fh1).1)

def out0_B_7 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) : Vec F S8x1024 .f32 :=
  arg10.view.read (Elt F) (arg10.view.writes (Elt F) (harg10.unread xo7) (runB c i arg1 harg1 arg2 harg2 arg3 harg3 arg4 harg4 arg7 harg7 arg8 harg8 arg9 harg9 arg10 harg10 arg11 harg11 arg12 harg12 hc0 x0 x1 x2 x3 x4 x5 xo7 xs0 xs1 fh0 fh1).2.1)

def sout0_B_0 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) : Vec F S6144x1024 .bf16 := xs0

def sout0_B_1 (c : Dev nD) (i : grid0.Coords) (arg1 : Memref sig .tc .vmem S512x6144 .bf16) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S6144x1024 .bf16) (harg11 : arg11.IsWhole) (arg12 : Memref sig .tc .vmem S1024x1024 .bf16) (harg12 : arg12.IsWhole) (hc0 : ¬cond0_0 i)
    (x0 : Vec F S512x6144 .bf16) (x1 : Vec F S512x1024 .f32) (x2 : Vec F S512x1024 .bf16) (x3 : Vec F S512x1024 .f32) (x4 : Vec F S1x1024 .f32) (x5 : Vec F S1x1024 .f32) (xo7 : Vec F S8x1024 .f32) (xs0 : Vec F S6144x1024 .bf16) (xs1 : Vec F S1024x1024 .bf16) (fh0 : HbBuf0 (F := F) c hbM0_0) (fh1 : HbBuf0 (F := F) c hbM0_1) : Vec F S1024x1024 .bf16 := xs1

/-- What the two outputs and the two scratch buffers hold after the point `n`. -/
def outsAt0 (c : Dev nD) : (n : ℕ) → n < cfg0.N → Vec F S512x1024 .f32 × Vec F S8x1024 .f32 × Vec F S6144x1024 .bf16 × Vec F S1024x1024 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v4) (V m c main_v5), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v4) (V m c main_v5), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v4) (V m c main_v5), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v4) (V m c main_v5))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v4) (V m c main_v5), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v4) (V m c main_v5), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v4) (V m c main_v5), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v4) (V m c main_v5))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2 (V m c main_v4) (V m c main_v5), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2 (V m c main_v4) (V m c main_v5), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2 (V m c main_v4) (V m c main_v5), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2 (V m c main_v4) (V m c main_v5))

theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (V m c main_v4) (V m c main_v5), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (V m c main_v4) (V m c main_v5), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (V m c main_v4) (V m c main_v5), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (V m c main_v4) (V m c main_v5)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v4) (V m c main_v5), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v4) (V m c main_v5), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v4) (V m c main_v5), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v4) (V m c main_v5)) := by
  obtain ⟨n, hn⟩ := t
  cases n with
  | zero => exact (by exfalso; (try dsimp only at h0); exact absurd (Nat.zero_mod _) h0)
  | succ n => exact (dif_neg h0).trans rfl

/-- What holds before the point `n`: after the first, the scratch buffers are as the point before left them. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v5))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v5))) := by
  cases n with
  | zero => exact absurd rfl hz
  | succ n => rfl

/-- What the arrays hold at the start and what each point leaves in every block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_6 out0_A_7 sout0_A_0 sout0_A_1; (try dsimp only)
      iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (V m c main_v4) (V m c main_v5)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hh0]; · iexact Hh0
      isplitl [Hh1]; · iexact Hh1
      isplitl [HW]; · iexact HW
      iintro ⟨H0, H1, H2, H3, H4, H5, ⟨%e6, H6⟩, ⟨%e7, H7⟩, ⟨%es0, HS0⟩, ⟨%es1, HS1⟩, Hq0, Hq1, Hq2, Hq3, Hq4, Hq5, Hq6, Hq7, Hq8, Hh0, Hh1, ⟨%W', HW'⟩⟩
      isplitl [HS0 HS1 Hg Hq0 Hq1 Hq2 Hq3 Hq4 Hq5 Hq6 Hq7 Hq8 Hh0 Hh1]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          iexact Hq8
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_7_B m c t h0]
      unfold out0_B_6 out0_B_7 sout0_B_0 sout0_B_1; (try dsimp only)
      iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ (V m c main_v4) (V m c main_v5)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hh0]; · iexact Hh0
      isplitl [Hh1]; · iexact Hh1
      isplitl [HW]; · iexact HW
      iintro ⟨H0, H1, H2, H3, H4, H5, ⟨%e6, H6⟩, H7, HS0, HS1, Hq0, Hq1, Hq2, Hq3, Hq4, Hq5, Hq6, Hq7, Hq8, Hh0, Hh1, ⟨%W', HW'⟩⟩
      isplitl [HS0 HS1 Hg Hq0 Hq1 Hq2 Hq3 Hq4 Hq5 Hq6 Hq7 Hq8 Hh0 Hh1]
      · isplitl [HS0 HS1]
        · isplitl [HS0]; · iexact HS0
          iexact HS1
        isplitl [Hg]
        · iexact Hg
        isplitl [Hq0 Hq1 Hq2 Hq3 Hq4 Hq5 Hq6 Hq7 Hq8]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          iexact Hq8
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      unfold owns; iexists _; isplitr
      swap; · iexact H7
      ipureintro; rfl

theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in
/-- The whole run: the arrays end as computed, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every counter at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The whole run, with the two results named. -/
theorem run_blocks : θ_run defs (onTc (τ := τ) (main (F := F))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).1 6, (h.1 c).1 7, h.2 c⟩) (θ_run_and (run_main m ρ) (unchanged m ρ))

end Cert.Kernel2Ideal.Dh1

end
-- ==== Proof.Dh1Pay.lean ====
module

public import proofs.«01_k».proof.Proof.Dh1Frame
public import Idealize.ShloMosaic.Lib.Pipeline.ValueKit
public import Idealize.ShloMosaic.Lib.Pointwise
public import Idealize.ShloMosaic.Lib.WordCmp

@[expose] public section

set_option maxRecDepth 16384

noncomputable section

namespace Cert.Kernel2Ideal.Dh1

open Cert.Kernel2Ideal Cert.Kernel2Ideal.Gen Idealize.ShloMosaic Idealize.ShloMosaic.TcCoe Idealize.SL.Sem

/-- The mean of a row of 1024. -/
def mean (f : Fin 1024 → EReal) : EReal := Ideal.div (∑ k : Fin 1024, f k) (Ideal.ofBits FTy.f32 0x44800000#32)

/-- A row less its mean. -/
def cen (f : Fin 1024 → EReal) (j : Fin 1024) : EReal := f j - mean f

/-- The reciprocal of a row's deviation. -/
def rst (f : Fin 1024 → EReal) : EReal :=
  Ideal.rsqrt (mean (fun k => cen f k * cen f k) + Ideal.ofBits FTy.f32 0x3727C5AC#32)

/-- The row of a normalised gradient `d` pulled back through the normalisation of the row `f`. -/
def pull (f d : Fin 1024 → EReal) (j : Fin 1024) : EReal :=
  rst f * (d j - mean d - cen f j * rst f * mean (fun k => d k * (cen f k * rst f)))

variable (x0 : FVec Ideal S512x6144 .bf16) (x1 : FVec Ideal S512x1024 .f32) (x2 : FVec Ideal S512x1024 .bf16) (x3 : FVec Ideal S512x1024 .f32)
  (x4 : FVec Ideal S1x1024 .f32) (wu : FVec Ideal S6144x1024 .bf16) (wg : FVec Ideal S1024x1024 .bf16)

/-- One block's gradient at the normalisation's output. -/
def dh (r : Fin 512) (j : Fin 1024) : EReal :=
  Ideal.ofBits FTy.f32 0x3F9837F0#32 * x1 (ix2 r j) + (∑ k : Fin 1024, x2 (ix2 r k) * wg (ix2 j k)) + ∑ k : Fin 6144, x0 (ix2 r k) * wu (ix2 k j)

theorem pay6_at (r : Fin 512) (j : Fin 1024) : k0_pay6 (F := Ideal) x3 (ix2 r j) = cen (fun k => x3 (ix2 r k)) j := by
  pointwise [k0_pay6, cen, mean]

theorem pay7_at (r : Fin 512) (u : Fin 1) : k0_pay7 (F := Ideal) x3 (ix2 r u) = rst (fun k => x3 (ix2 r k)) := by
  pointwise [k0_pay7, rst]
  simp only [pay6_at, mean]

theorem pay8_at (r : Fin 512) (j : Fin 1024) :
    k0_pay8 (F := Ideal) x3 (ix2 r j) = cen (fun k => x3 (ix2 r k)) j * rst (fun k => x3 (ix2 r k)) := by
  pointwise [k0_pay8]
  rw [pay6_at, pay7_at]

theorem pay9_at (r : Fin 512) (j : Fin 1024) : k0_pay9 (F := Ideal) x1 x2 wg x0 wu (ix2 r j) = dh x0 x1 x2 wu wg r j := by
  pointwise [k0_pay9, dh]

theorem pay4_at (y : S8x1024.Idx) : k0_pay4 (F := Ideal) y = (0 : EReal) := by
  pointwise [k0_pay4]

theorem pay1_at (d : FVec Ideal S512x1024 .f32) (r : Fin 512) (j : Fin 1024) :
    k0_pay1 (F := Ideal) (k0_pay5 x4) (k0_pay7 x3) (k0_pay8 x3) d (ix2 r j)
      = pull (fun k => x3 (ix2 r k)) (fun k => d (ix2 r k) * x4 (ix2 0 k)) j := by
  pointwise [k0_pay1, k0_pay5]
  simp only [pay7_at, pay8_at]
  rfl

theorem pay2_at (d : FVec Ideal S512x1024 .f32) (acc : FVec Ideal S1x1024 .f32) (u : Fin 1) (j : Fin 1024) :
    k0_pay2 (F := Ideal) (k0_pay8 x3) d acc (ix2 u j)
      = acc (ix2 0 j) + ∑ r : Fin 512, d (ix2 r j) * (cen (fun k => x3 (ix2 r k)) j * rst (fun k => x3 (ix2 r k))) := by
  obtain rfl : u = 0 := Subsingleton.elim u 0
  pointwise [k0_pay2]
  simp only [pay8_at]

theorem pay3_at (d : FVec Ideal S512x1024 .f32) (acc : FVec Ideal S1x1024 .f32) (u : Fin 1) (j : Fin 1024) :
    k0_pay3 (F := Ideal) d acc (ix2 u j) = acc (ix2 0 j) + ∑ r : Fin 512, d (ix2 r j) := by
  obtain rfl : u = 0 := Subsingleton.elim u 0
  pointwise [k0_pay3]

end Cert.Kernel2Ideal.Dh1

end
-- ==== Proof.DownPay.lean ====
module

public import proofs.«01_k».proof.Proof.Gen.Kernel14Ideal.Skeleton
public import proofs.«01_k».proof.Proof.Dh1Pay

@[expose] public section

set_option maxRecDepth 16384

noncomputable section

namespace Cert.Kernel14Ideal.Down

open Cert.Kernel14Ideal Cert.Kernel14Ideal.Gen Idealize.ShloMosaic Idealize.ShloMosaic.TcCoe Idealize.SL.Sem
open Cert.Kernel2Ideal.Dh1 (mean cen rst pull)

section Row

/-- A normalised row, scaled and shifted. -/
def hR (z g b : Fin 1024 → EReal) (j : Fin 1024) : EReal := cen z j * rst z * g j + b j

/-- A row of a product of matrices. -/
def mR {n : ℕ} (a : Fin n → EReal) (w : Fin n → Fin 1024 → EReal) (j : Fin 1024) : EReal := ∑ k, a k * w k j

/-- The sigmoid as the kernel writes it. -/
def sgK (x : EReal) : EReal := Ideal.ofBits FTy.f32 0x3F000000#32 + Ideal.ofBits FTy.f32 0x3F000000#32 * Ideal.tanh (Ideal.ofBits FTy.f32 0x3F000000#32 * x)

/-- The second normalisation's input: the scaled first, the feed-forward product and the gated projection. -/
def zR (h f s q : Fin 1024 → EReal) (j : Fin 1024) : EReal := Ideal.ofBits FTy.f32 0x3F9837F0#32 * h j + f j + s j * q j

/-- The loss's gradient at the output. -/
def dyR (z t g b : Fin 1024 → EReal) (j : Fin 1024) : EReal := (hR z g b j - t j) * Ideal.ofBits FTy.f32 0x3A800000#32

/-- The same pulled back through the normalisation. -/
def dzR (z t g b : Fin 1024 → EReal) : Fin 1024 → EReal := pull z (fun k => dyR z t g b k * g k)

/-- And at the gate's argument and at the projection. -/
def dpR (d s q : Fin 1024 → EReal) (j : Fin 1024) : EReal := d j * q j * s j * (1 - s j)
def dqR (d s : Fin 1024 → EReal) (j : Fin 1024) : EReal := d j * s j

end Row

variable (xa : FVec Ideal S256x3072 .bf16) (xz : FVec Ideal S256x1024 .f32) (xp : FVec Ideal S256x256 .f32) (xt : FVec Ideal S256x1024 .f32)
  (wd : FVec Ideal S3072x1024 .bf16) (wg : FVec Ideal S1024x1024 .bf16) (wp : FVec Ideal S1024x256 .bf16)
  (g1 b1 g2 b2 bg : FVec Ideal S1x1024 .f32)

/-- The rows that a half tile computes. -/
def H (r : Fin 256) : Fin 1024 → EReal := hR (fun k => xz (ix2 r k)) (fun k => g1 (ix2 0 k)) (fun k => b1 (ix2 0 k))
def Sg (r : Fin 256) (j : Fin 1024) : EReal := sgK (mR (H xz g1 b1 r) (fun k j => wg (ix2 k j)) j + bg (ix2 0 j))
def Q (r : Fin 256) : Fin 1024 → EReal := mR (fun k : Fin 256 => xp (ix2 r k)) (fun k j => wp (ix2 j k))
def Z (r : Fin 256) : Fin 1024 → EReal :=
  zR (H xz g1 b1 r) (mR (fun k : Fin 3072 => xa (ix2 r k)) (fun k j => wd (ix2 k j))) (Sg xz wg g1 b1 bg r) (Q xp wp r)
def Dz (r : Fin 256) : Fin 1024 → EReal :=
  dzR (Z xa xz xp wd wg wp g1 b1 bg r) (fun k => xt (ix2 r k)) (fun k => g2 (ix2 0 k)) (fun k => b2 (ix2 0 k))

theorem pay7_at (r : Fin 256) (j : Fin 1024) : k0_pay7 (F := Ideal) xz g1 b1 (ix2 r j) = H xz g1 b1 r j := by
  pointwise [k0_pay7, H, hR]
  rfl

theorem pay9_at (r : Fin 256) (j : Fin 1024) : k0_pay9 (F := Ideal) xa wd (ix2 r j) = mR (fun k : Fin 3072 => xa (ix2 r k)) (fun k j => wd (ix2 k j)) j := by
  pointwise [k0_pay9, mR]

/-- The gate of a half tile. -/
abbrev P10 : FVec Ideal S256x1024 .f32 := k0_pay10 (F := Ideal) (k0_pay8 xz g1 b1) wg (constant S256x1024 .f32 0x00000000#32) bg

theorem pay10_at (r : Fin 256) (j : Fin 1024) : P10 xz wg g1 b1 bg (ix2 r j) = Sg xz wg g1 b1 bg r j := by
  pointwise [k0_pay10, k0_pay8, Sg, sgK, mR]
  simp only [pay7_at]

theorem pay11_at (r : Fin 256) (j : Fin 1024) : k0_pay11 (F := Ideal) xp wp (ix2 r j) = Q xp wp r j := by
  pointwise [k0_pay11, Q, mR]

abbrev P12 : FVec Ideal S256x1024 .f32 :=
  k0_pay12 (F := Ideal) (k0_pay7 xz g1 b1) (k0_pay8 xz g1 b1) (k0_pay9 xa wd) wg (constant S256x1024 .f32 0x00000000#32) bg xp wp
abbrev P13 : FVec Ideal S256x1 .f32 :=
  k0_pay13 (F := Ideal) (k0_pay7 xz g1 b1) (k0_pay8 xz g1 b1) (k0_pay9 xa wd) wg (constant S256x1024 .f32 0x00000000#32) bg xp wp
abbrev P14 : FVec Ideal S256x1024 .f32 :=
  k0_pay14 (F := Ideal) (k0_pay7 xz g1 b1) (k0_pay8 xz g1 b1) (k0_pay9 xa wd) wg (constant S256x1024 .f32 0x00000000#32) bg xp wp
abbrev P15 : FVec Ideal S256x1024 .f32 :=
  k0_pay15 (F := Ideal) (k0_pay6 g2) (k0_pay7 xz g1 b1) (k0_pay8 xz g1 b1) (k0_pay9 xa wd) wg (constant S256x1024 .f32 0x00000000#32) bg xp wp

theorem pay12_at (r : Fin 256) (j : Fin 1024) : P12 xa xz xp wd wg wp g1 b1 bg (ix2 r j) = cen (Z xa xz xp wd wg wp g1 b1 bg r) j := by
  pointwise [k0_pay12, cen, mean, Z, zR]
  simp only [pay7_at, pay9_at, pay10_at, pay11_at]

theorem pay13_at (r : Fin 256) (u : Fin 1) : P13 xa xz xp wd wg wp g1 b1 bg (ix2 r u) = rst (Z xa xz xp wd wg wp g1 b1 bg r) := by
  pointwise [k0_pay13, rst]
  simp only [pay12_at, mean]

theorem pay14_at (r : Fin 256) (j : Fin 1024) : P14 xa xz xp wd wg wp g1 b1 bg (ix2 r j)
    = cen (Z xa xz xp wd wg wp g1 b1 bg r) j * rst (Z xa xz xp wd wg wp g1 b1 bg r) := by
  pointwise [k0_pay14]
  simp only [pay12_at, pay13_at]

theorem pay15_at (r : Fin 256) (j : Fin 1024) : P15 xa xz xp wd wg wp g1 b1 g2 bg (ix2 r j)
    = cen (Z xa xz xp wd wg wp g1 b1 bg r) j * rst (Z xa xz xp wd wg wp g1 b1 bg r) * g2 (ix2 0 j) := by
  pointwise [k0_pay15, k0_pay6]
  simp only [pay14_at]

theorem pay18_at (r : Fin 256) (j : Fin 1024) : k0_pay18 (F := Ideal) (P15 xa xz xp wd wg wp g1 b1 g2 bg) (k0_pay16 b2) xt (ix2 r j)
    = dyR (Z xa xz xp wd wg wp g1 b1 bg r) (fun k => xt (ix2 r k)) (fun k => g2 (ix2 0 k)) (fun k => b2 (ix2 0 k)) j := by
  pointwise [k0_pay18, k0_pay17, k0_pay16, dyR, hR]
  simp only [pay15_at]

/-- What a half tile stores: the gradient at the second normalisation's input, at the gate's argument and at the projection. -/
abbrev P19 : FVec Ideal S256x1024 .f32 :=
  k0_pay19 (F := Ideal) (k0_pay6 g2) (P13 xa xz xp wd wg wp g1 b1 bg) (P14 xa xz xp wd wg wp g1 b1 bg) (P15 xa xz xp wd wg wp g1 b1 g2 bg) (k0_pay16 b2) xt
abbrev P22 : FVec Ideal S256x1024 .bf16 :=
  k0_pay22 (F := Ideal) (k0_pay6 g2) (P10 xz wg g1 b1 bg) (k0_pay11 xp wp) (P13 xa xz xp wd wg wp g1 b1 bg) (P14 xa xz xp wd wg wp g1 b1 bg) (P15 xa xz xp wd wg wp g1 b1 g2 bg) (k0_pay16 b2) xt
abbrev P23 : FVec Ideal S256x1024 .bf16 :=
  k0_pay23 (F := Ideal) (k0_pay6 g2) (P10 xz wg g1 b1 bg) (P13 xa xz xp wd wg wp g1 b1 bg) (P14 xa xz xp wd wg wp g1 b1 bg) (P15 xa xz xp wd wg wp g1 b1 g2 bg) (k0_pay16 b2) xt

theorem pay19_at (r : Fin 256) (j : Fin 1024) : P19 xa xz xp xt wd wg wp g1 b1 g2 b2 bg (ix2 r j) = Dz xa xz xp xt wd wg wp g1 b1 g2 b2 bg r j := by
  pointwise [k0_pay19, k0_pay6]
  simp only [pay13_at, pay14_at, pay18_at]
  rfl

theorem pay22_at (r : Fin 256) (j : Fin 1024) : P22 xa xz xp xt wd wg wp g1 b1 g2 b2 bg (ix2 r j)
    = dpR (Dz xa xz xp xt wd wg wp g1 b1 g2 b2 bg r) (Sg xz wg g1 b1 bg r) (Q xp wp r) j := by
  pointwise [k0_pay22, k0_pay20, dpR]
  simp only [pay19_at, pay10_at, pay11_at]

theorem pay23_at (r : Fin 256) (j : Fin 1024) : P23 xa xz xp xt wd wg wp g1 b1 g2 b2 bg (ix2 r j)
    = dqR (Dz xa xz xp xt wd wg wp g1 b1 g2 b2 bg r) (Sg xz wg g1 b1 bg r) j := by
  pointwise [k0_pay23, dqR]
  simp only [pay19_at, pay10_at]

/-- The second half tile's stores are the same functions of its own blocks. -/
theorem half9 : k0_pay41 (F := Ideal) (k0_pay35 (k0_pay29 xz g1 b1) (k0_pay30 xa wd) (k0_pay31 xz g1 b1 wg bg) xp wp)
      (k0_pay36 (k0_pay29 xz g1 b1) (k0_pay30 xa wd) (k0_pay31 xz g1 b1 wg bg) xp wp)
      (k0_pay39 (k0_pay6 g2) (k0_pay29 xz g1 b1) (k0_pay30 xa wd) (k0_pay31 xz g1 b1 wg bg) xp wp b2 xt)
      (k0_pay40 (k0_pay6 g2) (k0_pay29 xz g1 b1) (k0_pay30 xa wd) (k0_pay31 xz g1 b1 wg bg) xp wp b2 xt) (Scalar.ofBits .f32 0x44800000#32)
    = P19 xa xz xp xt wd wg wp g1 b1 g2 b2 bg := rfl
theorem half11 : k0_pay44 (F := Ideal) (k0_pay32 (k0_pay31 xz g1 b1 wg bg)) (k0_pay33 xp wp) (k0_pay35 (k0_pay29 xz g1 b1) (k0_pay30 xa wd) (k0_pay31 xz g1 b1 wg bg) xp wp)
      (k0_pay36 (k0_pay29 xz g1 b1) (k0_pay30 xa wd) (k0_pay31 xz g1 b1 wg bg) xp wp)
      (k0_pay39 (k0_pay6 g2) (k0_pay29 xz g1 b1) (k0_pay30 xa wd) (k0_pay31 xz g1 b1 wg bg) xp wp b2 xt)
      (k0_pay40 (k0_pay6 g2) (k0_pay29 xz g1 b1) (k0_pay30 xa wd) (k0_pay31 xz g1 b1 wg bg) xp wp b2 xt) (Scalar.ofBits .f32 0x44800000#32)
    = P22 xa xz xp xt wd wg wp g1 b1 g2 b2 bg := rfl
theorem half12 : k0_pay45 (F := Ideal) (k0_pay32 (k0_pay31 xz g1 b1 wg bg)) (k0_pay35 (k0_pay29 xz g1 b1) (k0_pay30 xa wd) (k0_pay31 xz g1 b1 wg bg) xp wp)
      (k0_pay36 (k0_pay29 xz g1 b1) (k0_pay30 xa wd) (k0_pay31 xz g1 b1 wg bg) xp wp)
      (k0_pay39 (k0_pay6 g2) (k0_pay29 xz g1 b1) (k0_pay30 xa wd) (k0_pay31 xz g1 b1 wg bg) xp wp b2 xt)
      (k0_pay40 (k0_pay6 g2) (k0_pay29 xz g1 b1) (k0_pay30 xa wd) (k0_pay31 xz g1 b1 wg bg) xp wp b2 xt) (Scalar.ofBits .f32 0x44800000#32)
    = P23 xa xz xp xt wd wg wp g1 b1 g2 b2 bg := rfl

end Cert.Kernel14Ideal.Down

end
-- ==== Proof.DownTile.lean ====
module

public import proofs.«01_k».proof.Proof.DownPay

public import Idealize.ShloMosaic.Lib.VecWindow
public import Idealize.ShloMosaic.Lib.Pipeline.ReadBack
public import Idealize.ShloMosaic.Lib.Pipeline.ValueKit

@[expose] public section

set_option maxRecDepth 16384

noncomputable section

namespace Cert.Kernel14Ideal.Down

open Cert.Kernel14Ideal Cert.Kernel14Ideal.Gen Idealize.ShloMosaic Idealize.ShloMosaic.TcCoe Idealize.SL.Sem

/-- A store over a whole buffer is what the buffer holds, and what a load of the whole reads. -/
theorem canon_whole {s : Shape} {e : EltTy} (w : s.Idx → Elt Ideal e) (L : List (View.Piece (Elt Ideal) s e)) :
    View.canon ((⟨Rect.whole s, w⟩ : View.Piece (Elt Ideal) s e) :: L) = w := by
  funext y
  conv_lhs => rw [← Rect.emb_whole_apply s y]
  exact View.canon_cons_emb (Rect.whole s) w L y

theorem read_whole {s : Shape} {e : EltTy} {sg : RefSig} {κ : Kind} {sp : Space} (v : View sg κ sp s e) (w : s.Idx → Elt Ideal e)
    {off : Fin s.rank → ℕ} (inb : ∀ a, off a + s.size a ≤ s.size a) :
    v.readCov [(⟨Rect.whole s, w⟩ : View.Piece (Elt Ideal) s e)] (Rect.unit off s.size inb).toLoadRect = w := by
  rw [View.readCov_eq_canon', canon_whole]
  funext y
  exact congrArg w (Rect.emb_unit_full (s := s) inb y)

section Rows

/-- The rows of the call, of the rows of its arguments. -/
def fS (z : Fin 1024 → EReal) (wg : Fin 1024 → Fin 1024 → EReal) (g1 b1 bg : Fin 1024 → EReal) (j : Fin 1024) : EReal := sgK (mR (hR z g1 b1) wg j + bg j)
def fZ (a : Fin 3072 → EReal) (z : Fin 1024 → EReal) (p : Fin 256 → EReal) (wd : Fin 3072 → Fin 1024 → EReal) (wg : Fin 1024 → Fin 1024 → EReal)
    (wp : Fin 256 → Fin 1024 → EReal) (g1 b1 bg : Fin 1024 → EReal) : Fin 1024 → EReal := zR (hR z g1 b1) (mR a wd) (fS z wg g1 b1 bg) (mR p wp)
def fD (a : Fin 3072 → EReal) (z : Fin 1024 → EReal) (p : Fin 256 → EReal) (t : Fin 1024 → EReal) (wd : Fin 3072 → Fin 1024 → EReal) (wg : Fin 1024 → Fin 1024 → EReal)
    (wp : Fin 256 → Fin 1024 → EReal) (g1 b1 g2 b2 bg : Fin 1024 → EReal) : Fin 1024 → EReal := dzR (fZ a z p wd wg wp g1 b1 bg) t g2 b2
def fP (a : Fin 3072 → EReal) (z : Fin 1024 → EReal) (p : Fin 256 → EReal) (t : Fin 1024 → EReal) (wd : Fin 3072 → Fin 1024 → EReal) (wg : Fin 1024 → Fin 1024 → EReal)
    (wp : Fin 256 → Fin 1024 → EReal) (g1 b1 g2 b2 bg : Fin 1024 → EReal) : Fin 1024 → EReal := dpR (fD a z p t wd wg wp g1 b1 g2 b2 bg) (fS z wg g1 b1 bg) (mR p wp)
def fR (a : Fin 3072 → EReal) (z : Fin 1024 → EReal) (p : Fin 256 → EReal) (t : Fin 1024 → EReal) (wd : Fin 3072 → Fin 1024 → EReal) (wg : Fin 1024 → Fin 1024 → EReal)
    (wp : Fin 256 → Fin 1024 → EReal) (g1 b1 g2 b2 bg : Fin 1024 → EReal) : Fin 1024 → EReal := dqR (fD a z p t wd wg wp g1 b1 g2 b2 bg) (fS z wg g1 b1 bg)

end Rows

section Block

variable (x0 : FVec Ideal S512x3072 .bf16) (x1 : FVec Ideal S512x1024 .f32) (x2 : FVec Ideal S512x256 .f32) (x3 : FVec Ideal S512x1024 .f32)
  (g1 b1 g2 b2 bg : FVec Ideal S1x1024 .f32) (wd : FVec Ideal S3072x1024 .bf16) (wg : FVec Ideal S1024x1024 .bf16) (wp : FVec Ideal S1024x256 .bf16)

/-- A function of rows, at a row of a tile. -/
abbrev atRow (f : (Fin 3072 → EReal) → (Fin 1024 → EReal) → (Fin 256 → EReal) → (Fin 1024 → EReal) → (Fin 3072 → Fin 1024 → EReal) → (Fin 1024 → Fin 1024 → EReal) →
    (Fin 256 → Fin 1024 → EReal) → (Fin 1024 → EReal) → (Fin 1024 → EReal) → (Fin 1024 → EReal) → (Fin 1024 → EReal) → (Fin 1024 → EReal) → Fin 1024 → EReal)
    (r : Fin 512) : Fin 1024 → EReal :=
  f (fun k => x0 (ix2 r k)) (fun k => x1 (ix2 r k)) (fun k => x2 (ix2 r k)) (fun k => x3 (ix2 r k)) (fun k j => wd (ix2 k j)) (fun k j => wg (ix2 k j)) (fun k j => wp (ix2 j k))
    (fun k => g1 (ix2 0 k)) (fun k => b1 (ix2 0 k)) (fun k => g2 (ix2 0 k)) (fun k => b2 (ix2 0 k)) (fun k => bg (ix2 0 k))

variable (o : ℕ) (i0 : ∀ a, (![o, 0] : Fin 2 → ℕ) a + (![256, 3072] : Fin 2 → ℕ) a ≤ S512x3072.size a)
  (i1 : ∀ a, (![o, 0] : Fin 2 → ℕ) a + (![256, 1024] : Fin 2 → ℕ) a ≤ S512x1024.size a)
  (i2 : ∀ a, (![o, 0] : Fin 2 → ℕ) a + (![256, 256] : Fin 2 → ℕ) a ≤ S512x256.size a)

abbrev h0 : FVec Ideal S256x3072 .bf16 := View.ld (Val := Elt Ideal) (e' := .bf16) x0 (Rect.unit (s := S512x3072) (![o, 0] : Fin 2 → ℕ) (![256, 3072] : Fin 2 → ℕ) i0)
abbrev h1 : FVec Ideal S256x1024 .f32 := View.ld (Val := Elt Ideal) (e' := .f32) x1 (Rect.unit (s := S512x1024) (![o, 0] : Fin 2 → ℕ) (![256, 1024] : Fin 2 → ℕ) i1)
abbrev h2 : FVec Ideal S256x256 .f32 := View.ld (Val := Elt Ideal) (e' := .f32) x2 (Rect.unit (s := S512x256) (![o, 0] : Fin 2 → ℕ) (![256, 256] : Fin 2 → ℕ) i2)

variable (r : Fin 512) (q : Fin 256) (hr : r.val = o + q.val)
include hr

theorem h0_at (k : Fin 3072) : h0 x0 o i0 (ix2 q k) = x0 (ix2 r k) := by
  refine congrArg x0 (funext fun a => Fin.ext ?_)
  fin_cases a
  · show o + 1 * q.val = r.val
    omega
  · show 0 + 1 * k.val = k.val
    omega
theorem h1_at (k : Fin 1024) : h1 x1 o i1 (ix2 q k) = x1 (ix2 r k) := by
  refine congrArg x1 (funext fun a => Fin.ext ?_)
  fin_cases a
  · show o + 1 * q.val = r.val
    omega
  · show 0 + 1 * k.val = k.val
    omega
theorem h2_at (k : Fin 256) : h2 x2 o i2 (ix2 q k) = x2 (ix2 r k) := by
  refine congrArg x2 (funext fun a => Fin.ext ?_)
  fin_cases a
  · show o + 1 * q.val = r.val
    omega
  · show 0 + 1 * k.val = k.val
    omega

theorem tile9 (j : Fin 1024) : P19 (h0 x0 o i0) (h1 x1 o i1) (h2 x2 o i2) (h1 x3 o i1) wd wg wp g1 b1 g2 b2 bg (ix2 q j) = atRow x0 x1 x2 x3 g1 b1 g2 b2 bg wd wg wp fD r j := by
  refine (pay19_at ..).trans ?_
  unfold Dz Z Q Sg H
  simp only [h0_at x0 o i0 r q hr, h1_at x1 o i1 r q hr, h1_at x3 o i1 r q hr, h2_at x2 o i2 r q hr]
  rfl
theorem tile11 (j : Fin 1024) : P22 (h0 x0 o i0) (h1 x1 o i1) (h2 x2 o i2) (h1 x3 o i1) wd wg wp g1 b1 g2 b2 bg (ix2 q j) = atRow x0 x1 x2 x3 g1 b1 g2 b2 bg wd wg wp fP r j := by
  refine (pay22_at ..).trans ?_
  unfold Dz Z Q Sg H
  simp only [h0_at x0 o i0 r q hr, h1_at x1 o i1 r q hr, h1_at x3 o i1 r q hr, h2_at x2 o i2 r q hr]
  rfl
theorem tile12 (j : Fin 1024) : P23 (h0 x0 o i0) (h1 x1 o i1) (h2 x2 o i2) (h1 x3 o i1) wd wg wp g1 b1 g2 b2 bg (ix2 q j) = atRow x0 x1 x2 x3 g1 b1 g2 b2 bg wd wg wp fR r j := by
  refine (pay23_at ..).trans ?_
  unfold Dz Z Q Sg H
  simp only [h0_at x0 o i0 r q hr, h1_at x1 o i1 r q hr, h1_at x3 o i1 r q hr, h2_at x2 o i2 r q hr]
  rfl

end Block

end Cert.Kernel14Ideal.Down

end
-- ==== Proof.DownOut.lean ====
module

public import proofs.«01_k».proof.Proof.DownTile
public import proofs.«01_k».proof.Proof.Gen.Kernel14Ideal.Frame

@[expose] public section

set_option maxRecDepth 16384

noncomputable section

namespace Cert.Kernel14Ideal.Down

open Cert.Kernel14Ideal Cert.Kernel14Ideal.Gen Idealize.ShloMosaic Idealize.ShloMosaic.TcCoe Idealize.SL.Sem

variable (m : (ℓ : Loc nD τ sig) → Buf (Elt Ideal) ℓ) (c : Dev nD)

/-- The weights as the scratch buffers hold them. -/
def WD : FVec Ideal S3072x1024 .bf16 := V m c main_v0
def WG : FVec Ideal S1024x1024 .bf16 := V m c main_v1
def WP : FVec Ideal S1024x256 .bf16 := V m c main_v3

theorem scr0A (t : Fin cfg0.N) (h : t.val % 16 = 0) : (outsAt0 m c t.val t.isLt).2.2.2.2.2.1 = WD m c := by
  rw [outsAt0_A m c t h]; frame_out
  exact canon_whole _ _
theorem scr1A (t : Fin cfg0.N) (h : t.val % 16 = 0) : (outsAt0 m c t.val t.isLt).2.2.2.2.2.2.1 = WG m c := by
  rw [outsAt0_A m c t h]; frame_out
  exact canon_whole _ _
theorem scr2A (t : Fin cfg0.N) (h : t.val % 16 = 0) : (outsAt0 m c t.val t.isLt).2.2.2.2.2.2.2 = WP m c := by
  rw [outsAt0_A m c t h]; frame_out
  exact canon_whole _ _

theorem scrB (t : Fin cfg0.N) (h : ¬ t.val % 16 = 0) :
    (outsAt0 m c t.val t.isLt).2.2.2.2.2 = (outsAt0 m c (t.val - 1) (by omega)).2.2.2.2.2 := by
  rw [outsAt0_B m c t h]
  dsimp only [sout0_B_0, sout0_B_1, sout0_B_2]

/-- The scratch buffers hold the weights after every point. -/
theorem scr (n : ℕ) : ∀ hn : n < cfg0.N, (outsAt0 m c n hn).2.2.2.2.2 = (WD m c, WG m c, WP m c) := by
  have eA (t : Fin cfg0.N) (h : t.val % 16 = 0) : (outsAt0 m c t.val t.isLt).2.2.2.2.2 = (WD m c, WG m c, WP m c) :=
    Prod.ext (scr0A m c t h) (Prod.ext (scr1A m c t h) (scr2A m c t h))
  induction n with
  | zero => exact fun hn => eA ⟨0, hn⟩ rfl
  | succ n ih =>
    intro hn
    by_cases h : (n + 1) % 16 = 0
    · exact eA ⟨n + 1, hn⟩ h
    · exact (scrB m c ⟨n + 1, hn⟩ h).trans (ih (Nat.lt_of_succ_lt hn))

theorem s0 (n : ℕ) (hn : n < cfg0.N) : (outsAt0 m c n hn).2.2.2.2.2.1 = WD m c := congrArg Prod.fst (scr m c n hn)
theorem s1 (n : ℕ) (hn : n < cfg0.N) : (outsAt0 m c n hn).2.2.2.2.2.2.1 = WG m c := congrArg (fun x => x.2.1) (scr m c n hn)
theorem s2 (n : ℕ) (hn : n < cfg0.N) : (outsAt0 m c n hn).2.2.2.2.2.2.2 = WP m c := congrArg (fun x => x.2.2) (scr m c n hn)

abbrev at0 (t : Fin cfg0.N) := atRow (iblk m c 0 t) (iblk m c 1 t) (iblk m c 2 t) (iblk m c 3 t) (iblk m c 4 t) (iblk m c 5 t) (iblk m c 6 t) (iblk m c 7 t) (iblk m c 8 t) (WD m c) (WG m c) (WP m c)

theorem read0 {sg : RefSig} {κ : Kind} {sp : Space} (v : View sg κ sp S3072x1024 .bf16) (inb) :
    v.readCov [⟨Rect.whole S3072x1024, ReadAs.same.apply (View.read (Elt Ideal) (View.whole main_v0) (V m c main_v0))⟩]
      (Rect.unit (s := S3072x1024) (![0, 0] : Fin 2 → ℕ) (![3072, 1024] : Fin 2 → ℕ) inb).toLoadRect = WD m c := read_whole _ _ inb
theorem read1 {sg : RefSig} {κ : Kind} {sp : Space} (v : View sg κ sp S1024x1024 .bf16) (inb) :
    v.readCov [⟨Rect.whole S1024x1024, ReadAs.same.apply (View.read (Elt Ideal) (View.whole main_v1) (V m c main_v1))⟩]
      (Rect.unit (s := S1024x1024) (![0, 0] : Fin 2 → ℕ) (![1024, 1024] : Fin 2 → ℕ) inb).toLoadRect = WG m c := read_whole _ _ inb
theorem read2 {sg : RefSig} {κ : Kind} {sp : Space} (v : View sg κ sp S1024x256 .bf16) (inb) :
    v.readCov [⟨Rect.whole S1024x256, ReadAs.same.apply (View.read (Elt Ideal) (View.whole main_v3) (V m c main_v3))⟩]
      (Rect.unit (s := S1024x256) (![0, 0] : Fin 2 → ℕ) (![1024, 256] : Fin 2 → ℕ) inb).toLoadRect = WP m c := read_whole _ _ inb

theorem w9A (t : Fin cfg0.N) (h : t.val % 16 = 0) (r : Fin 512) (j : Fin 1024) :
    (outsAt0 m c t.val t.isLt).1 (ix2 r j) = at0 m c t fD r j := by
  rw [outsAt0_A m c t h]; frame_out
  rw [read0, read1, read2]
  canon_tiles x e
  all_goals
    idx_vars x
    obtain rfl : j = x1 := Fin.ext e1
    exact tile9 _ _ _ _ _ _ _ _ _ _ _ _ _ _ _ _ r x0 (by omega) j

theorem w9B (t : Fin cfg0.N) (h : ¬ t.val % 16 = 0) (r : Fin 512) (j : Fin 1024) :
    (outsAt0 m c t.val t.isLt).1 (ix2 r j) = at0 m c t fD r j := by
  rw [outsAt0_B m c t h]; frame_out
  simp only [read_unread_whole]
  rw [s0, s1, s2]
  canon_tiles x e
  all_goals
    idx_vars x
    obtain rfl : j = x1 := Fin.ext e1
    exact tile9 _ _ _ _ _ _ _ _ _ _ _ _ _ _ _ _ r x0 (by omega) j

theorem w10A (t : Fin cfg0.N) (h : t.val % 16 = 0) (r : Fin 512) (j : Fin 1024) :
    (outsAt0 m c t.val t.isLt).2.1 (ix2 r j) = at0 m c t fD r j := by
  rw [outsAt0_A m c t h]; frame_out
  rw [read0, read1, read2]
  canon_tiles x e
  all_goals
    idx_vars x
    obtain rfl : j = x1 := Fin.ext e1
    exact tile9 _ _ _ _ _ _ _ _ _ _ _ _ _ _ _ _ r x0 (by omega) j

theorem w10B (t : Fin cfg0.N) (h : ¬ t.val % 16 = 0) (r : Fin 512) (j : Fin 1024) :
    (outsAt0 m c t.val t.isLt).2.1 (ix2 r j) = at0 m c t fD r j := by
  rw [outsAt0_B m c t h]; frame_out
  simp only [read_unread_whole]
  rw [s0, s1, s2]
  canon_tiles x e
  all_goals
    idx_vars x
    obtain rfl : j = x1 := Fin.ext e1
    exact tile9 _ _ _ _ _ _ _ _ _ _ _ _ _ _ _ _ r x0 (by omega) j

theorem w11A (t : Fin cfg0.N) (h : t.val % 16 = 0) (r : Fin 512) (j : Fin 1024) :
    (outsAt0 m c t.val t.isLt).2.2.1 (ix2 r j) = at0 m c t fP r j := by
  rw [outsAt0_A m c t h]; frame_out
  rw [read0, read1, read2]
  canon_tiles x e
  all_goals
    idx_vars x
    obtain rfl : j = x1 := Fin.ext e1
    exact tile11 _ _ _ _ _ _ _ _ _ _ _ _ _ _ _ _ r x0 (by omega) j

theorem w11B (t : Fin cfg0.N) (h : ¬ t.val % 16 = 0) (r : Fin 512) (j : Fin 1024) :
    (outsAt0 m c t.val t.isLt).2.2.1 (ix2 r j) = at0 m c t fP r j := by
  rw [outsAt0_B m c t h]; frame_out
  simp only [read_unread_whole]
  rw [s0, s1, s2]
  canon_tiles x e
  all_goals
    idx_vars x
    obtain rfl : j = x1 := Fin.ext e1
    exact tile11 _ _ _ _ _ _ _ _ _ _ _ _ _ _ _ _ r x0 (by omega) j

theorem w12A (t : Fin cfg0.N) (h : t.val % 16 = 0) (r : Fin 512) (j : Fin 1024) :
    (outsAt0 m c t.val t.isLt).2.2.2.1 (ix2 r j) = at0 m c t fR r j := by
  rw [outsAt0_A m c t h]; frame_out
  rw [read0, read1, read2]
  canon_tiles x e
  all_goals
    idx_vars x
    obtain rfl : j = x1 := Fin.ext e1
    exact tile12 _ _ _ _ _ _ _ _ _ _ _ _ _ _ _ _ r x0 (by omega) j

theorem w12B (t : Fin cfg0.N) (h : ¬ t.val % 16 = 0) (r : Fin 512) (j : Fin 1024) :
    (outsAt0 m c t.val t.isLt).2.2.2.1 (ix2 r j) = at0 m c t fR r j := by
  rw [outsAt0_B m c t h]; frame_out
  simp only [read_unread_whole]
  rw [s0, s1, s2]
  canon_tiles x e
  all_goals
    idx_vars x
    obtain rfl : j = x1 := Fin.ext e1
    exact tile12 _ _ _ _ _ _ _ _ _ _ _ _ _ _ _ _ r x0 (by omega) j

end Cert.Kernel14Ideal.Down

end
-- ==== Proof.Dh1Row.lean ====
module

public import proofs.«01_k».proof.Proof.FfnReal
public import proofs.«01_k».proof.Proof.Dh1Pay

@[expose] public section

set_option maxRecDepth 16384

noncomputable section

namespace Cert.Kernel2Ideal.Dh1

open Idealize.ShloMosaic Cert.Ffn

theorem word_n : Ideal.ofBits FTy.f32 0x44800000#32 = ((1024 : ℝ) : EReal) := by
  simp [Ideal.ofBits, Ideal.ieee, -EReal.coe_mul]; try norm_num
theorem word_two : Ideal.ofBits FTy.f32 0x40000000#32 = ((2 : ℝ) : EReal) := by
  simp [Ideal.ofBits, Ideal.ieee, -EReal.coe_mul]; try norm_num
theorem word_half : Ideal.ofBits FTy.f32 0xBF000000#32 = ((-(1 / 2) : ℝ) : EReal) := by
  simp [Ideal.ofBits, Ideal.ieee, -EReal.coe_mul]; try norm_num
/-- The number added to the variance is a positive real. -/
theorem word_eps : ∃ e : ℝ, 0 < e ∧ Ideal.ofBits FTy.f32 0x3727C5AC#32 = (e : EReal) := by
  refine ⟨_, ?_, by simp [Ideal.ofBits, Ideal.ieee, -EReal.coe_mul]; rfl⟩
  norm_num

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sum_coe {n : ℕ} (f : Fin n → ℝ) : ∑ k, (f k : EReal) = ((∑ k, f k : ℝ) : EReal) := by
  classical
  refine Finset.induction_on (Finset.univ : Finset (Fin n)) (by simp) fun a s ha ih => ?_
  rw [Finset.sum_insert ha, Finset.sum_insert ha, ih, EReal.coe_add]

section Real

variable (a b : Fin 1024 → ℝ)

/-- The same for reals. -/
def meanR : ℝ := (∑ k, a k) / 1024
def cenR (j : Fin 1024) : ℝ := a j - meanR a
def varR (e : ℝ) : ℝ := meanR (fun k => cenR a k * cenR a k) + e

theorem mean_coe : mean (fun k => (a k : EReal)) = (meanR a : EReal) := by
  unfold mean meanR
  rw [sum_coe, word_n, div_coe _ _ (by norm_num)]

theorem cen_coe (j : Fin 1024) : cen (fun k => (a k : EReal)) j = (cenR a j : EReal) := by
  unfold cen cenR
  rw [mean_coe, EReal.coe_sub]

theorem varR_pos {e : ℝ} (he : 0 < e) : 0 < varR a e := by
  unfold varR meanR
  have : 0 ≤ ∑ k, cenR a k * cenR a k := Finset.sum_nonneg fun k _ => mul_self_nonneg _
  positivity

theorem var_coe {e : ℝ} (h : Ideal.ofBits FTy.f32 0x3727C5AC#32 = (e : EReal)) :
    mean (fun k => cen (fun k => (a k : EReal)) k * cen (fun k => (a k : EReal)) k) + Ideal.ofBits FTy.f32 0x3727C5AC#32 = (varR a e : EReal) := by
  simp only [cen_coe, ← EReal.coe_mul]
  rw [mean_coe (fun k => cenR a k * cenR a k), h, ← EReal.coe_add]
  rfl

theorem rst_coe {e : ℝ} (he : 0 < e) (h : Ideal.ofBits FTy.f32 0x3727C5AC#32 = (e : EReal)) :
    rst (fun k => (a k : EReal)) = (((Real.sqrt (varR a e))⁻¹ : ℝ) : EReal) := by
  have hv := varR_pos a he
  unfold rst
  rw [var_coe a h, Ideal.rsqrt_coe, if_neg (not_lt.mpr hv.le), if_neg hv.ne']

theorem sum_cen : ∑ k, cenR a k = 0 := by
  unfold cenR meanR
  rw [Finset.sum_sub_distrib, Finset.sum_const, Finset.card_univ, Fintype.card_fin, nsmul_eq_mul]
  push_cast
  ring

end Real

/-- The pull as the derivative of each step of the normalisation in turn: through the scaling, through the variance and through the mean. -/
def pullRef (f d : Fin 1024 → EReal) (j : Fin 1024) : EReal :=
  d j * rst f
    + Ideal.div ((∑ k : Fin 1024, cen f k * d k) * (Ideal.ofBits FTy.f32 0xBF000000#32
        * Ideal.div (rst f) (mean (fun k => cen f k * cen f k) + Ideal.ofBits FTy.f32 0x3727C5AC#32))) (Ideal.ofBits FTy.f32 0x44800000#32)
      * (Ideal.ofBits FTy.f32 0x40000000#32 * cen f j)
    + Ideal.div ((∑ k : Fin 1024, -(d k * rst f))
        + ∑ k : Fin 1024, -(Ideal.div ((∑ k : Fin 1024, cen f k * d k) * (Ideal.ofBits FTy.f32 0xBF000000#32
        * Ideal.div (rst f) (mean (fun k => cen f k * cen f k) + Ideal.ofBits FTy.f32 0x3727C5AC#32))) (Ideal.ofBits FTy.f32 0x44800000#32)
          * (Ideal.ofBits FTy.f32 0x40000000#32 * cen f k))) (Ideal.ofBits FTy.f32 0x44800000#32)

/-- Of a row of real numbers both ways of pulling back give the same. -/
theorem pull_eq (f d : Fin 1024 → EReal) (hf : ∀ k, IsR (f k)) (hd : ∀ k, IsR (d k)) (j : Fin 1024) : pullRef f d j = pull f d j := by
  choose a ha using hf
  choose b hb using hd
  obtain rfl : f = fun k => (a k : EReal) := funext ha
  obtain rfl : d = fun k => (b k : EReal) := funext hb
  obtain ⟨e, he, hw⟩ := word_eps
  have hv := varR_pos a he
  have hs : Real.sqrt (varR a e) ≠ 0 := (Real.sqrt_pos.mpr hv).ne'
  have hs2 : Real.sqrt (varR a e) * Real.sqrt (varR a e) = varR a e := Real.mul_self_sqrt hv.le
  have hc := sum_cen a
  unfold pullRef pull
  rw [var_coe a hw, rst_coe a he hw, word_n, word_two, word_half]
  simp only [cen_coe, mean_coe b, ← EReal.coe_mul, ← EReal.coe_neg, sum_coe]
  rw [mean_coe (fun k => b k * (cenR a k * (Real.sqrt (varR a e))⁻¹)), div_coe _ _ hv.ne']
  simp only [← EReal.coe_mul, ← EReal.coe_neg, sum_coe, div_coe _ (1024 : ℝ) (by norm_num), ← EReal.coe_add, ← EReal.coe_sub]
  congr 1
  generalize Real.sqrt (varR a e) = s at hs hs2 ⊢
  rw [← hs2]
  have e1 : ∑ k, -(b k * s⁻¹) = -(∑ k, b k) * s⁻¹ := by rw [neg_mul, Finset.sum_mul, Finset.sum_neg_distrib]
  have e2 (q : ℝ) : ∑ k, -(q * (2 * cenR a k)) = 0 := by
    rw [Finset.sum_neg_distrib, ← Finset.mul_sum, ← Finset.mul_sum, hc]; ring
  have e3 : ∑ k, b k * (cenR a k * s⁻¹) = (∑ k, cenR a k * b k) * s⁻¹ := by
    rw [Finset.sum_mul]; exact Finset.sum_congr rfl fun k _ => by ring
  rw [e1, e2]
  unfold meanR
  rw [e3]
  field_simp
  ring

end Cert.Kernel2Ideal.Dh1

end
-- ==== Proof.Dh1Ref.lean ====
module

public import proofs.«01_k».proof.Proof.Dh1Row
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Dh1

open Cert.Reference2Ideal Cert.Reference2Ideal.Gen Cert.Reference2Ideal.Value Idealize.ShloMosaic Idealize.ShloMosaic.TcCoe Idealize.SL.Sem Cert.Ffn
open Cert.Kernel2Ideal.Dh1 (mean cen rst pullRef)

section Stages

variable (z : FVec Ideal S8192x1024 .f32) (g : FVec Ideal S1024 .f32) (wu : FVec Ideal S1024x6144 .f32) (wg : FVec Ideal S1024x1024 .f32)
  (dz : FVec Ideal S8192x1024 .f32) (du : FVec Ideal S8192x6144 .bf16) (dp : FVec Ideal S8192x1024 .bf16)

/-- The row sums, as a column. -/
def sumC (x : FVec Ideal S8192x1024 .f32) : FVec Ideal S8192 .f32 := Host.reduceAdd x (constant (F := Ideal) S_ .f32 0x00000000#32) reducesTo_S8192x1024_S8192_d1 h_S_
def mu : FVec Ideal S8192x1 .f32 := Host.divf (broadcastInDim S8192x1 ![0] bcast_S8192_S8192x1_0 (sumC z)) (broadcastInDim S8192x1 ![] bcast_S_S8192x1 (constant (F := Ideal) S_ .f32 0x44800000#32))
def zc : FVec Ideal S8192x1024 .f32 := subf z (broadcastInDim S8192x1024 ![0, 1] bcast_S8192x1_S8192x1024_0_1 (mu z))
def ve : FVec Ideal S8192x1 .f32 :=
  addf (Host.divf (broadcastInDim S8192x1 ![0] bcast_S8192_S8192x1_0 (sumC (mulf (zc z) (zc z)))) (broadcastInDim S8192x1 ![] bcast_S_S8192x1 (constant (F := Ideal) S_ .f32 0x44800000#32)))
    (broadcastInDim S8192x1 ![] bcast_S_S8192x1 (constant (F := Ideal) S_ .f32 0x3727C5AC#32))
def rs : FVec Ideal S8192x1 .f32 := Host.rsqrt (ve z)
def dh : FVec Ideal S8192x1024 .f32 :=
  addf (addf (Host.dotGeneral dot_S8192x1024_S1024x1024_S8192x1024_1_1_0_0_n_n none (extf .f32 dp bitsLt_bf16_f32) wg)
      (Host.dotGeneral dot_S8192x6144_S1024x6144_S8192x1024_1_1_0_0_n_n none (extf .f32 du bitsLt_bf16_f32) wu))
    (mulf (broadcastInDim S8192x1024 ![] bcast_S_S8192x1024 (constant (F := Ideal) S_ .f32 0x3F9837F0#32)) dz)
def sc (p : FVec Ideal S8192x1024 .f32) : FVec Ideal S8192x1024 .f32 :=
  mulf p (broadcastInDim S8192x1024 ![0, 1] bcast_S1x1024_S8192x1024_0_1 (broadcastInDim S1x1024 ![1] bcast_S1024_S1x1024_1 g))
/-- Of the scaled gradient: through the scaling, the variance and the mean. -/
def th (p : FVec Ideal S8192x1024 .f32) : FVec Ideal S8192x1024 .f32 := mulf p (broadcastInDim S8192x1024 ![0, 1] bcast_S8192x1_S8192x1024_0_1 (rs z))
def qv (p : FVec Ideal S8192x1024 .f32) : FVec Ideal S8192x1 .f32 :=
  Host.divf (mulf (shapeCast _ (sumC (mulf (zc z) p)) shapeCasts_S8192_S8192x1)
    (mulf (broadcastInDim S8192x1 ![] bcast_S_S8192x1 (constant (F := Ideal) S_ .f32 0xBF000000#32)) (Host.divf (rs z) (ve z))))
    (broadcastInDim S8192x1 ![] bcast_S_S8192x1 (constant (F := Ideal) S_ .f32 0x44800000#32))
def sq (x : FVec Ideal S8192x1 .f32) : FVec Ideal S8192x1024 .f32 :=
  broadcastInDim S8192x1024 ![0] bcast_S8192_S8192x1024_0 (Host.reduceAdd x (constant (F := Ideal) S_ .f32 0x00000000#32) reducesTo_S8192x1_S8192_d1 h_S_)
def tv (p : FVec Ideal S8192x1024 .f32) : FVec Ideal S8192x1024 .f32 :=
  mulf (sq (qv z p)) (mulf (broadcastInDim S8192x1024 ![] bcast_S_S8192x1024 (constant (F := Ideal) S_ .f32 0x40000000#32)) (zc z))
def nm (p : FVec Ideal S8192x1024 .f32) : FVec Ideal S8192x1 .f32 :=
  Host.divf (addf (shapeCast _ (sumC (Host.negf (th z p))) shapeCasts_S8192_S8192x1) (shapeCast _ (sumC (Host.negf (tv z p))) shapeCasts_S8192_S8192x1))
    (broadcastInDim S8192x1 ![] bcast_S_S8192x1 (constant (F := Ideal) S_ .f32 0x44800000#32))
def pl (p : FVec Ideal S8192x1024 .f32) : FVec Ideal S8192x1024 .f32 := addf (addf (th z p) (tv z p)) (sq (nm z p))
/-- The sums over all rows, as one row. -/
def rowS (x : FVec Ideal S8192x1024 .f32) : FVec Ideal S1x1024 .f32 :=
  broadcastInDim S1x1024 ![1] bcast_S1024_S1x1024_1 (Host.reduceAdd (shapeCast _ (Host.reduceAdd x (constant (F := Ideal) S_ .f32 0x00000000#32) reducesTo_S8192x1024_S1024_d0 h_S_) shapeCasts_S1024_S1x1024)
    (constant (F := Ideal) S_ .f32 0x00000000#32) reducesTo_S1x1024_S1024_d0 h_S_)
def xh : FVec Ideal S8192x1024 .f32 := mulf (zc z) (broadcastInDim S8192x1024 ![0, 1] bcast_S8192x1_S8192x1024_0_1 (rs z))
def vec : FVec Ideal S8x1024 .f32 :=
  concatenate S8x1024 0 [⟨S1x1024, rowS (mulf (xh z) (dh wu wg dz du dp))⟩, ⟨S1x1024, rowS (dh wu wg dz du dp)⟩,
    ⟨S6x1024, broadcastInDim S6x1024 ![] bcast_S_S6x1024 (constant (F := Ideal) S_ .f32 0x00000000#32)⟩] concatenates_S1x1024_S1x1024_S6x1024_S8x1024_d0

variable (r : Fin 8192) (j : Fin 1024) (p : FVec Ideal S8192x1024 .f32)

theorem sumC_at (x : FVec Ideal S8192x1024 .f32) : sumC x (ix1 r) = ∑ k : Fin 1024, x (ix2 r k) := by
  pointwise [sumC]

theorem mu_at : mu z (ix2 r 0) = mean (fun k => z (ix2 r k)) := by
  pointwise [mu]
  rw [sumC_at]; rfl

theorem zc_at : zc z (ix2 r j) = cen (fun k => z (ix2 r k)) j := by
  pointwise [zc]
  rw [mu_at]; rfl

theorem ve_at : ve z (ix2 r 0) = mean (fun k => cen (fun k => z (ix2 r k)) k * cen (fun k => z (ix2 r k)) k) + Ideal.ofBits FTy.f32 0x3727C5AC#32 := by
  simp only [← zc_at]
  pointwise [ve]
  rw [sumC_at]; rfl

theorem rs_at : rs z (ix2 r 0) = rst (fun k => z (ix2 r k)) := by
  unfold rst
  rw [← ve_at]
  pointwise [rs]

theorem dh_at : dh wu wg dz du dp (ix2 r j) = ((∑ k : Fin 1024, dp (ix2 r k) * wg (ix2 j k)) + ∑ k : Fin 6144, du (ix2 r k) * wu (ix2 j k))
    + Ideal.ofBits FTy.f32 0x3F9837F0#32 * dz (ix2 r j) := by
  pointwise [dh]

theorem sc_at : sc g p (ix2 r j) = (p (ix2 r j) * g (ix1 j) : EReal) := by
  pointwise [sc]

theorem th_at : th z p (ix2 r j) = (p (ix2 r j) * rst (fun k => z (ix2 r k)) : EReal) := by
  rw [← rs_at]
  pointwise [th]

theorem qv_at : qv z p (ix2 r 0) = Ideal.div ((∑ k : Fin 1024, cen (fun k => z (ix2 r k)) k * p (ix2 r k)) * (Ideal.ofBits FTy.f32 0xBF000000#32
        * Ideal.div (rst (fun k => z (ix2 r k))) (mean (fun k => cen (fun k => z (ix2 r k)) k * cen (fun k => z (ix2 r k)) k) + Ideal.ofBits FTy.f32 0x3727C5AC#32))) (Ideal.ofBits FTy.f32 0x44800000#32) := by
  rw [← ve_at, ← rs_at]
  simp only [← zc_at]
  pointwise [qv]
  rw [sumC_at]; rfl

theorem sq_at (x : FVec Ideal S8192x1 .f32) : sq x (ix2 r j) = x (ix2 r 0) := by
  pointwise [sq]
  rw [Fin.sum_univ_one]

theorem tv_at : tv z p (ix2 r j) = (qv z p (ix2 r 0) * (Ideal.ofBits FTy.f32 0x40000000#32 * cen (fun k => z (ix2 r k)) j) : EReal) := by
  rw [← zc_at, ← sq_at r j (qv z p)]
  pointwise [tv]

theorem nm_at : nm z p (ix2 r 0) = Ideal.div ((∑ k : Fin 1024, -(th z p (ix2 r k) : EReal)) + ∑ k : Fin 1024, -(tv z p (ix2 r k) : EReal)) (Ideal.ofBits FTy.f32 0x44800000#32) := by
  pointwise [nm]
  rw [sumC_at, sumC_at]; rfl

theorem pl_at : pl z p (ix2 r j) = pullRef (fun k => z (ix2 r k)) (fun k => p (ix2 r k)) j := by
  unfold pullRef
  simp only [← qv_at z r p, ← tv_at, ← th_at]
  rw [← nm_at, ← sq_at r j (nm z p)]
  pointwise [pl]

theorem rowS_at (x : FVec Ideal S8192x1024 .f32) : rowS x (ix2 0 j) = ∑ r : Fin 8192, x (ix2 r j) := by
  pointwise [rowS]
  rw [Fin.sum_univ_one]

theorem xh_at : xh z (ix2 r j) = cen (fun k => z (ix2 r k)) j * rst (fun k => z (ix2 r k)) := by
  rw [← zc_at, ← rs_at]
  pointwise [xh]

theorem vec_0 (k : Fin 8) (hk : (k : ℕ) = 0) : vec z wu wg dz du dp (ix2 k j) = ∑ r : Fin 8192, (xh z (ix2 r j) * dh wu wg dz du dp (ix2 r j) : EReal) := by
  refine Eq.trans ?_ (rowS_at j (mulf (xh z) (dh wu wg dz du dp)))
  obtain rfl : k = 0 := Fin.ext hk
  pointwise [vec]
theorem vec_1 (k : Fin 8) (hk : (k : ℕ) = 1) : vec z wu wg dz du dp (ix2 k j) = ∑ r : Fin 8192, dh wu wg dz du dp (ix2 r j) := by
  refine Eq.trans ?_ (rowS_at j _)
  obtain rfl : k = 1 := Fin.ext hk
  pointwise [vec]
theorem vec_2 (k : Fin 8) (hk : 2 ≤ (k : ℕ)) : vec z wu wg dz du dp (ix2 k j) = 0 := by
  pointwise [vec]
  rw [dif_neg (by omega), dif_neg (by omega)]

end Stages

variable (m : (ℓ : Loc nD τ sig) → Buf (Elt Ideal) ℓ) (c : Dev nD)

abbrev lZ : FVec Ideal S8192x1024 .f32 := m ((c.tc : Thread nD τ).loc main_arg0)
abbrev lG : FVec Ideal S1024 .f32 := m ((c.tc : Thread nD τ).loc main_arg1)
abbrev lB : FVec Ideal S1024 .f32 := m ((c.tc : Thread nD τ).loc main_arg2)
abbrev lWu : FVec Ideal S1024x6144 .f32 := m ((c.tc : Thread nD τ).loc main_arg3)
abbrev lWg : FVec Ideal S1024x1024 .f32 := m ((c.tc : Thread nD τ).loc main_arg4)
abbrev lDz : FVec Ideal S8192x1024 .f32 := m ((c.tc : Thread nD τ).loc main_arg5)
abbrev lDu : FVec Ideal S8192x6144 .bf16 := m ((c.tc : Thread nD τ).loc main_arg6)
abbrev lDp : FVec Ideal S8192x1024 .bf16 := m ((c.tc : Thread nD τ).loc main_arg7)

def rDh : FVec Ideal S8192x1024 .f32 := dh (lWu m c) (lWg m c) (lDz m c) (lDu m c) (lDp m c)
def ref6 : FVec Ideal S8192x1024 .f32 := pl (lZ m c) (sc (lG m c) (rDh m c))
def ref7 : FVec Ideal S8x1024 .f32 := vec (lZ m c) (lWu m c) (lWg m c) (lDz m c) (lDu m c) (lDp m c)

theorem res73 : res_main_v73 (F := Ideal) m c = ref6 m c := rfl

/-- The reference's run, its results by these names. -/
theorem run (ρ : Dev nD → PrngReg) :
    θ_run defs (onTc (τ := τ) (main (F := Ideal))) ⟨m, fun _ => 0, ρ⟩ fun r => ∀ c : Dev nD,
      r.2.mem ((c.tc : Thread nD τ).loc main_v73) = ref6 m c ∧ r.2.mem ((c.tc : Thread nD τ).loc main_v77) = ref7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.Reference2Ideal.Value.run (F := Ideal) m ρ

end Cert.Reference2Ideal.Dh1

end
-- ==== Proof.FfnArr.lean ====
module

public import proofs.«01_k».proof.Proof.FfnOut

@[expose] public section

set_option maxRecDepth 16384

noncomputable section

namespace Cert.KernelIdeal.Ffn

open Cert.KernelIdeal Cert.KernelIdeal.Gen Idealize.ShloMosaic Idealize.ShloMosaic.TcCoe Idealize.SL.Sem

theorem idx : ∀ t : Fin cfg0.N, win0_0.index t = ![7 - t.val % 8, 0] ∧ win0_1.index t = ![t.val / 8, 0]
    ∧ win0_2.index t = ![t.val / 8, 7 - t.val % 8, 0] ∧ win0_3.index t = ![t.val / 8, 7 - t.val % 8, 0]
    ∧ win0_4.index t = ![t.val / 8, 7 - t.val % 8, 0] ∧ win0_5.index t = ![t.val / 8, 0, 0]
    ∧ win0_6.index t = ![7 - t.val % 8, t.val / 8] ∧ win0_7.index t = ![t.val / 8, 0, 0] :=
  (by decide +kernel : ∀ t : Fin grid0.N, _)

theorem lt32 (t : Fin cfg0.N) : t.val < 32 := t.isLt.trans_eq N_0

variable (m : (ℓ : Loc nD τ sig) → Buf (Elt Ideal) ℓ) (c : Dev nD)

/-- The operands of the call as the region finds them. -/
def aDz : FVec Ideal S8192x1024 .bf16 := V m c main_arg4
def aWd : FVec Ideal S3072x1024 .bf16 := V m c main_v73
def aG : FVec Ideal S4x8192x768 .bf16 := V m c main_v64
def aGe : FVec Ideal S4x8192x768 .bf16 := V m c main_v67
def aVd : FVec Ideal S4x8192x768 .bf16 := V m c main_v70
def aW : FVec Ideal S4x3x768 .f32 := V m c main_v72

/-- The row of the arrays at which row `r` of point `t`'s tile lies. -/
def row (t : Fin cfg0.N) (r : Fin 1024) : Fin 8192 := ⟨(7 - t.val % 8) * 1024 + r, by omega⟩
/-- The chunk of channels of point `t`. -/
def chk (t : Fin cfg0.N) : Fin 4 := ⟨t.val / 8, by have := lt32 t; omega⟩
/-- Channel `j` of chunk `q`. -/
def chan (q : Fin 4) (j : Fin 768) : Fin 3072 := ⟨q * 768 + j, by omega⟩

theorem blk0 (t : Fin cfg0.N) (r k : Fin 1024) : (iblk m c 0 t : FVec Ideal S1024x1024 .bf16) (ix2 r k) = aDz m c (ix2 (row t r) k) := by
  unfold aDz row
  blk_ext [iblk, idx t]
theorem blk1 (t : Fin cfg0.N) (j : Fin 768) (k : Fin 1024) : (iblk m c 1 t : FVec Ideal S768x1024 .bf16) (ix2 j k) = aWd m c (ix2 (chan (chk t) j) k) := by
  unfold aWd chan chk
  blk_ext [iblk, idx t]
theorem blk2 (t : Fin cfg0.N) (r : Fin 1024) (j : Fin 768) : (iblk m c 2 t : FVec Ideal S1x1024x768 .bf16) (ix3 0 r j) = aG m c (ix3 (chk t) (row t r) j) := by
  unfold aG chk row
  blk_ext [iblk, idx t]
theorem blk3 (t : Fin cfg0.N) (r : Fin 1024) (j : Fin 768) : (iblk m c 3 t : FVec Ideal S1x1024x768 .bf16) (ix3 0 r j) = aGe m c (ix3 (chk t) (row t r) j) := by
  unfold aGe chk row
  blk_ext [iblk, idx t]
theorem blk4 (t : Fin cfg0.N) (r : Fin 1024) (j : Fin 768) : (iblk m c 4 t : FVec Ideal S1x1024x768 .bf16) (ix3 0 r j) = aVd m c (ix3 (chk t) (row t r) j) := by
  unfold aVd chk row
  blk_ext [iblk, idx t]
theorem blk5 (t : Fin cfg0.N) (k : Fin 3) (j : Fin 768) : (iblk m c 5 t : FVec Ideal S1x3x768 .f32) (ix3 0 k j) = aW m c (ix3 (chk t) k j) := by
  unfold aW chk
  blk_ext [iblk, idx t]

/-- The gradient at the gate's product, row `r`, channel `j` of chunk `q`. -/
def dA (q : Fin 4) (r : Fin 8192) (j : Fin 768) : EReal := ∑ k : Fin 1024, aDz m c (ix2 r k) * aWd m c (ix2 (chan q j) k)

/-- The gradient at the convolution's output, nothing past the last row. -/
def DG (q : Fin 4) (r : ℕ) (j : Fin 768) : EReal :=
  if h : r < 8192 then dA m c q ⟨r, h⟩ j * aVd m c (ix3 q ⟨r, h⟩ j) else 0

theorem dg_eq (t : Fin cfg0.N) (r : Fin 1024) (j : Fin 768) :
    dg (iblk m c 0 t) (iblk m c 1 t) (iblk m c 4 t) r j = DG m c (chk t) (row t r) j := by
  rw [DG, dif_pos (row t r).isLt]
  unfold dg dA
  rw [blk4]
  simp only [blk0, blk1]

theorem sh_eq (s : ℕ) (hs : s ≤ 2) (t : Fin cfg0.N) (r : Fin 1024) (j : Fin 768) :
    sh s hs (iblk m c 0 t) (iblk m c 1 t) (iblk m c 4 t) (car m c t) r j = DG m c (chk t) (row t r + s) j := by
  unfold sh
  split_ifs with h
  · rw [dg_eq]
    congr 1
    simp only [row]; omega
  · unfold car
    split_ifs with h0
    · rw [DG, dif_neg]
      simp only [row]; omega
    · have e : chk ⟨t.val - 1, by omega⟩ = chk t := Fin.ext (by simp only [chk]; omega)
      refine (dg_eq m c ⟨t.val - 1, by omega⟩ _ _).trans ?_
      rw [e]
      congr 1
      simp only [row, ix2]
      show (7 - (t.val - 1) % 8) * 1024 + (r.val + s - 1024) = _
      omega

/-- The two gradients as the call lays them out. -/
def out6 (r : Fin 8192) (q : Fin 6144) : EReal :=
  if h : (q : ℕ) % 1536 < 768 then
    aW m c (ix3 ⟨q / 1536, by omega⟩ 2 ⟨q % 1536, h⟩) * DG m c ⟨q / 1536, by omega⟩ r ⟨q % 1536, h⟩
      + aW m c (ix3 ⟨q / 1536, by omega⟩ 1 ⟨q % 1536, h⟩) * DG m c ⟨q / 1536, by omega⟩ (r + 1) ⟨q % 1536, h⟩
      + aW m c (ix3 ⟨q / 1536, by omega⟩ 0 ⟨q % 1536, h⟩) * DG m c ⟨q / 1536, by omega⟩ (r + 2) ⟨q % 1536, h⟩
  else dA m c ⟨q / 1536, by omega⟩ r ⟨q % 1536 - 768, by omega⟩ * aGe m c (ix3 ⟨q / 1536, by omega⟩ r ⟨q % 1536 - 768, by omega⟩)

theorem blk6_eq (t : Fin cfg0.N) (r : Fin 1024) (q : Fin 1536) :
    blk6 (iblk m c 0 t) (iblk m c 1 t) (iblk m c 3 t) (iblk m c 4 t) (iblk m c 5 t) (car m c t) r q
      = out6 m c (row t r) ⟨t.val / 8 * 1536 + q, by have := lt32 t; omega⟩ := by
  have e1 : (t.val / 8 * 1536 + q.val) % 1536 = q.val := by omega
  have e2 : (t.val / 8 * 1536 + q.val) / 1536 = t.val / 8 := by omega
  have e3 : (⟨(t.val / 8 * 1536 + q.val) / 1536, by have := lt32 t; omega⟩ : Fin 4) = chk t := Fin.ext e2
  unfold blk6 out6
  simp only [e3]
  by_cases h : (q : ℕ) < 768
  · rw [dif_pos h, dif_pos (by omega)]
    simp only [e1]
    rw [blk5, blk5, blk5, dg_eq, sh_eq, sh_eq]
  · rw [dif_neg h, dif_neg (by omega)]
    simp only [e1]
    rw [blk3]
    unfold dA
    simp only [blk0, blk1]

theorem w6 (t : Fin cfg0.N) (r : Fin 1024) (q : Fin 1536) :
    (outsAt0 m c t.val t.isLt).1 (ix2 r q) = out6 m c (row t r) ⟨t.val / 8 * 1536 + q, by have := lt32 t; omega⟩ := by
  rw [← blk6_eq]
  by_cases h : t.val % 8 = 0
  · exact w6A m c t h r q
  · exact w6B m c t h r q

end Cert.KernelIdeal.Ffn

end
-- ==== Proof.FfnHost.lean ====
module

public import proofs.«01_k».proof.Proof.FfnArr
public import proofs.«01_k».proof.Proof.Gen.ReferenceIdeal.Run
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments, at their own shapes. -/
abbrev mUp : FVec Ideal S8192x6144 .f32 := m ((c : Thread nD τ).loc main_arg0)
abbrev mCw : FVec Ideal S3x3072 .f32 := m ((c : Thread nD τ).loc main_arg1)
abbrev mCb : FVec Ideal S3072 .f32 := m ((c : Thread nD τ).loc main_arg2)
abbrev mWd : FVec Ideal S3072x1024 .f32 := m ((c : Thread nD τ).loc main_arg3)
abbrev mDz : FVec Ideal S8192x1024 .bf16 := m ((c : Thread nD τ).loc main_arg4)

theorem aDz_at : aDz m c = mDz m c := by
  unfold aDz
  entry_read
  rfl

theorem aWd_at (y) : aWd m c y = mWd m c y := by
  unfold aWd
  entry_read
  pointwise

theorem aW_at (q : Fin 4) (k : Fin 3) (j : Fin 768) : aW m c (ix3 q k j) = mCw m c (ix2 k (chan q j)) := by
  unfold aW chan
  entry_read
  pointwise

theorem aG_at (q : Fin 4) (r : Fin 8192) (j : Fin 768) :
    aG m c (ix3 q r j) = mUp m c (ix2 r ⟨chan q j, by have := (chan q j).isLt; omega⟩) := by
  unfold aG chan
  entry_read
  pointwise

section Saved

open Cert.ReferenceIdeal.Value

variable (L : Valuation Cert.ReferenceIdeal.τ Cert.ReferenceIdeal.sig (Elt Ideal))

/-- The factor of the derivative through the inner function, and the pull of the gate's value. -/
def vdU : FVec Ideal Cert.ReferenceIdeal.S8192x3072 .f32 :=
  mulf (broadcastInDim Cert.ReferenceIdeal.S8192x3072 ![] Cert.ReferenceIdeal.Gen.bcast_S_S8192x3072 (constant Cert.ReferenceIdeal.S_ .f32 0x3F4C422A#32))
    (mulf (mulf (broadcastInDim Cert.ReferenceIdeal.S8192x3072 ![] Cert.ReferenceIdeal.Gen.bcast_S_S8192x3072 (constant Cert.ReferenceIdeal.S_ .f32 0x3F000000#32)) (mulf (res_main_v30 L) (res_main_v2 L)))
      (mulf (addf (broadcastInDim Cert.ReferenceIdeal.S8192x3072 ![] Cert.ReferenceIdeal.Gen.bcast_S_S8192x3072 (constant Cert.ReferenceIdeal.S_ .f32 0x3F800000#32)) (res_main_v41 L))
        (subf (broadcastInDim Cert.ReferenceIdeal.S8192x3072 ![] Cert.ReferenceIdeal.Gen.bcast_S_S8192x3072 (constant Cert.ReferenceIdeal.S_ .f32 0x3F800000#32)) (res_main_v41 L))))

def vdT : FVec Ideal Cert.ReferenceIdeal.S8192x3072 .f32 :=
  addf (addf (mulf (res_main_v2 L) (res_main_v50 L)) (vdU L))
    (mulf (mulf (broadcastInDim Cert.ReferenceIdeal.S8192x3072 ![] Cert.ReferenceIdeal.Gen.bcast_S_S8192x3072 (constant Cert.ReferenceIdeal.S_ .f32 0x3D372713#32)) (vdU L))
      (mulf (broadcastInDim Cert.ReferenceIdeal.S8192x3072 ![] Cert.ReferenceIdeal.Gen.bcast_S_S8192x3072 (constant Cert.ReferenceIdeal.S_ .f32 0x40400000#32)) (mulf (res_main_v30 L) (res_main_v30 L))))

variable (h0 : L (Proc.devRef .tc Cert.ReferenceIdeal.main_arg0) = mUp m c) (h1 : L (Proc.devRef .tc Cert.ReferenceIdeal.main_arg1) = mCw m c)
    (h2 : L (Proc.devRef .tc Cert.ReferenceIdeal.main_arg2) = mCb m c)

include h0 h1 h2 in
theorem aGe_at (q : Fin 4) (r : Fin 8192) (j : Fin 768) : aGe m c (ix3 q r j) = res_main_v51 L (ix2 r (chan q j)) := by
  unfold aGe chan
  entry_read
  refine Eq.trans (b := (truncf .bf16 (transpose S4x8192x768 [1, 0, 2] (shapeCast S8192x4x768 (res_main_v51 L) shapeCasts_S8192x3072_S8192x4x768)
    transposes_S8192x4x768_S4x8192x768_1_0_2) bitsLt_bf16_f32 : FVec Ideal S4x8192x768 .bf16) (ix3 q r j)) ?_ ?_
  · unfold res_main_v51 res_main_v50 res_main_v41 res_main_v30 res_main_v9 res_main_v8 res_main_v16 res_main_v17 res_main_v23 res_main_v24 res_main_v4
    rw [h0, h1, h2]
    rfl
  · pointwise

include h0 h1 h2 in
theorem aVd_at (q : Fin 4) (r : Fin 8192) (j : Fin 768) : aVd m c (ix3 q r j) = vdT L (ix2 r (chan q j)) := by
  unfold aVd chan
  entry_read
  refine Eq.trans (b := (truncf .bf16 (transpose S4x8192x768 [1, 0, 2] (shapeCast S8192x4x768 (vdT L) shapeCasts_S8192x3072_S8192x4x768)
    transposes_S8192x4x768_S4x8192x768_1_0_2) bitsLt_bf16_f32 : FVec Ideal S4x8192x768 .bf16) (ix3 q r j)) ?_ ?_
  · unfold vdT vdU res_main_v2 res_main_v50 res_main_v41 res_main_v30 res_main_v9 res_main_v8 res_main_v16 res_main_v17 res_main_v23 res_main_v24 res_main_v4
    rw [h0, h1, h2]
    rfl
  · pointwise

end Saved

end Cert.KernelIdeal.Ffn

end
-- ==== Proof.FfnRef.lean ====
module

public import proofs.«01_k».proof.Proof.FfnReal
public import proofs.«01_k».proof.Proof.FfnHost

@[expose] public section

set_option maxRecDepth 16384

noncomputable section

namespace Cert.ReferenceIdeal.Ffn

open Cert.ReferenceIdeal Cert.ReferenceIdeal.Gen Cert.ReferenceIdeal.Value Idealize.ShloMosaic Idealize.ShloMosaic.TcCoe Idealize.SL.Sem Cert.Ffn

variable (L : Valuation τ sig (Elt Ideal))

abbrev lUp : FVec Ideal S8192x6144 .f32 := L (Proc.devRef .tc main_arg0)
abbrev lCw : FVec Ideal S3x3072 .f32 := L (Proc.devRef .tc main_arg1)
abbrev lCb : FVec Ideal S3072 .f32 := L (Proc.devRef .tc main_arg2)
abbrev lWd : FVec Ideal S3072x1024 .f32 := L (Proc.devRef .tc main_arg3)
abbrev lDz : FVec Ideal S8192x1024 .bf16 := L (Proc.devRef .tc main_arg4)

/-- The gate, nothing before its first row. -/
def xg (k : Fin 3) (r : Fin 8192) (j : Fin 3072) : EReal :=
  if h : (r : ℕ) + k < 2 then 0 else lUp L (ix2 ⟨r + k - 2, by omega⟩ ⟨j, by omega⟩)

theorem v4_at (r : Fin 8194) (j : Fin 3072) : res_main_v4 (F := Ideal) L (ix2 r j)
    = if h : (r : ℕ) < 2 then 0 else lUp L (ix2 ⟨r - 2, by omega⟩ ⟨j, by omega⟩) := by
  pointwise [res_main_v4]

theorem v8_at (r : Fin 8192) (j : Fin 3072) : res_main_v8 (F := Ideal) L (ix2 r j) = xg L 0 r j := by
  pointwise [res_main_v8]
  rw [v4_at, xg]
  split_ifs with h1 h2 h2
  · rfl
  · exact absurd h1 (by simp at h2 ⊢ <;> omega)
  · exact absurd h2 (by simp at h1 ⊢ <;> omega)
  · refine congrArg (lUp L) (congrArg (fun a => ix2 a _) (Fin.ext ?_))
    simp; try omega

theorem v16_at (r : Fin 8192) (j : Fin 3072) : res_main_v16 (F := Ideal) L (ix2 r j) = xg L 1 r j := by
  pointwise [res_main_v16]
  rw [v4_at, xg]
  split_ifs with h1 h2 h2
  · rfl
  · exact absurd h1 (by simp at h2 ⊢ <;> omega)
  · exact absurd h2 (by simp at h1 ⊢ <;> omega)
  · refine congrArg (lUp L) (congrArg (fun a => ix2 a _) (Fin.ext ?_))
    simp; try omega

theorem v23_at (r : Fin 8192) (j : Fin 3072) : res_main_v23 (F := Ideal) L (ix2 r j) = xg L 2 r j := by
  pointwise [res_main_v23]
  rw [v4_at, xg]
  split_ifs with h1 h2 h2
  · rfl
  · exact absurd h1 (by simp at h2 ⊢ <;> omega)
  · exact absurd h2 (by simp at h1 ⊢ <;> omega)
  · refine congrArg (lUp L) (congrArg (fun a => ix2 a _) (Fin.ext ?_))
    simp; try omega

theorem v9_at (u : Fin 1) (j : Fin 3072) : res_main_v9 (F := Ideal) L (ix2 u j) = lCw L (ix2 0 j) := by
  pointwise [res_main_v9]
theorem v17_at (u : Fin 1) (j : Fin 3072) : res_main_v17 (F := Ideal) L (ix2 u j) = lCw L (ix2 1 j) := by
  pointwise [res_main_v17]
theorem v24_at (u : Fin 1) (j : Fin 3072) : res_main_v24 (F := Ideal) L (ix2 u j) = lCw L (ix2 2 j) := by
  pointwise [res_main_v24]

theorem v2_at (r : Fin 8192) (j : Fin 3072) : res_main_v2 (F := Ideal) L (ix2 r j) = lUp L (ix2 r ⟨3072 + j, by omega⟩) := by
  pointwise [res_main_v2]

theorem v54_at (r : Fin 8192) (j : Fin 3072) : res_main_v54 (F := Ideal) L (ix2 r j) = ∑ k : Fin 1024, lDz L (ix2 r k) * lWd L (ix2 j k) := by
  pointwise [res_main_v54]

theorem v30_at (r : Fin 8192) (j : Fin 3072) : res_main_v30 (F := Ideal) L (ix2 r j)
    = lCw L (ix2 0 j) * xg L 0 r j + lCw L (ix2 1 j) * xg L 1 r j + lCw L (ix2 2 j) * xg L 2 r j + lCb L (ix1 j) := by
  rw [← v8_at, ← v16_at, ← v23_at]
  pointwise [res_main_v30, res_main_v9, res_main_v17, res_main_v24]

abbrev V30 : FVec Ideal S8192x3072 .f32 := res_main_v30 (F := Ideal) L
abbrev V54 : FVec Ideal S8192x3072 .f32 := res_main_v54 (F := Ideal) L
abbrev V51 : FVec Ideal S8192x3072 .f32 := res_main_v51 (F := Ideal) L
abbrev V68 : FVec Ideal S8192x3072 .f32 := res_main_v68 (F := Ideal) L
abbrev VT : FVec Ideal S8192x3072 .f32 := Cert.KernelIdeal.Ffn.vdT L

theorem v41_at (r : Fin 8192) (j : Fin 3072) : res_main_v41 (F := Ideal) L (ix2 r j)
    = Ideal.tanh (Ideal.ofBits FTy.f32 1061962282#32 * (V30 L (ix2 r j) + Ideal.ofBits FTy.f32 1027024659#32 * (V30 L (ix2 r j) * V30 L (ix2 r j) * V30 L (ix2 r j)))) := by
  pointwise [res_main_v41]

theorem v50_at (r : Fin 8192) (j : Fin 3072) : res_main_v50 (F := Ideal) L (ix2 r j)
    = (Ideal.ofBits FTy.f32 0x3F000000#32 * (Ideal.ofBits FTy.f32 0x3F800000#32 + res_main_v41 (F := Ideal) L (ix2 r j)) : EReal) := by
  pointwise [res_main_v50]

theorem isR_const (w : BitVec 32) (h : Ideal.ofBits FTy.f32 w ≠ ⊤ := by simp [Ideal.ofBits, Ideal.ieee, -EReal.coe_mul])
    (h' : Ideal.ofBits FTy.f32 w ≠ ⊥ := by simp [Ideal.ofBits, Ideal.ieee, -EReal.coe_mul]) : IsR (Ideal.ofBits FTy.f32 w) := isR_of_ne h h'

/-- All five arguments hold real numbers. -/
structure Reals : Prop where
  up : ∀ i, IsR (lUp L i)
  cw : ∀ i, IsR (lCw L i)
  cb : ∀ i, IsR (lCb L i)
  wd : ∀ i, IsR (lWd L i)
  dz : ∀ i, IsR (lDz L i)

variable {L}

theorem Reals.xg (H : Reals L) (k : Fin 3) (r : Fin 8192) (j : Fin 3072) : IsR (xg L k r j) := by
  unfold Ffn.xg; split_ifs
  · exact IsR.zero
  · exact H.up _

theorem Reals.v30 (H : Reals L) (r : Fin 8192) (j : Fin 3072) : IsR (res_main_v30 (F := Ideal) L (ix2 r j)) := by
  rw [v30_at]
  exact ((((H.cw _).mul (H.xg _ _ _)).add ((H.cw _).mul (H.xg _ _ _))).add ((H.cw _).mul (H.xg _ _ _))).add (H.cb _)

theorem Reals.v41 (H : Reals L) (r : Fin 8192) (j : Fin 3072) : IsR (res_main_v41 (F := Ideal) L (ix2 r j)) := by
  rw [v41_at]
  have h := H.v30 r j
  exact IsR.tanh ((isR_const 1061962282#32).mul (h.add ((isR_const 1027024659#32).mul ((h.mul h).mul h))))

theorem Reals.v50 (H : Reals L) (r : Fin 8192) (j : Fin 3072) : IsR (res_main_v50 (F := Ideal) L (ix2 r j)) := by
  rw [v50_at]
  exact (isR_const 0x3F000000#32).mul ((isR_const 0x3F800000#32).add (H.v41 r j))

theorem Reals.v54 (H : Reals L) (r : Fin 8192) (j : Fin 3072) : IsR (res_main_v54 (F := Ideal) L (ix2 r j)) := by
  rw [v54_at]
  exact IsR.sum _ _ (fun k _ => (H.dz _).mul (H.wd _))

theorem Reals.v2 (H : Reals L) (r : Fin 8192) (j : Fin 3072) : IsR (res_main_v2 (F := Ideal) L (ix2 r j)) := by
  rw [v2_at]; exact H.up _

theorem v68_at (H : Reals L) (r : Fin 8192) (j : Fin 3072) :
    V68 L (ix2 r j) = V54 L (ix2 r j) * VT L (ix2 r j) := by
  have e := pull_mul (H.v54 r j) (H.v2 r j) (H.v30 r j) (H.v41 r j) (H.v50 r j) (isR_const 0x3F4C422A#32) (isR_const 0x3D372713#32)
    (isR_const 0x3F000000#32) (isR_const 0x3F800000#32) (isR_const 0x40400000#32)
  pointwise [res_main_v68, res_main_v63, res_main_v56, Cert.KernelIdeal.Ffn.vdT, Cert.KernelIdeal.Ffn.vdU]
  simp only [Ideal.ofBits_one_f32] at e
  exact e

/-- The gate's gradient behind the convolution, nothing after the last row. -/
def dgr (L : Valuation τ sig (Elt Ideal)) (r : ℕ) (j : Fin 3072) : EReal :=
  if h : r < 8192 then res_main_v68 (F := Ideal) L (ix2 ⟨r, h⟩ j) else 0

theorem v99_at (r : Fin 8192) (j : Fin 3072) : res_main_v99 (F := Ideal) L (ix2 ⟨2 + r, by omega⟩ j)
    = (lCw L (ix2 2 j) * dgr L r j + lCw L (ix2 1 j) * dgr L (r + 1) j + lCw L (ix2 0 j) * dgr L (r + 2) j : EReal) := by
  pointwise [res_main_v99]
  have e9 : res_main_v9 (F := Ideal) L (ix2 0 j) = lCw L (ix2 0 j) := v9_at L 0 j
  have e17 : res_main_v17 (F := Ideal) L (ix2 0 j) = lCw L (ix2 1 j) := v17_at L 0 j
  have e24 : res_main_v24 (F := Ideal) L (ix2 0 j) = lCw L (ix2 2 j) := v24_at L 0 j
  rw [e9, e17, e24]
  refine congr (congrArg HAdd.hAdd (congr (congrArg HAdd.hAdd ?_) ?_)) ?_
  · rw [dgr, dif_pos r.isLt]
  · by_cases h : (r : ℕ) + 1 < 8192
    · rw [dif_pos ⟨by omega, by omega⟩, dgr, dif_pos h]
      refine congrArg (fun a => (lCw L (ix2 1 j) * a : EReal)) (congrArg (fun a => res_main_v68 (F := Ideal) L (ix2 a j)) (Fin.ext ?_))
      show 2 + (r : ℕ) - 1 = r + 1
      omega
    · rw [dif_neg (by omega), dgr, dif_neg h]; exact (mul_zero _).symm
  · by_cases h : (r : ℕ) + 2 < 8192
    · rw [dif_pos (by omega), dgr, dif_pos h]
      refine congrArg (fun a => (lCw L (ix2 0 j) * a : EReal)) (congrArg (fun a => res_main_v68 (F := Ideal) L (ix2 a j)) (Fin.ext ?_))
      show 2 + (r : ℕ) = r + 2
      omega
    · rw [dif_neg (by omega), dgr, dif_neg h]; exact (mul_zero _).symm

/-- The first result. -/
def ref6 (L : Valuation τ sig (Elt Ideal)) : FVec Ideal S8192x6144 .bf16 :=
  truncf .bf16 (shapeCast _ (transpose S8192x4x2x768 [0, 2, 1, 3] (shapeCast _ (concatenate S8192x6144 1 [⟨S8192x3072, (extractStridedSlice S8192x3072 ![2, 0] (res_main_v99 L) slices_S8194x3072_S8192x3072_2_0)⟩, ⟨S8192x3072, (mulf (res_main_v51 L) (res_main_v54 L))⟩] concatenates_S8192x3072_S8192x3072_S8192x6144_d1) shapeCasts_S8192x6144_S8192x2x4x768) transposes_S8192x2x4x768_S8192x4x2x768_0_2_1_3) shapeCasts_S8192x4x2x768_S8192x6144) bitsLt_bf16_f32

/-- The second result. -/
def ref7 (L : Valuation τ sig (Elt Ideal)) : FVec Ideal S4x8x768 .f32 :=
  transpose S4x8x768 [1, 0, 2] (shapeCast _ ((concatenate S8x3072 0 [⟨S3x3072, ((addf (addf (pad S3x3072 ![2, 0] ![0, 0] ![0, 0] (broadcastInDim S1x3072 ![1] bcast_S3072_S1x3072_1 (Host.reduceAdd (shapeCast _ (Host.reduceAdd (mulf (res_main_v68 L) (res_main_v23 L)) (constant (F := Ideal) S_ .f32 0x00000000#32) reducesTo_S8192x3072_S3072_d0 h_S_) shapeCasts_S3072_S1x3072) (constant (F := Ideal) S_ .f32 0x00000000#32) reducesTo_S1x3072_S3072_d0 h_S_)) (constant (F := Ideal) S_ .f32 0x00000000#32) pads_S1x3072_S3x3072_200_000 h_S_) (pad S3x3072 ![1, 0] ![1, 0] ![0, 0] (broadcastInDim S1x3072 ![1] bcast_S3072_S1x3072_1 (Host.reduceAdd (shapeCast _ (Host.reduceAdd (mulf (res_main_v68 L) (res_main_v16 L)) (constant (F := Ideal) S_ .f32 0x00000000#32) reducesTo_S8192x3072_S3072_d0 h_S_) shapeCasts_S3072_S1x3072) (constant (F := Ideal) S_ .f32 0x00000000#32) reducesTo_S1x3072_S3072_d0 h_S_)) (constant (F := Ideal) S_ .f32 0x00000000#32) pads_S1x3072_S3x3072_110_000 h_S_)) (pad S3x3072 ![0, 0] ![2, 0] ![0, 0] (broadcastInDim S1x3072 ![1] bcast_S3072_S1x3072_1 (Host.reduceAdd (shapeCast _ (Host.reduceAdd (mulf (res_main_v68 L) (res_main_v8 L)) (constant (F := Ideal) S_ .f32 0x00000000#32) reducesTo_S8192x3072_S3072_d0 h_S_) shapeCasts_S3072_S1x3072) (constant (F := Ideal) S_ .f32 0x00000000#32) reducesTo_S1x3072_S3072_d0 h_S_)) (constant (F := Ideal) S_ .f32 0x00000000#32) pads_S1x3072_S3x3072_020_000 h_S_)) : (⟨S3x3072, .f32⟩ : BufTy).Contents (Elt Ideal))⟩, ⟨S1x3072, ((broadcastInDim S1x3072 ![1] bcast_S3072_S1x3072_1 (Host.reduceAdd (shapeCast _ (Host.reduceAdd (res_main_v68 L) (constant (F := Ideal) S_ .f32 0x00000000#32) reducesTo_S8192x3072_S3072_d0 h_S_) shapeCasts_S3072_S1x3072) (constant (F := Ideal) S_ .f32 0x00000000#32) reducesTo_S1x3072_S3072_d0 h_S_)) : (⟨S1x3072, .f32⟩ : BufTy).Contents (Elt Ideal))⟩, ⟨S4x3072, ((broadcastInDim S4x3072 ![] bcast_S_S4x3072 (constant (F := Ideal) S_ .f32 0x00000000#32)) : (⟨S4x3072, .f32⟩ : BufTy).Contents (Elt Ideal))⟩] concatenates_S3x3072_S1x3072_S4x3072_S8x3072_d0 : (⟨S8x3072, .f32⟩ : BufTy).Contents (Elt Ideal))) shapeCasts_S8x3072_S8x4x768) transposes_S8x4x768_S4x8x768_1_0_2

theorem ref6_at (r : Fin 8192) (q : Fin 6144) : ref6 L (ix2 r q)
    = if h : (q : ℕ) / 768 % 2 * 3072 + q / 1536 * 768 + q % 768 < 3072 then
        res_main_v99 (F := Ideal) L (ix2 ⟨2 + r, by omega⟩ ⟨(q : ℕ) / 768 % 2 * 3072 + q / 1536 * 768 + q % 768, h⟩)
      else V51 L (ix2 r ⟨(q : ℕ) / 768 % 2 * 3072 + q / 1536 * 768 + q % 768 - 3072, by omega⟩)
        * V54 L (ix2 r ⟨(q : ℕ) / 768 % 2 * 3072 + q / 1536 * 768 + q % 768 - 3072, by omega⟩) := by
  pointwise [ref6]

theorem ref7_3 (q : Fin 4) (k : Fin 8) (j : Fin 768) (hk : (k : ℕ) = 3) : ref7 L (ix3 q k j) = ∑ x : Fin 8192, V68 L (ix2 x ⟨q * 768 + j, by omega⟩) := by
  pointwise [ref7]
  rw [dif_neg (by omega), dif_pos (by omega), Fin.sum_univ_one]
theorem ref7_2 (q : Fin 4) (k : Fin 8) (j : Fin 768) (hk : (k : ℕ) = 2) :
    ref7 L (ix3 q k j) = ∑ x : Fin 8192, V68 L (ix2 x ⟨q * 768 + j, by omega⟩) * xg L 2 x ⟨q * 768 + j, by omega⟩ := by
  simp only [← v23_at]
  pointwise [ref7]
  split_ifs
  all_goals first
    | (exfalso; omega)
    | skip
  have e1 : ¬ ((1 ≤ (k : ℕ) ∧ (k : ℕ) - 1 < 1) ∧ (q : ℕ) * 768 + (j : ℕ) < 3072) := by omega
  have e0 : ¬ ((k : ℕ) < 1 ∧ (q : ℕ) * 768 + (j : ℕ) < 3072) := by omega
  simp only [dif_neg e1, dif_neg e0, add_zero, Fin.sum_univ_one]
theorem ref7_1 (q : Fin 4) (k : Fin 8) (j : Fin 768) (hk : (k : ℕ) = 1) :
    ref7 L (ix3 q k j) = ∑ x : Fin 8192, V68 L (ix2 x ⟨q * 768 + j, by omega⟩) * xg L 1 x ⟨q * 768 + j, by omega⟩ := by
  simp only [← v16_at]
  pointwise [ref7]
  split_ifs
  all_goals first
    | (exfalso; omega)
    | skip
  have e0 : ¬ ((k : ℕ) < 1 ∧ (q : ℕ) * 768 + (j : ℕ) < 3072) := by omega
  simp only [dif_neg e0, add_zero, zero_add, Fin.sum_univ_one]
theorem ref7_0 (q : Fin 4) (k : Fin 8) (j : Fin 768) (hk : (k : ℕ) = 0) :
    ref7 L (ix3 q k j) = ∑ x : Fin 8192, V68 L (ix2 x ⟨q * 768 + j, by omega⟩) * xg L 0 x ⟨q * 768 + j, by omega⟩ := by
  simp only [← v8_at]
  pointwise [ref7]
  split_ifs
  all_goals first
    | (exfalso; omega)
    | skip
  simp only [add_zero, zero_add, Fin.sum_univ_one]
theorem ref7_4 (q : Fin 4) (k : Fin 8) (j : Fin 768) (hk : 4 ≤ (k : ℕ)) : ref7 L (ix3 q k j) = (0 : EReal) := by
  pointwise [ref7]
  rw [dif_neg (by omega), dif_neg (by omega)]

theorem shift_sum (s m : ℕ) (f g : ℕ → EReal) (hf : ∀ r, s + m ≤ r → f r = 0) :
    ∑ r : Fin (s + m), f (r + s) * g r = ∑ r : Fin (s + m), f r * (if (r : ℕ) < s then 0 else g (r - s)) := by
  rw [Fin.sum_univ_eq_sum_range (fun r => f (r + s) * g r), Fin.sum_univ_eq_sum_range (fun r => f r * (if r < s then 0 else g (r - s)))]
  have e1 : ∑ x ∈ Finset.range (s + m), f (x + s) * g x = ∑ x ∈ Finset.range m, f (x + s) * g x := by
    rw [add_comm s m, Finset.sum_range_add, Finset.sum_eq_zero (s := Finset.range s) fun x _ => ?_, add_zero]
    rw [hf _ (by omega), zero_mul]
  rw [e1, Finset.sum_range_add, Finset.sum_eq_zero (s := Finset.range s) fun x hx => ?_, zero_add]
  · refine Finset.sum_congr rfl fun x _ => ?_
    rw [if_neg (by omega), Nat.add_comm s x, Nat.add_sub_cancel]
  · rw [if_pos (Finset.mem_range.mp hx), mul_zero]

end Cert.ReferenceIdeal.Ffn

end
-- ==== Proof.DownRef.lean ====
module

public import proofs.«01_k».proof.Proof.DownPay
public import proofs.«01_k».proof.Proof.Dh1Ref
public import proofs.«01_k».proof.Proof.FfnRef
public import proofs.«01_k».proof.Proof.Gen.Reference14Ideal.Run
public import proofs.«01_k».proof.Proof.Gen.Pre_finite14

@[expose] public section

set_option maxRecDepth 16384

noncomputable section

namespace Cert.Reference14Ideal.Down

open Cert.Reference14Ideal Cert.Reference14Ideal.Gen Cert.Reference14Ideal.Value Idealize.ShloMosaic Idealize.ShloMosaic.TcCoe Idealize.SL.Sem Cert.Ffn
open Cert.Kernel2Ideal.Dh1 (mean cen rst pull pullRef pull_eq word_n word_two)
open Cert.Kernel14Ideal.Down (hR mR sgK zR dyR dzR dpR dqR)
open Cert.ReferenceIdeal.Ffn (isR_const)

section Scalar

/-- The sigmoid as the reference writes it. -/
def sgR (x : EReal) : EReal := Ideal.div 1 (1 + Ideal.exp (-x))

theorem word_h : Ideal.ofBits FTy.f32 0x3F000000#32 = ((1 / 2 : ℝ) : EReal) := by
  simp [Ideal.ofBits, Ideal.ieee, -EReal.coe_mul]; try norm_num
theorem word_q : Ideal.ofBits FTy.f32 0x3A800000#32 = ((1 / 1024 : ℝ) : EReal) := by
  simp [Ideal.ofBits, Ideal.ieee, -EReal.coe_mul]; try norm_num

/-- Of a real number both are one. -/
theorem sg_eq (x : EReal) (h : IsR x) : sgR x = sgK x := by
  obtain ⟨a, rfl⟩ := h
  unfold sgR sgK
  rw [word_h, ← EReal.coe_neg, Ideal.exp_coe, ← EReal.coe_one, ← EReal.coe_add, Cert.Kernel2Ideal.Dh1.div_coe _ _ (by positivity), ← EReal.coe_mul, Ideal.tanh_coe,
    ← EReal.coe_mul, ← EReal.coe_add]
  congr 1
  rw [Real.tanh_eq_sinh_div_cosh, Real.sinh_eq, Real.cosh_eq]
  have e1 : Real.exp (-a) = Real.exp (-(1 / 2 * a)) * Real.exp (-(1 / 2 * a)) := by rw [← Real.exp_add]; congr 1; ring
  have e2 : Real.exp (1 / 2 * a) * Real.exp (-(1 / 2 * a)) = 1 := by rw [← Real.exp_add]; simp
  rw [e1]
  have p1 := Real.exp_pos (1 / 2 * a)
  have p2 := Real.exp_pos (-(1 / 2 * a))
  generalize Real.exp (1 / 2 * a) = u at *
  generalize Real.exp (-(1 / 2 * a)) = v at *
  have hu : u = v⁻¹ := eq_inv_of_mul_eq_one_left e2
  subst hu
  field_simp
  ring

theorem isR_sgK {x : EReal} (h : IsR x) : IsR (sgK x) := by
  unfold sgK
  exact (isR_const _).add ((isR_const _).mul (((isR_const _).mul h).tanh))

theorem IsR.sub' {x y : EReal} (hx : IsR x) (hy : IsR y) : IsR (x - y) := by
  obtain ⟨a, rfl⟩ := hx; obtain ⟨b, rfl⟩ := hy; exact ⟨a - b, by norm_cast⟩

/-- The mean square's gradient, the halving and the doubling in turn, of a real number. -/
theorem half_two (d : EReal) (h : IsR d) :
    Ideal.div (Ideal.ofBits FTy.f32 0x3F000000#32 * 1) (Ideal.ofBits FTy.f32 0x44800000#32) * (Ideal.ofBits FTy.f32 0x40000000#32 * d)
      = d * Ideal.ofBits FTy.f32 0x3A800000#32 := by
  obtain ⟨a, rfl⟩ := h
  rw [mul_one, word_h, word_n, word_two, word_q, Cert.Kernel2Ideal.Dh1.div_coe _ _ (by norm_num), ← EReal.coe_mul, ← EReal.coe_mul, ← EReal.coe_mul]
  congr 1
  ring

variable {z : Fin 1024 → EReal} (hz : ∀ k, IsR (z k))
include hz

theorem isR_cen (j : Fin 1024) : IsR (cen z j) := by
  choose a ha using hz
  obtain rfl : z = fun k => (a k : EReal) := funext ha
  exact ⟨_, Cert.Kernel2Ideal.Dh1.cen_coe a j⟩

theorem isR_rst : IsR (rst z) := by
  choose a ha using hz
  obtain rfl : z = fun k => (a k : EReal) := funext ha
  obtain ⟨e, he, hw⟩ := Cert.Kernel2Ideal.Dh1.word_eps
  exact ⟨_, Cert.Kernel2Ideal.Dh1.rst_coe a he hw⟩

theorem isR_hR {g b : Fin 1024 → EReal} (hg : ∀ k, IsR (g k)) (hb : ∀ k, IsR (b k)) (j : Fin 1024) : IsR (hR z g b j) := by
  unfold hR
  exact (((isR_cen hz j).mul (isR_rst hz)).mul (hg j)).add (hb j)

theorem isR_dyR {t g b : Fin 1024 → EReal} (ht : ∀ k, IsR (t k)) (hg : ∀ k, IsR (g k)) (hb : ∀ k, IsR (b k)) (j : Fin 1024) : IsR (dyR z t g b j) := by
  unfold dyR
  exact (IsR.sub' (isR_hR hz hg hb j) (ht j)).mul (isR_const _)

end Scalar

theorem isR_mR {n : ℕ} {a : Fin n → EReal} {w : Fin n → Fin 1024 → EReal} (ha : ∀ k, IsR (a k)) (hw : ∀ k j, IsR (w k j)) (j : Fin 1024) : IsR (mR a w j) := by
  unfold mR
  exact IsR.sum _ _ fun k _ => (ha k).mul (hw k j)

theorem isR_zR {h f s q : Fin 1024 → EReal} (hh : ∀ k, IsR (h k)) (hf : ∀ k, IsR (f k)) (hs : ∀ k, IsR (s k)) (hq : ∀ k, IsR (q k)) (j : Fin 1024) :
    IsR (zR h f s q j) := by
  unfold zR
  exact (((isR_const _).mul (hh j)).add (hf j)).add ((hs j).mul (hq j))

/-- The arguments by their names. -/
structure Args where
  act : FVec Ideal S8192x3072 .bf16
  z1 : FVec Ideal S8192x1024 .f32
  p : FVec Ideal S8192x256 .f32
  t : FVec Ideal S8192x1024 .f32
  wd : FVec Ideal S3072x1024 .f32
  wg : FVec Ideal S1024x1024 .f32
  wp : FVec Ideal S256x1024 .f32
  g1 : FVec Ideal S1024 .f32
  b1 : FVec Ideal S1024 .f32
  g2 : FVec Ideal S1024 .f32
  b2 : FVec Ideal S1024 .f32
  bg : FVec Ideal S1024 .f32

/-- All of them real numbers. -/
structure Args.Real (A : Args) : Prop where
  act : ∀ i, IsR (A.act i)
  z1 : ∀ i, IsR (A.z1 i)
  p : ∀ i, IsR (A.p i)
  t : ∀ i, IsR (A.t i)
  wd : ∀ i, IsR (A.wd i)
  wg : ∀ i, IsR (A.wg i)
  wp : ∀ i, IsR (A.wp i)
  g1 : ∀ i, IsR (A.g1 i)
  b1 : ∀ i, IsR (A.b1 i)
  g2 : ∀ i, IsR (A.g2 i)
  b2 : ∀ i, IsR (A.b2 i)
  bg : ∀ i, IsR (A.bg i)

section Rows

variable (A : Args) (r : Fin 8192) (j : Fin 1024)

/-- The rows of the call, of its arguments. -/
def aH : Fin 1024 → EReal := hR (fun k => A.z1 (ix2 r k)) (fun k => A.g1 (ix1 k)) (fun k => A.b1 (ix1 k))
def aX : EReal := mR (aH A r) (fun k j => A.wg (ix2 k j)) j + A.bg (ix1 j)
def aS : EReal := sgK (aX A r j)
def aQ : Fin 1024 → EReal := mR (fun k : Fin 256 => A.p (ix2 r k)) (fun k j => A.wp (ix2 k j))
def aZ : Fin 1024 → EReal := zR (aH A r) (mR (fun k : Fin 3072 => A.act (ix2 r k)) (fun k j => A.wd (ix2 k j))) (aS A r) (aQ A r)
def aD : Fin 1024 → EReal := dzR (aZ A r) (fun k => A.t (ix2 r k)) (fun k => A.g2 (ix1 k)) (fun k => A.b2 (ix1 k))
def aP : EReal := dpR (aD A r) (aS A r) (aQ A r) j
def aR : EReal := dqR (aD A r) (aS A r) j

variable {A} (R : A.Real)
include R

theorem real_H : IsR (aH A r j) := isR_hR (fun _ => R.z1 _) (fun _ => R.g1 _) (fun _ => R.b1 _) j
theorem real_X : IsR (aX A r j) := (isR_mR (fun k => real_H r k R) (fun _ _ => R.wg _) j).add (R.bg _)
theorem real_S : IsR (aS A r j) := isR_sgK (real_X r j R)
theorem real_Q : IsR (aQ A r j) := isR_mR (fun _ => R.p _) (fun _ _ => R.wp _) j
theorem real_Z : IsR (aZ A r j) :=
  isR_zR (fun k => real_H r k R) (fun k => isR_mR (fun _ => R.act _) (fun _ _ => R.wd _) k) (fun k => real_S r k R) (fun k => real_Q r k R) j

end Rows

variable (L : Valuation τ sig (Elt Ideal))

/-- The arguments that a valuation holds. -/
def args : Args := ⟨L (Proc.devRef .tc main_arg0), L (Proc.devRef .tc main_arg1), L (Proc.devRef .tc main_arg2), L (Proc.devRef .tc main_arg3),
  L (Proc.devRef .tc main_arg4), L (Proc.devRef .tc main_arg5), L (Proc.devRef .tc main_arg6), L (Proc.devRef .tc main_arg7),
  L (Proc.devRef .tc main_arg8), L (Proc.devRef .tc main_arg9), L (Proc.devRef .tc main_arg10), L (Proc.devRef .tc main_arg11)⟩

abbrev V23 : FVec Ideal S8192x1024 .f32 := res_main_v23 (F := Ideal) L
abbrev V30 : FVec Ideal S8192x1024 .f32 := res_main_v30 (F := Ideal) L
abbrev V39 : FVec Ideal S8192x1024 .f32 := res_main_v39 (F := Ideal) L
abbrev V44 : FVec Ideal S8192x1024 .f32 := res_main_v44 (F := Ideal) L
abbrev V74 : FVec Ideal S8192x1024 .f32 := res_main_v74 (F := Ideal) L
abbrev V90 : FVec Ideal S8192x1024 .f32 := res_main_v90 (F := Ideal) L
abbrev V114 : FVec Ideal S8192x1024 .f32 := res_main_v114 (F := Ideal) L

/-- A normalisation, scaled and shifted. -/
def lnv (x : FVec Ideal S8192x1024 .f32) (g b : FVec Ideal S1024 .f32) : FVec Ideal S8192x1024 .f32 :=
  addf (mulf (Cert.Reference2Ideal.Dh1.xh x) (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

theorem lnv_at (x : FVec Ideal S8192x1024 .f32) (g b : FVec Ideal S1024 .f32) (r : Fin 8192) (j : Fin 1024) :
    lnv x g b (ix2 r j) = hR (fun k => x (ix2 r k)) (fun k => g (ix1 k)) (fun k => b (ix1 k)) j := by
  pointwise [lnv]
  rw [Cert.Reference2Ideal.Dh1.xh_at]
  rfl

theorem v23_eq : V23 L = lnv (args L).z1 (args L).g1 (args L).b1 := rfl
theorem v74_eq : V74 L = subf (lnv (V44 L) (args L).g2 (args L).b2) (args L).t := rfl
theorem v114_eq : V114 L = Cert.Reference2Ideal.Dh1.pl (V44 L) (V90 L) := rfl

variable (r : Fin 8192) (j : Fin 1024)

theorem v23_at : V23 L (ix2 r j) = aH (args L) r j := by
  rw [v23_eq, lnv_at]; rfl

theorem v30_at : V30 L (ix2 r j) = aQ (args L) r j := by
  pointwise [res_main_v30, aQ, mR]
  rfl

theorem v39_at : V39 L (ix2 r j) = sgR (aX (args L) r j) := by
  pointwise [res_main_v39, sgR, aX, mR]
  simp only [← v23_at]
  rfl

variable (R : (args L).Real)
include R

theorem v39_eq : V39 L (ix2 r j) = aS (args L) r j := (v39_at L r j).trans (sg_eq _ (real_X r j R))

theorem v44_at : V44 L (ix2 r j) = aZ (args L) r j := by
  unfold aZ zR
  rw [← v39_eq L r j R, ← v30_at, ← v23_at]
  pointwise [res_main_v44, mR]
  rfl

theorem v74_at : V74 L (ix2 r j) = hR (aZ (args L) r) (fun k => (args L).g2 (ix1 k)) (fun k => (args L).b2 (ix1 k)) j - (args L).t (ix2 r j) := by
  rw [v74_eq]
  refine congrArg (fun x : EReal => x - (args L).t (ix2 r j)) ((lnv_at _ _ _ r j).trans ?_)
  simp only [v44_at L r _ R]

theorem v90_at : V90 L (ix2 r j) = dyR (aZ (args L) r) (fun k => (args L).t (ix2 r k)) (fun k => (args L).g2 (ix1 k)) (fun k => (args L).b2 (ix1 k)) j * (args L).g2 (ix1 j) := by
  unfold dyR
  rw [← v74_at L r j R, ← half_two _ (by rw [v74_at L r j R]; exact IsR.sub' (isR_hR (fun k => real_Z r k R) (fun _ => R.g2 _) (fun _ => R.b2 _) j) (R.t _))]
  pointwise [res_main_v90, res_main_v68]
  rfl

theorem v114_at : V114 L (ix2 r j) = aD (args L) r j := by
  rw [v114_eq, Cert.Reference2Ideal.Dh1.pl_at]
  simp only [v44_at L r _ R, v90_at L r _ R]
  exact pull_eq _ _ (fun k => real_Z r k R) (fun k => (isR_dyR (fun k => real_Z r k R) (fun _ => R.t _) (fun _ => R.g2 _) (fun _ => R.b2 _) k).mul (R.g2 _)) j

/-- What the reference returns. -/
theorem out0 : V114 L = fun y => aD (args L) (y 0) (y 1) := by
  funext y
  idx_vars y
  exact v114_at L _ _ R

theorem out1 : truncf .bf16 (V114 L) bitsLt_bf16_f32 = (fun y => aD (args L) (y 0) (y 1) : FVec Ideal S8192x1024 .bf16) := by
  funext y
  idx_vars y
  exact v114_at L _ _ R

theorem out2 : truncf .bf16 (mulf (mulf (V114 L) (V30 L)) (mulf (V39 L) (subf (broadcastInDim S8192x1024 ![] bcast_S_S8192x1024 (constant S_ .f32 0x3F800000#32)) (V39 L)))) bitsLt_bf16_f32
    = (fun y => aP (args L) (y 0) (y 1) : FVec Ideal S8192x1024 .bf16) := by
  funext y
  idx_vars y
  change _ = aP (args L) y0 y1
  unfold aP dpR
  rw [← v114_at L _ _ R, ← v39_eq L _ _ R, ← v30_at]
  pointwise
  rw [mul_assoc, mul_assoc, mul_assoc]

theorem out3 : truncf .bf16 (mulf (V39 L) (V114 L)) bitsLt_bf16_f32 = (fun y => aR (args L) (y 0) (y 1) : FVec Ideal S8192x1024 .bf16) := by
  funext y
  idx_vars y
  change _ = aR (args L) y0 y1
  unfold aR dqR
  rw [← v114_at L _ _ R, ← v39_eq L _ _ R]
  exact mul_comm _ _

end Cert.Reference14Ideal.Down

end
-- ==== Proof.DownArr.lean ====
module

public import proofs.«01_k».proof.Proof.DownOut
public import proofs.«01_k».proof.Proof.DownRef
public import Idealize.ShloMosaic.Lib.Claim

@[expose] public section

set_option maxRecDepth 16384

noncomputable section

namespace Cert.Kernel14Ideal.Down

open Cert.Kernel14Ideal Cert.Kernel14Ideal.Gen Idealize.ShloMosaic Idealize.ShloMosaic.TcCoe Idealize.SL.Sem
open Cert.Reference14Ideal.Down (Args aH aX aS aQ aZ aD aP aR)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0] ∧ win0_12.index t = ![t.val, 0] :=
  (by decide +kernel : ∀ t : Fin grid0.N, _)

theorem lt16 (t : Fin cfg0.N) : t.val < 16 := t.isLt.trans_eq N_0

variable (m : (ℓ : Loc nD τ sig) → Buf (Elt Ideal) ℓ) (c : Dev nD)

/-- The arguments of the call. -/
def args : Args := ⟨m ((c : Thread nD τ).loc main_arg0), m ((c : Thread nD τ).loc main_arg1), m ((c : Thread nD τ).loc main_arg2), m ((c : Thread nD τ).loc main_arg3),
  m ((c : Thread nD τ).loc main_arg4), m ((c : Thread nD τ).loc main_arg5), m ((c : Thread nD τ).loc main_arg6), m ((c : Thread nD τ).loc main_arg7),
  m ((c : Thread nD τ).loc main_arg8), m ((c : Thread nD τ).loc main_arg9), m ((c : Thread nD τ).loc main_arg10), m ((c : Thread nD τ).loc main_arg11)⟩

/-- The operands of the call as the region finds them. -/
def b0 : FVec Ideal S8192x3072 .bf16 := V m c main_arg0
def b1 : FVec Ideal S8192x1024 .f32 := V m c main_arg1
def b2 : FVec Ideal S8192x256 .f32 := V m c main_arg2
def b3 : FVec Ideal S8192x1024 .f32 := V m c main_arg3
def b4 : FVec Ideal S1x1024 .f32 := V m c main_v4
def b5 : FVec Ideal S1x1024 .f32 := V m c main_v5
def b6 : FVec Ideal S1x1024 .f32 := V m c main_v6
def b7 : FVec Ideal S1x1024 .f32 := V m c main_v7
def b8 : FVec Ideal S1x1024 .f32 := V m c main_v8

theorem b0_at : b0 m c = (args m c).act := by
  unfold b0
  entry_read
  rfl
theorem b1_at : b1 m c = (args m c).z1 := by
  unfold b1
  entry_read
  rfl
theorem b2_at : b2 m c = (args m c).p := by
  unfold b2
  entry_read
  rfl
theorem b3_at : b3 m c = (args m c).t := by
  unfold b3
  entry_read
  rfl
theorem b4_at (u : Fin 1) (j : Fin 1024) : b4 m c (ix2 u j) = (args m c).g1 (ix1 j) := by
  unfold b4
  entry_read
  pointwise
  rfl
theorem b5_at (u : Fin 1) (j : Fin 1024) : b5 m c (ix2 u j) = (args m c).b1 (ix1 j) := by
  unfold b5
  entry_read
  pointwise
  rfl
theorem b6_at (u : Fin 1) (j : Fin 1024) : b6 m c (ix2 u j) = (args m c).g2 (ix1 j) := by
  unfold b6
  entry_read
  pointwise
  rfl
theorem b7_at (u : Fin 1) (j : Fin 1024) : b7 m c (ix2 u j) = (args m c).b2 (ix1 j) := by
  unfold b7
  entry_read
  pointwise
  rfl
theorem b8_at (u : Fin 1) (j : Fin 1024) : b8 m c (ix2 u j) = (args m c).bg (ix1 j) := by
  unfold b8
  entry_read
  pointwise
  rfl
theorem WD_at (q : Fin 3072) (j : Fin 1024) : WD m c (ix2 q j) = (args m c).wd (ix2 q j) := by
  unfold WD
  entry_read
  pointwise
  rfl
theorem WG_at (q j : Fin 1024) : WG m c (ix2 q j) = (args m c).wg (ix2 q j) := by
  unfold WG
  entry_read
  pointwise
  rfl
theorem WP_at (j : Fin 1024) (q : Fin 256) : WP m c (ix2 j q) = (args m c).wp (ix2 q j) := by
  unfold WP
  entry_read
  pointwise
  rfl

/-- The row of the arrays at which row `r` of point `t`'s tile lies. -/
def row (t : Fin cfg0.N) (r : Fin 512) : Fin 8192 := ⟨t.val * 512 + r, by have := lt16 t; omega⟩

theorem blk0 (t : Fin cfg0.N) (r : Fin 512) (k : Fin 3072) : (iblk m c 0 t : FVec Ideal S512x3072 .bf16) (ix2 r k) = b0 m c (ix2 (row t r) k) := by
  unfold b0 row
  blk_ext [iblk, idx t]
theorem blk1 (t : Fin cfg0.N) (r : Fin 512) (k : Fin 1024) : (iblk m c 1 t : FVec Ideal S512x1024 .f32) (ix2 r k) = b1 m c (ix2 (row t r) k) := by
  unfold b1 row
  blk_ext [iblk, idx t]
theorem blk2 (t : Fin cfg0.N) (r : Fin 512) (k : Fin 256) : (iblk m c 2 t : FVec Ideal S512x256 .f32) (ix2 r k) = b2 m c (ix2 (row t r) k) := by
  unfold b2 row
  blk_ext [iblk, idx t]
theorem blk3 (t : Fin cfg0.N) (r : Fin 512) (k : Fin 1024) : (iblk m c 3 t : FVec Ideal S512x1024 .f32) (ix2 r k) = b3 m c (ix2 (row t r) k) := by
  unfold b3 row
  blk_ext [iblk, idx t]
theorem blk4 (t : Fin cfg0.N) (u : Fin 1) (k : Fin 1024) : (iblk m c 4 t : FVec Ideal S1x1024 .f32) (ix2 u k) = b4 m c (ix2 u k) := by
  unfold b4
  blk_ext [iblk, idx t]
theorem blk5 (t : Fin cfg0.N) (u : Fin 1) (k : Fin 1024) : (iblk m c 5 t : FVec Ideal S1x1024 .f32) (ix2 u k) = b5 m c (ix2 u k) := by
  unfold b5
  blk_ext [iblk, idx t]
theorem blk6 (t : Fin cfg0.N) (u : Fin 1) (k : Fin 1024) : (iblk m c 6 t : FVec Ideal S1x1024 .f32) (ix2 u k) = b6 m c (ix2 u k) := by
  unfold b6
  blk_ext [iblk, idx t]
theorem blk7 (t : Fin cfg0.N) (u : Fin 1) (k : Fin 1024) : (iblk m c 7 t : FVec Ideal S1x1024 .f32) (ix2 u k) = b7 m c (ix2 u k) := by
  unfold b7
  blk_ext [iblk, idx t]
theorem blk8 (t : Fin cfg0.N) (u : Fin 1) (k : Fin 1024) : (iblk m c 8 t : FVec Ideal S1x1024 .f32) (ix2 u k) = b8 m c (ix2 u k) := by
  unfold b8
  blk_ext [iblk, idx t]

/-- A function of rows at a point's row is the same at the arrays' row. -/
theorem at0_eq (t : Fin cfg0.N) (f) (r : Fin 512) : at0 m c t f r = f (fun k => (args m c).act (ix2 (row t r) k)) (fun k => (args m c).z1 (ix2 (row t r) k))
    (fun k => (args m c).p (ix2 (row t r) k)) (fun k => (args m c).t (ix2 (row t r) k)) (fun k j => (args m c).wd (ix2 k j)) (fun k j => (args m c).wg (ix2 k j))
    (fun k j => (args m c).wp (ix2 k j)) (fun k => (args m c).g1 (ix1 k)) (fun k => (args m c).b1 (ix1 k)) (fun k => (args m c).g2 (ix1 k)) (fun k => (args m c).b2 (ix1 k))
    (fun k => (args m c).bg (ix1 k)) := by
  unfold at0 atRow
  simp only [blk0, blk1, blk2, blk3, blk4, blk5, blk6, blk7, blk8, b0_at, b1_at, b2_at, b3_at, b4_at, b5_at, b6_at, b7_at, b8_at, WD_at, WG_at, WP_at]

theorem w9 (t : Fin cfg0.N) (r : Fin 512) (j : Fin 1024) : (outsAt0 m c t.val t.isLt).1 (ix2 r j) = aD (args m c) (row t r) j := by
  refine Eq.trans ?_ (congrFun (at0_eq m c t fD r) j)
  by_cases h : t.val % 16 = 0
  · exact w9A m c t h r j
  · exact w9B m c t h r j
theorem w10 (t : Fin cfg0.N) (r : Fin 512) (j : Fin 1024) : (outsAt0 m c t.val t.isLt).2.1 (ix2 r j) = aD (args m c) (row t r) j := by
  refine Eq.trans ?_ (congrFun (at0_eq m c t fD r) j)
  by_cases h : t.val % 16 = 0
  · exact w10A m c t h r j
  · exact w10B m c t h r j
theorem w11 (t : Fin cfg0.N) (r : Fin 512) (j : Fin 1024) : (outsAt0 m c t.val t.isLt).2.2.1 (ix2 r j) = aP (args m c) (row t r) j := by
  refine Eq.trans ?_ (congrFun (at0_eq m c t fP r) j)
  by_cases h : t.val % 16 = 0
  · exact w11A m c t h r j
  · exact w11B m c t h r j
theorem w12 (t : Fin cfg0.N) (r : Fin 512) (j : Fin 1024) : (outsAt0 m c t.val t.isLt).2.2.2.1 (ix2 r j) = aR (args m c) (row t r) j := by
  refine Eq.trans ?_ (congrFun (at0_eq m c t fR r) j)
  by_cases h : t.val % 16 = 0
  · exact w12A m c t h r j
  · exact w12B m c t h r j

theorem arr9 : (dats m 0 c).arrAt 9 cfg0.N = (fun y => aD (args m c) (y 0) (y 1) : FVec Ideal S8192x1024 .f32) := by
  refine (dats m 0 c).arrAt_eq_of_covers 9 _ (by decide +kernel) fun t hf y => ?_
  blk_simp
  rw [after0_9]
  idx_vars y
  rw [w9]
  refine congr (congrArg (aD (args m c)) (Fin.ext ?_)) (Fin.ext ?_)
  · blk_simp [idx t]
    rfl
  · blk_simp [idx t]
theorem arr10 : (dats m 0 c).arrAt 10 cfg0.N = (fun y => aD (args m c) (y 0) (y 1) : FVec Ideal S8192x1024 .bf16) := by
  refine (dats m 0 c).arrAt_eq_of_covers 10 _ (by decide +kernel) fun t hf y => ?_
  blk_simp
  rw [after0_10]
  idx_vars y
  rw [w10]
  refine congr (congrArg (aD (args m c)) (Fin.ext ?_)) (Fin.ext ?_)
  · blk_simp [idx t]
    rfl
  · blk_simp [idx t]
theorem arr11 : (dats m 0 c).arrAt 11 cfg0.N = (fun y => aP (args m c) (y 0) (y 1) : FVec Ideal S8192x1024 .bf16) := by
  refine (dats m 0 c).arrAt_eq_of_covers 11 _ (by decide +kernel) fun t hf y => ?_
  blk_simp
  rw [after0_11]
  idx_vars y
  rw [w11]
  refine congr (congrArg (aP (args m c)) (Fin.ext ?_)) (Fin.ext ?_)
  · blk_simp [idx t]
    rfl
  · blk_simp [idx t]
theorem arr12 : (dats m 0 c).arrAt 12 cfg0.N = (fun y => aR (args m c) (y 0) (y 1) : FVec Ideal S8192x1024 .bf16) := by
  refine (dats m 0 c).arrAt_eq_of_covers 12 _ (by decide +kernel) fun t hf y => ?_
  blk_simp
  rw [after0_12]
  idx_vars y
  rw [w12]
  refine congr (congrArg (aR (args m c)) (Fin.ext ?_)) (Fin.ext ?_)
  · blk_simp [idx t]
    rfl
  · blk_simp [idx t]

end Cert.Kernel14Ideal.Down

end
-- ==== Proof.DownClaims.lean ====
module

public import proofs.«01_k».proof.Defs
public import proofs.«01_k».proof.Proof.DownArr
public import proofs.«01_k».proof.Proof.Gen.Kernel14
public import Idealize.ShloMosaic.Adequacy
public import Idealize.ShloMosaic.Init

@[expose] public section

noncomputable section

/-! The down-projection's call: the equality of its four arrays with the reference's, and its runs. -/

namespace Cert.Kernel14Ideal.Down

open Cert.Kernel14Ideal Cert.Kernel14Ideal.Gen Idealize.ShloMosaic Idealize.ShloMosaic.TcCoe Idealize.SL.Sem

section Two

variable {F : FTy → Type} [FloatOps F]

set_option maxHeartbeats 4000000 in
/-- The two programs have one text: their kernels' body tables are one, and so are their tables. -/
theorem bodies_same : (@Cert.Kernel14.defs₀ F _ _) = @Cert.Kernel14Ideal.defs₀ F _ _ := by
  unfold Cert.Kernel14.defs₀ Cert.Kernel14Ideal.defs₀
  refine congrArg Defs.onTc ?_
  funext l a
  obtain rfl : l = 0 := Subsingleton.elim (α := Fin 1) l 0
  obtain ⟨t, s⟩ := a
  show Cert.Kernel14.cc0_ffn_down _ _ _ _ _ _ _ _ _ _ _ _ _ _ _ _ _ _ _ _ _ _ _ _ _ _ _ _ _ _ _ _ _ _ _ _ _ _ _ _ _ _ = Cert.Kernel14Ideal.cc0_ffn_down _ _ _ _ _ _ _ _ _ _ _ _ _ _ _ _ _ _ _ _ _ _ _ _ _ _ _ _ _ _ _ _ _ _ _ _ _ _ _ _ _ _
  rfl

theorem tables_same : (@Cert.Kernel14.defs F _ _) = @Cert.Kernel14Ideal.defs F _ _ :=
  congrArg (Pipeline.defs Cert.Kernel14Ideal.pcfgs) bodies_same

/-- So the run of the one is the run of the other. -/
theorem frame_kernel : Cert.quiescent_Kernel14 := fun m ρ _ => by
  refine Eq.mpr (congrArg (fun d => θ_run d _ _ _) tables_same) ?_
  exact Cert.Kernel14Ideal.Gen.frame (F := Bits) m ρ

end Two

/-- The whole run, with the four results named. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9_0) = (dats m 0 c).arrAt 9 cfg0.N
      ∧ r.2.mem ((c : Thread nD τ).loc main_v9_1) = (dats m 0 c).arrAt 10 cfg0.N
      ∧ r.2.mem ((c : Thread nD τ).loc main_v9_2) = (dats m 0 c).arrAt 11 cfg0.N
      ∧ r.2.mem ((c : Thread nD τ).loc main_v9_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h.1 c).1 9, (h.1 c).1 10, (h.1 c).1 11, (h.1 c).1 12, h.2 c⟩) (θ_run_and (run_main m ρ) (unchanged m ρ))

section Pre

open Cert.Ffn Cert.Pre_finite14 Cert.Pre_finite14.Gen Cert.Reference14Ideal.Down

/-- The precondition says that all the arguments hold real numbers. -/
theorem pre14 (A : Args)
    (h : Cert.Pre_finite14.fn (F := Ideal) A.act A.z1 A.p A.t A.wd A.wg A.wp A.g1 A.b1 A.g2 A.b2 A.bg = fun _ => 1#1) : A.Real := by
  have e := congrFun h (fun i => i.elim0)
  unfold Cert.Pre_finite14.fn Cert.Pre_finite14.fn_part1 Cert.Pre_finite14.fn_part2 Cert.Pre_finite14.fn_part3 at e
  simp only [andi, IntOp.andi_eq_one] at e
  obtain ⟨⟨⟨⟨⟨⟨⟨⟨⟨⟨⟨e0, e1⟩, e2⟩, e3⟩, e4⟩, e5⟩, e6⟩, e7⟩, e8⟩, e9⟩, e10⟩, e11⟩ := e
  exact ⟨all_real (extf .f32 A.act Cert.Pre_finite14.Facts.bitsLt_bf16_f32) _ _ _ _ e0, all_real A.z1 _ _ _ _ e1, all_real A.p _ _ _ _ e2, all_real A.t _ _ _ _ e3,
    all_real A.wd _ _ _ _ e4, all_real A.wg _ _ _ _ e5, all_real A.wp _ _ _ _ e6, all_real A.g1 _ _ _ _ e7, all_real A.b1 _ _ _ _ e8, all_real A.g2 _ _ _ _ e9,
    all_real A.b2 _ _ _ _ e10, all_real A.bg _ _ _ _ e11⟩

end Pre

end Cert.Kernel14Ideal.Down

namespace Cert.Proof

open Idealize.ShloMosaic Idealize.SL.Sem Cert.Reference14Ideal.Down

theorem frame_kernel14 : Cert.quiescent_Kernel14 := Cert.Kernel14Ideal.Down.frame_kernel

theorem frame_ideal14 : Cert.quiescent_Kernel14Ideal := fun m ρ _ => Cert.Kernel14Ideal.Gen.frame (F := Ideal) m ρ

theorem frame_reference14 : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run (F := Ideal) m ρ)

theorem value14 : Cert.algebraic_Kernel14Ideal_Reference14Ideal_pre_finite14 := by
  intro m g m' g' hp hA
  have hR : ∀ c, (Cert.Kernel14Ideal.Down.args m c).Real := fun c => Cert.Kernel14Ideal.Down.pre14 (Cert.Kernel14Ideal.Down.args m c) (hp c)
  have hA' : ∀ c, Cert.Reference14Ideal.Down.args (Idealize.ShloMosaic.StableHlo.launchContents m' c) = Cert.Kernel14Ideal.Down.args m c := fun c => by
    obtain ⟨h0, h1, h2, h3, h4, h5, h6, h7, h8, h9, h10, h11⟩ := hA c
    unfold Cert.Kernel14Ideal.Down.args
    rw [← h0, ← h1, ← h2, ← h3, ← h4, ← h5, ← h6, ← h7, ← h8, ← h9, ← h10, ← h11]
    rfl
  refine ⟨fun c y => aD (Cert.Kernel14Ideal.Down.args m c) (y 0) (y 1), fun c y => aD (Cert.Kernel14Ideal.Down.args m c) (y 0) (y 1),
    fun c y => aP (Cert.Kernel14Ideal.Down.args m c) (y 0) (y 1), fun c y => aR (Cert.Kernel14Ideal.Down.args m c) (y 0) (y 1), ?_, ?_⟩
  · refine (θ_run _ _ _).mono (fun r h c => ?_) (Cert.Kernel14Ideal.Down.run_blocks m g)
    obtain ⟨e0, e1, e2, e3, e⟩ := h c
    exact ⟨e0.trans (Cert.Kernel14Ideal.Down.arr9 m c), e1.trans (Cert.Kernel14Ideal.Down.arr10 m c), e2.trans (Cert.Kernel14Ideal.Down.arr11 m c),
      e3.trans (Cert.Kernel14Ideal.Down.arr12 m c), e⟩
  · refine (θ_run _ _ _).mono (fun r h c => ?_) (Cert.Reference14Ideal.Value.run (F := Ideal) m' g')
    obtain ⟨e0, e1, e2, e3, e⟩ := h c
    have R := hR c
    beta_reduce
    rw [← hA' c] at R ⊢
    exact ⟨e0.trans (out0 _ R), e1.trans (out1 _ R), e2.trans (out2 _ R), e3.trans (out3 _ R), e⟩

end Cert.Proof

end
-- ==== Proof.FfnFin.lean ====
module

public import proofs.«01_k».proof.Proof.FfnArr

@[expose] public section

set_option maxRecDepth 16384

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ) (c : Dev nD)

/-- The gradients of the convolution's weights and bias as the call lays them out. -/
def out7 (q : Fin 4) (k : Fin 8) (j : Fin 768) : EReal :=
  if k.val = 3 then ∑ r : Fin 8192, DG m c q r j
  else if k.val = 2 then ∑ r : Fin 8192, DG m c q r j * aG m c (ix3 q r j)
  else if k.val = 1 then ∑ r : Fin 8192, DG m c q (r + 1) j * aG m c (ix3 q r j)
  else if k.val = 0 then ∑ r : Fin 8192, DG m c q (r + 2) j * aG m c (ix3 q r j)
  else 0

/-- What one row adds. -/
def term7 (q : Fin 4) (k : Fin 8) (j : Fin 768) (r : Fin 8192) : EReal :=
  if k.val = 3 then DG m c q r j
  else if k.val = 2 then DG m c q r j * aG m c (ix3 q r j)
  else if k.val = 1 then DG m c q (r + 1) j * aG m c (ix3 q r j)
  else if k.val = 0 then DG m c q (r + 2) j * aG m c (ix3 q r j)
  else 0

theorem out7_eq (q : Fin 4) (k : Fin 8) (j : Fin 768) : out7 m c q k j = ∑ r : Fin 8192, term7 m c q k j r := by
  unfold out7 term7
  split_ifs <;> simp

theorem inc7_eq (t : Fin cfg0.N) (k : Fin 8) (j : Fin 768) :
    inc7 (iblk m c 0 t) (iblk m c 1 t) (iblk m c 2 t) (iblk m c 4 t) (car m c t) k j
      = ∑ r : Fin 1024, term7 m c (chk t) k j (row t r) := by
  unfold inc7 term7
  split_ifs
  · simp only [dg_eq]
  · simp only [dg_eq, blk2]
  · simp only [sh_eq, blk2]
  · simp only [sh_eq, blk2]
  · simp

/-- The eight tiles of a chunk, the last first, make all its rows. -/
theorem sum_tiles (f : Fin 8192 → EReal) :
    ∑ s : Fin 8, ∑ r : Fin 1024, f ⟨(7 - s.val) * 1024 + r, by omega⟩ = ∑ r : Fin 8192, f r := by
  have e : ∑ r : Fin 8192, f r = ∑ s : Fin 8, ∑ r : Fin 1024, f ⟨s.val * 1024 + r, by omega⟩ := by
    rw [← Fintype.sum_prod_type']
    refine (Fintype.sum_equiv (finProdFinEquiv (m := 8) (n := 1024)) _ f ?_).symm
    intro x
    congr 1
    apply Fin.ext
    show x.1.val * 1024 + x.2.val = x.2.val + 1024 * x.1.val
    omega
  rw [e, ← Equiv.sum_comp (Fin.revPerm (n := 8))]
  refine Finset.sum_congr rfl fun s _ => Finset.sum_congr rfl fun r _ => ?_
  congr 1
  apply Fin.ext
  show (7 - (8 - (s.val + 1))) * 1024 + r.val = s.val * 1024 + r.val
  omega

theorem w7 (t : Fin cfg0.N) (hf : t.val % 8 = 8 - 1) (u : Fin 1) (k : Fin 8) (j : Fin 768) :
    (outsAt0 m c t.val t.isLt).2.1 (ix3 u k j) = out7 m c (chk t) k j := by
  have e := Pipeline.eq_sum_fin_of_reset_step_apply_of_flush (N := cfg0.N) (fun n h => fun x : Fin 8 × Fin 768 => ((outsAt0 m c n h).2.1 (ix3 0 x.1 x.2) : EReal)) 8 (fun _ => 0)
    (fun t x => inc7 (iblk m c 0 t) (iblk m c 1 t) (iblk m c 2 t) (iblk m c 4 t) (car m c t) x.1 x.2)
    (fun t h x => (w7A m c t h 0 x.1 x.2).trans (zero_add _).symm) (fun t h x => w7B m c t h 0 x.1 x.2) t hf (k, j)
  rw [Subsingleton.elim u 0]
  refine e.trans ?_
  rw [zero_add, out7_eq, ← sum_tiles]
  refine Finset.sum_congr rfl fun s _ => ?_
  rw [inc7_eq]
  refine Finset.sum_congr rfl fun r _ => ?_
  congr 1
  · apply Fin.ext
    show (8 * (t.val / 8) + s.val) / 8 = t.val / 8
    omega
  · apply Fin.ext
    show (7 - (8 * (t.val / 8) + s.val) % 8) * 1024 + r.val = (7 - s.val) * 1024 + r.val
    congr 3
    omega

theorem arr6 : (dats m 0 c).arrAt 6 cfg0.N = (fun y => out6 m c (y 0) (y 1) : FVec Ideal S8192x6144 .bf16) := by
  refine (dats m 0 c).arrAt_eq_of_covers 6 _ (by decide +kernel) fun t hf y => ?_
  blk_simp
  rw [after0_6]
  idx_vars y
  rw [w6]
  refine congr (congrArg (out6 m c) (Fin.ext ?_)) (Fin.ext ?_)
  · blk_simp [idx t]
    rfl
  · blk_simp [idx t]

theorem arr7 : (dats m 0 c).arrAt 7 cfg0.N = (fun y => out7 m c (y 0) (y 1) (y 2) : FVec Ideal S4x8x768 .f32) := by
  refine (dats m 0 c).arrAt_eq_of_covers 7 _ (by decide +kernel) fun t hf y => ?_
  blk_simp
  rw [after0_7]
  idx_vars y
  rw [w7 m c t ((flush0_7 t).mp hf)]
  refine congr (congr (congrArg (out7 m c) (Fin.ext ?_)) (Fin.ext ?_)) (Fin.ext ?_)
  · blk_simp [idx t]
    rfl
  · blk_simp [idx t]
  · blk_simp [idx t]

end Cert.KernelIdeal.Ffn

end
-- ==== Proof.FfnEq.lean ====
module

public import proofs.«01_k».proof.Proof.FfnRef
public import proofs.«01_k».proof.Proof.FfnFin

@[expose] public section

set_option maxRecDepth 16384

noncomputable section

namespace Cert.KernelIdeal.Ffn

open Cert.KernelIdeal Cert.KernelIdeal.Gen Idealize.ShloMosaic Idealize.ShloMosaic.TcCoe Idealize.SL.Sem Cert.ReferenceIdeal.Ffn

variable (m : (ℓ : Loc nD τ sig) → Buf (Elt Ideal) ℓ) (c : Dev nD)
variable (L : Valuation Cert.ReferenceIdeal.τ Cert.ReferenceIdeal.sig (Elt Ideal))

/-- The reference's arguments are the kernel's, and all are real numbers. -/
structure Same : Prop where
  h0 : L (Proc.devRef .tc Cert.ReferenceIdeal.main_arg0) = mUp m c
  h1 : L (Proc.devRef .tc Cert.ReferenceIdeal.main_arg1) = mCw m c
  h2 : L (Proc.devRef .tc Cert.ReferenceIdeal.main_arg2) = mCb m c
  h3 : L (Proc.devRef .tc Cert.ReferenceIdeal.main_arg3) = mWd m c
  h4 : L (Proc.devRef .tc Cert.ReferenceIdeal.main_arg4) = mDz m c
  real : Reals L

variable {m c L}

theorem dA_eq (S : Same m c L) (q : Fin 4) (r : Fin 8192) (j : Fin 768) : dA m c q r j = V54 L (ix2 r (chan q j)) := by
  refine Eq.trans ?_ (v54_at L r (chan q j)).symm
  unfold dA
  refine Finset.sum_congr rfl fun k _ => ?_
  have e4 : lDz L = mDz m c := S.h4
  have e3 : lWd L = mWd m c := S.h3
  rw [aDz_at, aWd_at, e4, e3]

theorem DG_eq (S : Same m c L) (q : Fin 4) (r : ℕ) (j : Fin 768) : DG m c q r j = dgr L r (chan q j) := by
  unfold DG dgr
  by_cases h : r < 8192
  · rw [dif_pos h, dif_pos h, dA_eq S, aVd_at m c L S.h0 S.h1 S.h2]
    exact (v68_at S.real ⟨r, h⟩ (chan q j)).symm
  · rw [dif_neg h, dif_neg h]

theorem out6_ref (S : Same m c L) (r : Fin 8192) (q : Fin 6144) : out6 m c r q = ref6 L (ix2 r q) := by
  rw [ref6_at, out6]
  by_cases h : (q : ℕ) % 1536 < 768
  · have hq : (q : ℕ) / 768 % 2 * 3072 + q / 1536 * 768 + q % 768 = q / 1536 * 768 + q % 1536 := by omega
    have hq' : (q : ℕ) / 768 % 2 * 3072 + q / 1536 * 768 + q % 768 < 3072 := by omega
    have hc : (⟨(q : ℕ) / 768 % 2 * 3072 + q / 1536 * 768 + q % 768, hq'⟩ : Fin 3072) = chan ⟨q / 1536, by omega⟩ ⟨q % 1536, h⟩ := Fin.ext hq
    rw [dif_pos h, dif_pos hq', hc, v99_at, DG_eq S, DG_eq S, DG_eq S, aW_at, aW_at, aW_at]
    have e1 : lCw L = mCw m c := S.h1
    rw [e1]
  · have hq : (q : ℕ) / 768 % 2 * 3072 + q / 1536 * 768 + q % 768 - 3072 = q / 1536 * 768 + (q % 1536 - 768) := by omega
    have hq' : ¬ (q : ℕ) / 768 % 2 * 3072 + q / 1536 * 768 + q % 768 < 3072 := by omega
    have hc : (⟨(q : ℕ) / 768 % 2 * 3072 + q / 1536 * 768 + q % 768 - 3072, by omega⟩ : Fin 3072) = chan ⟨q / 1536, by omega⟩ ⟨q % 1536 - 768, by omega⟩ := Fin.ext hq
    rw [dif_neg h, dif_neg hq', hc, dA_eq S, aGe_at m c L S.h0 S.h1 S.h2]
    exact mul_comm _ _

theorem shifted (S : Same m c L) (s : ℕ) (k : Fin 3) (hs : s + k = 2) (q : Fin 4) (j : Fin 768) :
    ∑ r : Fin 8192, DG m c q (r + s) j * aG m c (ix3 q r j) = ∑ x : Fin 8192, V68 L (ix2 x (chan q j)) * xg L k x (chan q j) := by
  have e0 : lUp L = mUp m c := S.h0
  have key := shift_sum s (8192 - s) (fun r => DG m c q r j)
    (fun r => if h : r < 8192 then aG m c (ix3 q ⟨r, h⟩ j) else 0) (fun r hr => by show DG m c q r j = 0; rw [DG, dif_neg (by omega)])
  have hN : s + (8192 - s) = 8192 := by omega
  rw [hN] at key
  refine Eq.trans (Finset.sum_congr rfl fun r _ => ?_) (key.trans (Finset.sum_congr rfl fun r _ => ?_))
  · rw [dif_pos r.isLt]
  · show DG m c q r j * _ = _
    rw [DG_eq S, dgr, dif_pos r.isLt]
    refine congrArg (fun a => (V68 L (ix2 r (chan q j)) * a : EReal)) ?_
    unfold xg
    by_cases h : (r : ℕ) < s
    · rw [if_pos h, dif_pos (by omega)]
    · have hr : ¬ ((r : ℕ) + k < 2) := by omega
      have hr' : (r : ℕ) - s < 8192 := by omega
      rw [if_neg h, dif_pos hr', dif_neg hr, aG_at, e0]
      refine congrArg (mUp m c) (congrArg (fun a => ix2 a _) (Fin.ext ?_))
      show (r : ℕ) - s = r + k - 2
      omega

theorem out7_ref (S : Same m c L) (q : Fin 4) (k : Fin 8) (j : Fin 768) : out7 m c q k j = ref7 L (ix3 q k j) := by
  unfold out7
  by_cases h3 : k.val = 3
  · rw [if_pos h3, ref7_3 q k j h3]
    refine Finset.sum_congr rfl fun r _ => ?_
    rw [DG_eq S, dgr, dif_pos r.isLt]; rfl
  rw [if_neg h3]
  by_cases h2 : k.val = 2
  · rw [if_pos h2, ref7_2 q k j h2]
    exact shifted S 0 2 rfl q j
  rw [if_neg h2]
  by_cases h1 : k.val = 1
  · rw [if_pos h1, ref7_1 q k j h1]
    exact shifted S 1 1 rfl q j
  rw [if_neg h1]
  by_cases h0 : k.val = 0
  · rw [if_pos h0, ref7_0 q k j h0]
    exact shifted S 2 0 rfl q j
  rw [if_neg h0]
  exact (ref7_4 q k j (by omega)).symm

/-- Both results of the call are the reference's. -/
theorem res6 (S : Same m c L) : (dats m 0 c).arrAt 6 cfg0.N = ref6 L := by
  rw [arr6]
  funext y
  idx_vars y
  exact out6_ref S _ _

theorem res7 (S : Same m c L) : (dats m 0 c).arrAt 7 cfg0.N = ref7 L := by
  rw [arr7]
  funext y
  idx_vars y
  exact out7_ref S _ _ _

end Cert.KernelIdeal.Ffn

end
-- ==== Proof.Dh1Out.lean ====
module

public import proofs.«01_k».proof.Proof.FfnOut
public import proofs.«01_k».proof.Proof.Dh1Pay
public import Idealize.ShloMosaic.Lib.VecWindow

@[expose] public section

set_option maxRecDepth 16384

noncomputable section

namespace Cert.Kernel2Ideal.Dh1

open Cert.Kernel2Ideal Cert.Kernel2Ideal.Gen Idealize.ShloMosaic Idealize.ShloMosaic.TcCoe Idealize.SL.Sem
open Cert.KernelIdeal.Ffn (canon_step)

section Rows

variable {Val : EltTy → Type} [∀ e, Nonempty (Val e)] {e : EltTy}

theorem row_iff (κ : ℕ) (k : Fin 8) (j : Fin 1024) :
    (∀ a : Fin 2, (![κ, 0] : Fin 2 → ℕ) a ≤ ((ix2 k j : S8x1024.Idx) a).val
      ∧ ((ix2 k j : S8x1024.Idx) a).val < (![κ, 0] : Fin 2 → ℕ) a + (![1, 1024] : Fin 2 → ℕ) a) ↔ k.val = κ := by
  constructor
  · intro h
    have h1 := h 0
    simp at h1
    omega
  · rintro rfl a
    fin_cases a
    · simp
    · simp

theorem row_local (κ : ℕ) (k : Fin 8) (j : Fin 1024) (h : ∀ a : Fin 2, (![κ, 0] : Fin 2 → ℕ) a ≤ ((ix2 k j : S8x1024.Idx) a).val
      ∧ ((ix2 k j : S8x1024.Idx) a).val < (![κ, 0] : Fin 2 → ℕ) a + (![1, 1024] : Fin 2 → ℕ) a) :
    Rect.unitLocal (s := S8x1024) (off := (![κ, 0] : Fin 2 → ℕ)) (size := (![1, 1024] : Fin 2 → ℕ)) (ix2 k j : S8x1024.Idx) h = (ix2 0 j : S1x1024.Idx) := by
  funext a
  apply Fin.ext
  rw [Rect.unitLocal_val]
  have hk := (row_iff κ k j).1 h
  fin_cases a
  · simp [hk]
  · simp

theorem canon_row (κ : ℕ) (inb : ∀ a, (![κ, 0] : Fin 2 → ℕ) a + (![1, 1024] : Fin 2 → ℕ) a ≤ S8x1024.size a)
    (w : S1x1024.Idx → Val e) (L : List (View.Piece Val S8x1024 e)) (k : Fin 8) (j : Fin 1024) :
    View.canon ((⟨Rect.unit (![κ, 0] : Fin 2 → ℕ) (![1, 1024] : Fin 2 → ℕ) inb, w⟩ : View.Piece Val S8x1024 e) :: L) (ix2 k j)
      = if k.val = κ then w (ix2 0 j) else View.canon L (ix2 k j) := by
  rw [canon_step]
  by_cases h : k.val = κ
  · rw [if_pos h, dif_pos ((row_iff κ k j).2 h)]
    exact congrArg w (row_local κ k j _)
  · rw [if_neg h, dif_neg (fun h' => h ((row_iff κ k j).1 h'))]

theorem read_row {sg : RefSig} {κd : Kind} {sp : Space} (v : View sg κd sp S8x1024 e) (f : v.ty.Contents Val)
    (κ : ℕ) (inb : ∀ a, (![κ, 0] : Fin 2 → ℕ) a + (![1, 1024] : Fin 2 → ℕ) a ≤ S8x1024.size a)
    (w : S1x1024.Idx → Val e) (L : List (View.Piece Val S8x1024 e)) (k : Fin 8) (j : Fin 1024) :
    v.read Val (v.writes Val f ((⟨Rect.unit (![κ, 0] : Fin 2 → ℕ) (![1, 1024] : Fin 2 → ℕ) inb, w⟩ : View.Piece Val S8x1024 e) :: L)) (ix2 k j)
      = if k.val = κ then w (ix2 0 j) else v.read Val (v.writes Val f L) (ix2 k j) := by
  rw [View.read_writes_cons_unit v f inb w L _ rfl]
  by_cases h : k.val = κ
  · rw [if_pos h, dif_pos ((row_iff κ k j).2 h)]
    exact congrArg w (row_local κ k j _)
  · rw [if_neg h, dif_neg (fun h' => h ((row_iff κ k j).1 h'))]

end Rows

variable (m : (ℓ : Loc nD τ sig) → Buf (Elt Ideal) ℓ)

/-- The row of the weights that chunk row `q` holds: the two halves' chunks alternate. -/
def perm (q : Fin 6144) : Fin 6144 := ⟨q / 768 % 2 * 3072 + q / 1536 * 768 + q % 768, by omega⟩

/-- The weights as the first scratch holds them, and as the second does. -/
def WU (c : Dev nD) : FVec Ideal S6144x1024 .bf16 := fun y => (V m c main_v4 : FVec Ideal S6144x1024 .bf16) (ix2 (perm (y 0)) (y 1))
def WG (c : Dev nD) : FVec Ideal S1024x1024 .bf16 := V m c main_v5

theorem inb_rows (d : ℕ) (h : d + 768 ≤ 6144) : ∀ a, (![d, 0] : Fin 2 → ℕ) a + (![768, 1024] : Fin 2 → ℕ) a ≤ S6144x1024.size a := by
  intro a
  fin_cases a
  · exact h
  · exact le_refl _

/-- One copy: rows from `s` of the weights into rows from `d` of the scratch. -/
abbrev pc (c : Dev nD) (d s : ℕ) (h : d + 768 ≤ 6144) (h' : s + 768 ≤ 6144) : View.Piece (Elt Ideal) S6144x1024 .bf16 :=
  ⟨Rect.unit (![d, 0] : Fin 2 → ℕ) (![768, 1024] : Fin 2 → ℕ) (inb_rows d h),
    ReadAs.same.apply (View.read (Elt Ideal) ((View.whole main_v4).slice (Rect.unit (![s, 0] : Fin 2 → ℕ) (![768, 1024] : Fin 2 → ℕ) (inb_rows s h'))) (V m c main_v4))⟩

theorem canon_chunk (c : Dev nD) (d s : ℕ) (h : d + 768 ≤ 6144) (h' : s + 768 ≤ 6144) (L : List (View.Piece (Elt Ideal) S6144x1024 .bf16)) (q : Fin 6144) (j : Fin 1024) :
    View.canon (pc m c d s h h' :: L) (ix2 q j) = if h : d ≤ (q : ℕ) ∧ (q : ℕ) < d + 768 then
      (V m c main_v4 : FVec Ideal S6144x1024 .bf16) (ix2 ⟨s + (q - d), by omega⟩ j) else View.canon L (ix2 q j) := by
  have hi : (∀ a : Fin 2, (![d, 0] : Fin 2 → ℕ) a ≤ ((ix2 q j : S6144x1024.Idx) a).val
      ∧ ((ix2 q j : S6144x1024.Idx) a).val < (![d, 0] : Fin 2 → ℕ) a + (![768, 1024] : Fin 2 → ℕ) a) ↔ (d ≤ (q : ℕ) ∧ (q : ℕ) < d + 768) := by
    constructor
    · intro h
      have h1 := h 0
      simp at h1
      omega
    · intro h a
      fin_cases a
      · simpa using h
      · simp
  rw [canon_step]
  by_cases hq : d ≤ (q : ℕ) ∧ (q : ℕ) < d + 768
  · rw [dif_pos hq, dif_pos (hi.2 hq)]
    refine congrArg (V m c main_v4 : FVec Ideal S6144x1024 .bf16) (funext fun a => Fin.ext ?_)
    fin_cases a
    · show s + 1 * (q - d) = s + (q - d)
      omega
    · show 0 + 1 * (j.val - 0) = j.val
      omega
  · rw [dif_neg hq, dif_neg (fun h' => hq (hi.1 h'))]

theorem chunks (c : Dev nD) : View.canon [pc m c 5376 5376 (by omega) (by omega), pc m c 4608 2304 (by omega) (by omega), pc m c 3840 4608 (by omega) (by omega), pc m c 3072 1536 (by omega) (by omega), pc m c 2304 3840 (by omega) (by omega), pc m c 1536 768 (by omega) (by omega), pc m c 768 3072 (by omega) (by omega), pc m c 0 0 (by omega) (by omega)] = WU m c := by
  funext y
  idx_vars y
  change _ = (V m c main_v4 : FVec Ideal S6144x1024 .bf16) (ix2 (perm y0) y1)
  rw [canon_chunk, canon_chunk, canon_chunk, canon_chunk, canon_chunk, canon_chunk, canon_chunk, canon_chunk]
  unfold perm
  split_ifs
  all_goals first
    | (exfalso; omega)
    | (refine congrArg (fun a => (V m c main_v4 : FVec Ideal S6144x1024 .bf16) (ix2 a _)) (Fin.ext ?_); simp only; omega)

theorem chunks_full (c : Dev nD) {sg : RefSig} {κ : Kind} {sp : Space} (v : View sg κ sp S6144x1024 .bf16) (inb) :
    v.readCov [pc m c 5376 5376 (by omega) (by omega), pc m c 4608 2304 (by omega) (by omega), pc m c 3840 4608 (by omega) (by omega), pc m c 3072 1536 (by omega) (by omega), pc m c 2304 3840 (by omega) (by omega), pc m c 1536 768 (by omega) (by omega), pc m c 768 3072 (by omega) (by omega), pc m c 0 0 (by omega) (by omega)] (Rect.unit (s := S6144x1024) (![0, 0] : Fin 2 → ℕ) (![6144, 1024] : Fin 2 → ℕ) inb).toLoadRect = WU m c := by
  rw [← chunks]
  rw [View.readCov_eq_canon']
  funext y
  exact congrArg (View.canon _) (Rect.emb_unit_full (s := S6144x1024) inb y)

/-- A store over a whole buffer is what the buffer holds. -/
theorem canon_all {e : EltTy} (w : S1024x1024.Idx → Elt Ideal e) (L : List (View.Piece (Elt Ideal) S1024x1024 e)) :
    View.canon ((⟨Rect.whole S1024x1024, w⟩ : View.Piece (Elt Ideal) S1024x1024 e) :: L) = w := by
  funext y
  conv_lhs => rw [← Rect.emb_whole_apply S1024x1024 y]
  exact View.canon_cons_emb (Rect.whole S1024x1024) w L y

theorem gate_full (c : Dev nD) {sg : RefSig} {κ : Kind} {sp : Space} (v : View sg κ sp S1024x1024 .bf16) (inb) :
    v.readCov [⟨Rect.whole S1024x1024, ReadAs.same.apply (View.read (Elt Ideal) (View.whole main_v5) (V m c main_v5))⟩]
      (Rect.unit (s := S1024x1024) (![0, 0] : Fin 2 → ℕ) (![1024, 1024] : Fin 2 → ℕ) inb).toLoadRect = WG m c := by
  rw [View.readCov_eq_canon', canon_all]
  funext y
  exact congrArg (WG m c) (Rect.emb_unit_full (s := S1024x1024) inb y)

theorem scr0A (c : Dev nD) (t : Fin cfg0.N) (h : t.val % 16 = 0) : (outsAt0 m c t.val t.isLt).2.2.1 = WU m c := by
  rw [outsAt0_A m c t h]; frame_out
  exact chunks m c

theorem scr1A (c : Dev nD) (t : Fin cfg0.N) (h : t.val % 16 = 0) : (outsAt0 m c t.val t.isLt).2.2.2 = WG m c := by
  rw [outsAt0_A m c t h]; frame_out
  exact canon_all _ _

theorem scrB (c : Dev nD) (t : Fin cfg0.N) (h : ¬ t.val % 16 = 0) :
    (outsAt0 m c t.val t.isLt).2.2.1 = (outsAt0 m c (t.val - 1) (by omega)).2.2.1
      ∧ (outsAt0 m c t.val t.isLt).2.2.2 = (outsAt0 m c (t.val - 1) (by omega)).2.2.2 := by
  rw [outsAt0_B m c t h]
  dsimp only [sout0_B_0, sout0_B_1]
  exact ⟨rfl, rfl⟩

/-- Both scratch buffers hold the weights after every point. -/
theorem scr (c : Dev nD) (n : ℕ) : ∀ hn : n < cfg0.N, (outsAt0 m c n hn).2.2.1 = WU m c ∧ (outsAt0 m c n hn).2.2.2 = WG m c := by
  induction n with
  | zero => exact fun hn => ⟨scr0A m c ⟨0, hn⟩ rfl, scr1A m c ⟨0, hn⟩ rfl⟩
  | succ n ih =>
    intro hn
    by_cases h : (n + 1) % 16 = 0
    · exact ⟨scr0A m c ⟨n + 1, hn⟩ h, scr1A m c ⟨n + 1, hn⟩ h⟩
    · have e := scrB m c ⟨n + 1, hn⟩ h
      have i := ih (Nat.lt_of_succ_lt hn)
      exact ⟨e.1.trans i.1, e.2.trans i.2⟩

section Block

variable (x0 : FVec Ideal S512x6144 .bf16) (x1 : FVec Ideal S512x1024 .f32) (x2 : FVec Ideal S512x1024 .bf16) (x3 : FVec Ideal S512x1024 .f32)
  (x4 : FVec Ideal S1x1024 .f32) (wu : FVec Ideal S6144x1024 .bf16) (wg : FVec Ideal S1024x1024 .bf16)

/-- The block of the first result. -/
def blk6 (r : Fin 512) (j : Fin 1024) : EReal :=
  pull (fun k => x3 (ix2 r k)) (fun k => dh x0 x1 x2 wu wg r k * x4 (ix2 0 k)) j

/-- What a point adds to the gradients of the scale and of the shift. -/
def inc7 (k : Fin 8) (j : Fin 1024) : EReal :=
  if k.val = 1 then ∑ r : Fin 512, dh x0 x1 x2 wu wg r j
  else if k.val = 0 then ∑ r : Fin 512, dh x0 x1 x2 wu wg r j * (cen (fun k => x3 (ix2 r k)) j * rst (fun k => x3 (ix2 r k)))
  else 0

theorem pay1_blk (r : Fin 512) (j : Fin 1024) :
    k0_pay1 (F := Ideal) (k0_pay5 x4) (k0_pay7 x3) (k0_pay8 x3) (k0_pay9 x1 x2 wg x0 wu) (ix2 r j) = blk6 x0 x1 x2 x3 x4 wu wg r j := by
  rw [pay1_at, blk6]
  simp only [pay9_at]

theorem rows7 (X : FVec Ideal S8x1024 .f32) (k : Fin 8) (j : Fin 1024) :
    (if k.val = 1 then k0_pay3 (F := Ideal) (k0_pay9 x1 x2 wg x0 wu)
        (View.ld (Val := Elt Ideal) (e' := .f32) X (Rect.unit (s := S8x1024) (![1, 0] : Fin 2 → ℕ) (![1, 1024] : Fin 2 → ℕ) inb_S8x1024_S1x1024_1_0)) (ix2 0 j)
     else if k.val = 0 then k0_pay2 (F := Ideal) (k0_pay8 x3) (k0_pay9 x1 x2 wg x0 wu)
        (View.ld (Val := Elt Ideal) (e' := .f32) X (Rect.unit (s := S8x1024) (![0, 0] : Fin 2 → ℕ) (![1, 1024] : Fin 2 → ℕ) inb_S8x1024_S1x1024_0_0)) (ix2 0 j)
     else X (ix2 k j)) = X (ix2 k j) + inc7 x0 x1 x2 x3 wu wg k j := by
  have ld (κ : ℕ) (i : ∀ a, (![κ, 0] : Fin 2 → ℕ) a + (![1, 1024] : Fin 2 → ℕ) a ≤ S8x1024.size a) (hk : k.val = κ) :
      View.ld (Val := Elt Ideal) (e' := .f32) X (Rect.unit (s := S8x1024) (![κ, 0] : Fin 2 → ℕ) (![1, 1024] : Fin 2 → ℕ) i) (ix2 0 j : S1x1024.Idx) = X (ix2 k j) := by
    refine congrArg X (funext fun a => Fin.ext ?_)
    fin_cases a
    · show κ + 1 * 0 = k.val
      omega
    · show 0 + 1 * j.val = j.val
      omega
  unfold inc7
  split_ifs with h1 h0
  · rw [pay3_at, ld 1 _ h1]; simp only [pay9_at]
  · rw [pay2_at, ld 0 _ h0]; simp only [pay9_at]
  · rw [add_zero]

end Block

theorem w6A (c : Dev nD) (t : Fin cfg0.N) (h : t.val % 16 = 0) (r : Fin 512) (j : Fin 1024) :
    (outsAt0 m c t.val t.isLt).1 (ix2 r j) = blk6 (iblk m c 0 t) (iblk m c 1 t) (iblk m c 2 t) (iblk m c 3 t) (iblk m c 4 t) (WU m c) (WG m c) r j := by
  rw [outsAt0_A m c t h]; frame_out
  rw [chunks_full, gate_full]
  exact pay1_blk _ _ _ _ _ _ _ r j

theorem w7A (c : Dev nD) (t : Fin cfg0.N) (h : t.val % 16 = 0) (k : Fin 8) (j : Fin 1024) :
    (outsAt0 m c t.val t.isLt).2.1 (ix2 k j) = inc7 (iblk m c 0 t) (iblk m c 1 t) (iblk m c 2 t) (iblk m c 3 t) (WU m c) (WG m c) k j := by
  rw [outsAt0_A m c t h]; frame_out
  rw [chunks_full, gate_full]
  simp (disch := decide) only [View.readCov_skip, View.readCov_fill]
  rw [canon_row, canon_row, View.canon_unit_zero (by decide)]
  exact (rows7 _ _ _ _ _ _ _ _ _).trans (by rw [pay4_at, zero_add])

theorem w6B (c : Dev nD) (t : Fin cfg0.N) (h : ¬ t.val % 16 = 0) (r : Fin 512) (j : Fin 1024) :
    (outsAt0 m c t.val t.isLt).1 (ix2 r j) = blk6 (iblk m c 0 t) (iblk m c 1 t) (iblk m c 2 t) (iblk m c 3 t) (iblk m c 4 t) (WU m c) (WG m c) r j := by
  rw [outsAt0_B m c t h]; frame_out
  simp only [read_unread_whole]
  rw [(scr m c _ _).1, (scr m c _ _).2]
  exact pay1_blk _ _ _ _ _ _ _ r j

theorem w7B (c : Dev nD) (t : Fin cfg0.N) (h : ¬ t.val % 16 = 0) (k : Fin 8) (j : Fin 1024) :
    (outsAt0 m c t.val t.isLt).2.1 (ix2 k j) = (outsAt0 m c (t.val - 1) (by omega)).2.1 (ix2 k j)
      + inc7 (iblk m c 0 t) (iblk m c 1 t) (iblk m c 2 t) (iblk m c 3 t) (WU m c) (WG m c) k j := by
  rw [outsAt0_B m c t h]; frame_out
  rw [read_row, read_row, View.writes_nil]
  simp only [Memref.IsWhole.read_unread, read_unread_whole]
  rw [(scr m c _ _).1, (scr m c _ _).2]
  exact rows7 _ _ _ _ _ _ _ _ _

end Cert.Kernel2Ideal.Dh1

end
-- ==== Proof.Dh1Arr.lean ====
module

public import proofs.«01_k».proof.Proof.Dh1Out
public import Idealize.ShloMosaic.Lib.Claim

@[expose] public section

set_option maxRecDepth 16384

noncomputable section

namespace Cert.Kernel2Ideal.Dh1

open Cert.Kernel2Ideal Cert.Kernel2Ideal.Gen Idealize.ShloMosaic Idealize.ShloMosaic.TcCoe Idealize.SL.Sem

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_6.index t = ![t.val, 0] ∧ win0_7.index t = ![0, 0] :=
  (by decide +kernel : ∀ t : Fin grid0.N, _)

theorem lt16 (t : Fin cfg0.N) : t.val < 16 := t.isLt.trans_eq N_0

variable (m : (ℓ : Loc nD τ sig) → Buf (Elt Ideal) ℓ) (c : Dev nD)

/-- The arguments, at their own shapes. -/
abbrev mZ : FVec Ideal S8192x1024 .f32 := m ((c : Thread nD τ).loc main_arg0)
abbrev mG : FVec Ideal S1024 .f32 := m ((c : Thread nD τ).loc main_arg1)
abbrev mB : FVec Ideal S1024 .f32 := m ((c : Thread nD τ).loc main_arg2)
abbrev mWu : FVec Ideal S1024x6144 .f32 := m ((c : Thread nD τ).loc main_arg3)
abbrev mWg : FVec Ideal S1024x1024 .f32 := m ((c : Thread nD τ).loc main_arg4)
abbrev mDz : FVec Ideal S8192x1024 .f32 := m ((c : Thread nD τ).loc main_arg5)
abbrev mDu : FVec Ideal S8192x6144 .bf16 := m ((c : Thread nD τ).loc main_arg6)
abbrev mDp : FVec Ideal S8192x1024 .bf16 := m ((c : Thread nD τ).loc main_arg7)

/-- The operands of the call as the region finds them. -/
def aDu : FVec Ideal S8192x6144 .bf16 := V m c main_v2
def aDz : FVec Ideal S8192x1024 .f32 := V m c main_arg5
def aDp : FVec Ideal S8192x1024 .bf16 := V m c main_arg7
def aZ : FVec Ideal S8192x1024 .f32 := V m c main_arg0
def aG : FVec Ideal S1x1024 .f32 := V m c main_v6

theorem aDz_at : aDz m c = mDz m c := by
  unfold aDz
  entry_read
  rfl
theorem aDp_at : aDp m c = mDp m c := by
  unfold aDp
  entry_read
  rfl
theorem aZ_at : aZ m c = mZ m c := by
  unfold aZ
  entry_read
  rfl
theorem aG_at (u : Fin 1) (j : Fin 1024) : aG m c (ix2 u j) = mG m c (ix1 j) := by
  unfold aG
  entry_read
  pointwise
theorem aDu_at (r : Fin 8192) (q : Fin 6144) : aDu m c (ix2 r q) = mDu m c (ix2 r (perm q)) := by
  unfold aDu perm
  entry_read
  pointwise
theorem WU_at (q : Fin 6144) (j : Fin 1024) : WU m c (ix2 q j) = mWu m c (ix2 j (perm q)) := by
  change (V m c main_v4 : FVec Ideal S6144x1024 .bf16) (ix2 (perm q) j) = _
  entry_read
  pointwise
theorem WG_at (q j : Fin 1024) : WG m c (ix2 q j) = mWg m c (ix2 q j) := by
  unfold WG
  entry_read
  pointwise

/-- The row of the arrays at which row `r` of point `t`'s tile lies. -/
def row (t : Fin cfg0.N) (r : Fin 512) : Fin 8192 := ⟨t.val * 512 + r, by have := lt16 t; omega⟩

theorem blk0 (t : Fin cfg0.N) (r : Fin 512) (k : Fin 6144) : (iblk m c 0 t : FVec Ideal S512x6144 .bf16) (ix2 r k) = aDu m c (ix2 (row t r) k) := by
  unfold aDu row
  blk_ext [iblk, idx t]
theorem blk1 (t : Fin cfg0.N) (r : Fin 512) (k : Fin 1024) : (iblk m c 1 t : FVec Ideal S512x1024 .f32) (ix2 r k) = aDz m c (ix2 (row t r) k) := by
  unfold aDz row
  blk_ext [iblk, idx t]
theorem blk2 (t : Fin cfg0.N) (r : Fin 512) (k : Fin 1024) : (iblk m c 2 t : FVec Ideal S512x1024 .bf16) (ix2 r k) = aDp m c (ix2 (row t r) k) := by
  unfold aDp row
  blk_ext [iblk, idx t]
theorem blk3 (t : Fin cfg0.N) (r : Fin 512) (k : Fin 1024) : (iblk m c 3 t : FVec Ideal S512x1024 .f32) (ix2 r k) = aZ m c (ix2 (row t r) k) := by
  unfold aZ row
  blk_ext [iblk, idx t]
theorem blk4 (t : Fin cfg0.N) (u : Fin 1) (k : Fin 1024) : (iblk m c 4 t : FVec Ideal S1x1024 .f32) (ix2 u k) = aG m c (ix2 u k) := by
  unfold aG
  blk_ext [iblk, idx t]

theorem perm_inv (q : Fin 6144) : (perm q).val % 3072 / 768 * 1536 + (perm q).val / 3072 * 768 + (perm q).val % 768 = q.val := by
  obtain ⟨x, s, i, hs, hi, e⟩ : ∃ x s i : ℕ, s < 2 ∧ i < 768 ∧ q.val = 1536 * x + 768 * s + i :=
    ⟨q / 1536, q % 1536 / 768, q % 768, by omega, by omega, by omega⟩
  have e1 : q.val / 768 % 2 = s := by omega
  have e2 : q.val / 1536 = x := by omega
  have e3 : q.val % 768 = i := by omega
  have hx : x < 4 := by omega
  simp only [perm, e1, e2, e3]
  omega

theorem perm_bij : Function.Bijective perm := by
  refine Finite.injective_iff_bijective.mp fun a b h => Fin.ext ?_
  rw [← perm_inv a, ← perm_inv b, h]

/-- The gradient at the normalisation's output. -/
def DH (r : Fin 8192) (j : Fin 1024) : EReal :=
  Ideal.ofBits FTy.f32 0x3F9837F0#32 * mDz m c (ix2 r j) + (∑ k : Fin 1024, mDp m c (ix2 r k) * mWg m c (ix2 j k))
    + ∑ k : Fin 6144, mDu m c (ix2 r k) * mWu m c (ix2 j k)

theorem dh_eq (t : Fin cfg0.N) (r : Fin 512) (j : Fin 1024) :
    dh (iblk m c 0 t) (iblk m c 1 t) (iblk m c 2 t) (WU m c) (WG m c) r j = DH m c (row t r) j := by
  unfold dh DH
  simp only [blk0, blk1, blk2, aDz_at, aDp_at, aDu_at, WU_at, WG_at]
  refine congrArg (HAdd.hAdd _) ?_
  exact Function.Bijective.sum_comp perm_bij fun k => (mDu m c (ix2 (row t r) k) * mWu m c (ix2 j k) : EReal)

/-- The gradient at the normalisation's input. -/
def out6 (r : Fin 8192) (j : Fin 1024) : EReal :=
  pull (fun k => mZ m c (ix2 r k)) (fun k => DH m c r k * mG m c (ix1 k)) j

theorem w6 (t : Fin cfg0.N) (r : Fin 512) (j : Fin 1024) : (outsAt0 m c t.val t.isLt).1 (ix2 r j) = out6 m c (row t r) j := by
  have e : blk6 (iblk m c 0 t) (iblk m c 1 t) (iblk m c 2 t) (iblk m c 3 t) (iblk m c 4 t) (WU m c) (WG m c) r j = out6 m c (row t r) j := by
    unfold blk6 out6
    simp only [dh_eq, blk3, blk4, aZ_at, aG_at]
  rw [← e]
  by_cases h : t.val % 16 = 0
  · exact w6A m c t h r j
  · exact w6B m c t h r j

/-- What one row adds to the gradients of the scale and of the shift. -/
def term7 (k : Fin 8) (j : Fin 1024) (r : Fin 8192) : EReal :=
  if k.val = 1 then DH m c r j
  else if k.val = 0 then DH m c r j * (cen (fun k => mZ m c (ix2 r k)) j * rst (fun k => mZ m c (ix2 r k)))
  else 0

/-- The two gradients as the call lays them out. -/
def out7 (k : Fin 8) (j : Fin 1024) : EReal := ∑ r : Fin 8192, term7 m c k j r

theorem inc7_eq (t : Fin cfg0.N) (k : Fin 8) (j : Fin 1024) :
    inc7 (iblk m c 0 t) (iblk m c 1 t) (iblk m c 2 t) (iblk m c 3 t) (WU m c) (WG m c) k j = ∑ r : Fin 512, term7 m c k j (row t r) := by
  unfold inc7 term7
  split_ifs
  · simp only [dh_eq]
  · simp only [dh_eq, blk3, aZ_at]
  · simp

theorem sum_tiles (f : Fin 8192 → EReal) :
    ∑ s : Fin 16, ∑ r : Fin 512, f ⟨s.val * 512 + r, by omega⟩ = ∑ r : Fin 8192, f r := by
  rw [← Fintype.sum_prod_type']
  refine Fintype.sum_equiv (finProdFinEquiv (m := 16) (n := 512)) _ f ?_
  intro x
  congr 1
  apply Fin.ext
  show x.1.val * 512 + x.2.val = x.2.val + 512 * x.1.val
  omega

theorem w7 (t : Fin cfg0.N) (hf : t.val % 16 = 16 - 1) (k : Fin 8) (j : Fin 1024) :
    (outsAt0 m c t.val t.isLt).2.1 (ix2 k j) = out7 m c k j := by
  have e := Pipeline.eq_sum_fin_of_reset_step_apply_of_flush (N := cfg0.N) (fun n h => fun x : Fin 8 × Fin 1024 => ((outsAt0 m c n h).2.1 (ix2 x.1 x.2) : EReal)) 16 (fun _ => 0)
    (fun t x => inc7 (iblk m c 0 t) (iblk m c 1 t) (iblk m c 2 t) (iblk m c 3 t) (WU m c) (WG m c) x.1 x.2)
    (fun t h x => (w7A m c t h x.1 x.2).trans (zero_add _).symm) (fun t h x => w7B m c t h x.1 x.2) t hf (k, j)
  refine e.trans ?_
  rw [zero_add, out7, ← sum_tiles]
  refine Finset.sum_congr rfl fun s _ => ?_
  rw [inc7_eq]
  refine Finset.sum_congr rfl fun r _ => ?_
  congr 1
  apply Fin.ext
  have := lt16 t
  show (16 * (t.val / 16) + s.val) * 512 + r.val = s.val * 512 + r.val
  omega

theorem arr6 : (dats m 0 c).arrAt 6 cfg0.N = (fun y => out6 m c (y 0) (y 1) : FVec Ideal S8192x1024 .f32) := by
  refine (dats m 0 c).arrAt_eq_of_covers 6 _ (by decide +kernel) fun t hf y => ?_
  blk_simp
  rw [after0_6]
  idx_vars y
  rw [w6]
  refine congr (congrArg (out6 m c) (Fin.ext ?_)) (Fin.ext ?_)
  · blk_simp [idx t]
    rfl
  · blk_simp [idx t]

theorem arr7 : (dats m 0 c).arrAt 7 cfg0.N = (fun y => out7 m c (y 0) (y 1) : FVec Ideal S8x1024 .f32) := by
  refine (dats m 0 c).arrAt_eq_of_covers 7 _ (by decide +kernel) fun t hf y => ?_
  blk_simp
  rw [after0_7]
  idx_vars y
  rw [w7 m c t ((flush0_7 t).mp hf)]
  refine congr (congrArg (out7 m c) (Fin.ext ?_)) (Fin.ext ?_)
  · blk_simp [idx t]
  · blk_simp [idx t]

end Cert.Kernel2Ideal.Dh1

end
-- ==== Proof.Dh1Eq.lean ====
module

public import proofs.«01_k».proof.Proof.Dh1Ref
public import proofs.«01_k».proof.Proof.Dh1Arr
public import proofs.«01_k».proof.Proof.FfnRef
public import proofs.«01_k».proof.Proof.Gen.Pre_finite2

@[expose] public section

set_option maxRecDepth 16384

noncomputable section

namespace Cert.Kernel2Ideal.Dh1

open Cert.Kernel2Ideal Cert.Kernel2Ideal.Gen Idealize.ShloMosaic Idealize.ShloMosaic.TcCoe Idealize.SL.Sem Cert.Ffn

section Pre

open Cert.Pre_finite2 Cert.Pre_finite2.Gen

variable (a0 : FVec Ideal Cert.Pre_finite2.S8192x1024 .f32) (a1 : FVec Ideal Cert.Pre_finite2.S1024 .f32) (a2 : FVec Ideal Cert.Pre_finite2.S1024 .f32)
  (a3 : FVec Ideal Cert.Pre_finite2.S1024x6144 .f32) (a4 : FVec Ideal Cert.Pre_finite2.S1024x1024 .f32) (a5 : FVec Ideal Cert.Pre_finite2.S8192x1024 .f32)
  (a6 : FVec Ideal Cert.Pre_finite2.S8192x6144 .bf16) (a7 : FVec Ideal Cert.Pre_finite2.S8192x1024 .bf16)

theorem pre2 (h : Cert.Pre_finite2.fn (F := Ideal) a0 a1 a2 a3 a4 a5 a6 a7 = fun _ => 1#1) :
    (∀ i, IsR (a0 i)) ∧ (∀ i, IsR (a1 i)) ∧ (∀ i, IsR (a3 i)) ∧ (∀ i, IsR (a4 i)) ∧ (∀ i, IsR (a5 i)) ∧ (∀ i, IsR (a6 i)) ∧ (∀ i, IsR (a7 i)) := by
  have e := congrFun h (fun i => i.elim0)
  unfold Cert.Pre_finite2.fn Cert.Pre_finite2.fn_part1 Cert.Pre_finite2.fn_part2 at e
  simp only [andi, IntOp.andi_eq_one] at e
  obtain ⟨⟨⟨⟨⟨⟨e0, e1⟩, e3⟩, e4⟩, e5⟩, e6⟩, e7⟩ := e
  exact ⟨all_real a0 _ _ _ _ e0, all_real a1 _ _ _ _ e1, all_real a3 _ _ _ _ e3, all_real a4 _ _ _ _ e4, all_real a5 _ _ _ _ e5,
    all_real (extf .f32 a6 Cert.Pre_finite2.Facts.bitsLt_bf16_f32) _ _ _ _ e6, all_real (extf .f32 a7 Cert.Pre_finite2.Facts.bitsLt_bf16_f32) _ _ _ _ e7⟩

end Pre

variable (m : (ℓ : Loc nD τ sig) → Buf (Elt Ideal) ℓ) (c : Dev nD)
variable (m' : (ℓ : Loc Cert.Reference2Ideal.nD Cert.Reference2Ideal.τ Cert.Reference2Ideal.sig) → Buf (Elt Ideal) ℓ) (c' : Dev Cert.Reference2Ideal.nD)

/-- The reference's arguments are the kernel's, and those the gradient is pulled through are real numbers. -/
structure Same : Prop where
  h0 : Cert.Reference2Ideal.Dh1.lZ m' c' = mZ m c
  h1 : Cert.Reference2Ideal.Dh1.lG m' c' = mG m c
  h3 : Cert.Reference2Ideal.Dh1.lWu m' c' = mWu m c
  h4 : Cert.Reference2Ideal.Dh1.lWg m' c' = mWg m c
  h5 : Cert.Reference2Ideal.Dh1.lDz m' c' = mDz m c
  h6 : Cert.Reference2Ideal.Dh1.lDu m' c' = mDu m c
  h7 : Cert.Reference2Ideal.Dh1.lDp m' c' = mDp m c
  r0 : ∀ i, IsR (mZ m c i)
  r1 : ∀ i, IsR (mG m c i)
  r3 : ∀ i, IsR (mWu m c i)
  r4 : ∀ i, IsR (mWg m c i)
  r5 : ∀ i, IsR (mDz m c i)
  r6 : ∀ i, IsR (mDu m c i)
  r7 : ∀ i, IsR (mDp m c i)

variable {m c m' c'}

theorem DH_real (S : Same m c m' c') (r : Fin 8192) (j : Fin 1024) : IsR (DH m c r j) := by
  unfold DH
  exact (((Cert.ReferenceIdeal.Ffn.isR_const 0x3F9837F0#32).mul (S.r5 _)).add (IsR.sum _ _ fun k _ => (S.r7 _).mul (S.r4 _))).add
    (IsR.sum _ _ fun k _ => (S.r6 _).mul (S.r3 _))

theorem rDh_eq (S : Same m c m' c') (r : Fin 8192) (j : Fin 1024) : Cert.Reference2Ideal.Dh1.rDh m' c' (ix2 r j) = DH m c r j := by
  unfold Cert.Reference2Ideal.Dh1.rDh
  rw [Cert.Reference2Ideal.Dh1.dh_at, S.h3, S.h4, S.h5, S.h6, S.h7, DH]
  rw [add_comm, add_assoc]

theorem out6_ref (S : Same m c m' c') (r : Fin 8192) (j : Fin 1024) : out6 m c r j = Cert.Reference2Ideal.Dh1.ref6 m' c' (ix2 r j) := by
  unfold Cert.Reference2Ideal.Dh1.ref6 out6
  rw [Cert.Reference2Ideal.Dh1.pl_at, S.h0, S.h1]
  simp only [Cert.Reference2Ideal.Dh1.sc_at, rDh_eq S]
  exact (pull_eq _ _ (fun k => S.r0 _) (fun k => (DH_real S r k).mul (S.r1 _)) j).symm

theorem out7_ref (S : Same m c m' c') (k : Fin 8) (j : Fin 1024) : out7 m c k j = Cert.Reference2Ideal.Dh1.ref7 m' c' (ix2 k j) := by
  unfold Cert.Reference2Ideal.Dh1.ref7 out7 term7
  by_cases h1 : k.val = 1
  · rw [Cert.Reference2Ideal.Dh1.vec_1 _ _ _ _ _ _ j k h1]
    refine Finset.sum_congr rfl fun r _ => ?_
    rw [if_pos h1]
    exact (rDh_eq S r j).symm
  by_cases h0 : k.val = 0
  · rw [Cert.Reference2Ideal.Dh1.vec_0 _ _ _ _ _ _ j k h0]
    refine Finset.sum_congr rfl fun r _ => ?_
    rw [if_neg h1, if_pos h0, Cert.Reference2Ideal.Dh1.xh_at, S.h0, ← rDh_eq S r j]
    exact mul_comm _ _
  · rw [Cert.Reference2Ideal.Dh1.vec_2 _ _ _ _ _ _ j k (by omega)]
    refine Finset.sum_eq_zero fun r _ => ?_
    rw [if_neg h1, if_neg h0]

/-- Both results of the call are the reference's. -/
theorem res6 (S : Same m c m' c') : (dats m 0 c).arrAt 6 cfg0.N = Cert.Reference2Ideal.Dh1.ref6 m' c' := by
  rw [arr6]
  funext y
  idx_vars y
  exact out6_ref S _ _

theorem res7 (S : Same m c m' c') : (dats m 0 c).arrAt 7 cfg0.N = Cert.Reference2Ideal.Dh1.ref7 m' c' := by
  rw [arr7]
  funext y
  idx_vars y
  exact out7_ref S _ _

end Cert.Kernel2Ideal.Dh1

end
-- ==== Proof.Dh1Two.lean ====
module

public import proofs.«01_k».proof.Proof.Dh1Frame
public import proofs.«01_k».proof.Defs
public import proofs.«01_k».proof.Proof.Gen.Kernel2
public import proofs.«01_k».proof.Proof.Gen.Kernel2Ideal

@[expose] public section

noncomputable section

namespace Cert.Kernel2Ideal.Dh1

open Idealize.ShloMosaic Idealize.SL.Sem

variable {F : FTy → Type} [FloatOps F]

/-- The two programs have one text: their kernels' body tables are one, and so are their tables. -/
theorem bodies_same : (@Cert.Kernel2.defs₀ F _ _) = @Cert.Kernel2Ideal.defs₀ F _ _ := by
  unfold Cert.Kernel2.defs₀ Cert.Kernel2Ideal.defs₀
  refine congrArg Defs.onTc ?_
  funext l a
  obtain rfl : l = 0 := Subsingleton.elim (α := Fin 1) l 0
  obtain ⟨t, s⟩ := a
  show Cert.Kernel2.cc0_ffn_dh1 _ _ _ _ _ _ _ _ _ _ _ _ _ _ _ _ _ _ _ _ _ _ _ _ _ _ = Cert.Kernel2Ideal.cc0_ffn_dh1 _ _ _ _ _ _ _ _ _ _ _ _ _ _ _ _ _ _ _ _ _ _ _ _ _ _
  rfl

theorem tables_same : (@Cert.Kernel2.defs F _ _) = @Cert.Kernel2Ideal.defs F _ _ :=
  congrArg (Pipeline.defs Cert.Kernel2Ideal.pcfgs) bodies_same

/-- So the run of the one is the run of the other. -/
theorem frame_kernel : Cert.quiescent_Kernel2 := fun m ρ _ => by
  refine Eq.mpr (congrArg (fun d => θ_run d _ _ _) tables_same) ?_
  exact Cert.Kernel2Ideal.Dh1.frame (F := Bits) m ρ

end Cert.Kernel2Ideal.Dh1

end
-- ==== Proof.lean ====
module

public import proofs.«01_k».proof.Proof.Gen.Pre_finite14
public import proofs.«01_k».proof.Proof.Gen.Reference14Ideal.Run
public import proofs.«01_k».proof.Proof.Gen.Kernel14Ideal.Frame
public import proofs.«01_k».proof.Proof.Gen.Kernel14Ideal
public import proofs.«01_k».proof.Proof.Gen.Kernel14
public import proofs.«01_k».proof.Proof.Gen.Pre_finite13
public import proofs.«01_k».proof.Proof.Gen.Reference13Ideal.Run
public import proofs.«01_k».proof.Proof.Gen.Kernel13Ideal.Value
public import proofs.«01_k».proof.Proof.Gen.Kernel13Ideal.Frame
public import proofs.«01_k».proof.Proof.Gen.Kernel13.Frame
public import proofs.«01_k».proof.Proof.Gen.Reference12Ideal.Run
public import proofs.«01_k».proof.Proof.Gen.Reference12Ideal
public import proofs.«01_k».proof.Proof.Gen.Kernel12Ideal.Value
public import proofs.«01_k».proof.Proof.Gen.Kernel12Ideal.Frame
public import proofs.«01_k».proof.Proof.Gen.Kernel12Ideal
public import proofs.«01_k».proof.Proof.Gen.Kernel12.Frame
public import proofs.«01_k».proof.Proof.Gen.Kernel12
public import proofs.«01_k».proof.Proof.Gen.Reference11Ideal.Run
public import proofs.«01_k».proof.Proof.Gen.Reference11Ideal
public import proofs.«01_k».proof.Proof.Gen.Kernel11Ideal.Value
public import proofs.«01_k».proof.Proof.Gen.Kernel11Ideal.Frame
public import proofs.«01_k».proof.Proof.Gen.Kernel11Ideal
public import proofs.«01_k».proof.Proof.Gen.Kernel11.Frame
public import proofs.«01_k».proof.Proof.Gen.Kernel11
public import proofs.«01_k».proof.Proof.Gen.Reference10Ideal.Run
public import proofs.«01_k».proof.Proof.Gen.Reference10Ideal
public import proofs.«01_k».proof.Proof.Gen.Kernel10Ideal.Value
public import proofs.«01_k».proof.Proof.Gen.Kernel10Ideal.Frame
public import proofs.«01_k».proof.Proof.Gen.Kernel10Ideal
public import proofs.«01_k».proof.Proof.Gen.Kernel10.Frame
public import proofs.«01_k».proof.Proof.Gen.Kernel10
public import proofs.«01_k».proof.Proof.Gen.Reference9Ideal.Run
public import proofs.«01_k».proof.Proof.Gen.Reference9Ideal
public import proofs.«01_k».proof.Proof.Gen.Kernel9Ideal.Value
public import proofs.«01_k».proof.Proof.Gen.Kernel9Ideal.Frame
public import proofs.«01_k».proof.Proof.Gen.Kernel9Ideal
public import proofs.«01_k».proof.Proof.Gen.Kernel9.Frame
public import proofs.«01_k».proof.Proof.Gen.Kernel9
public import proofs.«01_k».proof.Proof.Gen.Reference8Ideal.Run
public import proofs.«01_k».proof.Proof.Gen.Reference8Ideal
public import proofs.«01_k».proof.Proof.Gen.Kernel8Ideal.Value
public import proofs.«01_k».proof.Proof.Gen.Kernel8Ideal.Frame
public import proofs.«01_k».proof.Proof.Gen.Kernel8Ideal
public import proofs.«01_k».proof.Proof.Gen.Kernel8
public import proofs.«01_k».proof.Proof.Gen.Reference7Ideal.Run
public import proofs.«01_k».proof.Proof.Gen.Reference7Ideal
public import proofs.«01_k».proof.Proof.Gen.Kernel7Ideal.Value
public import proofs.«01_k».proof.Proof.Gen.Kernel7Ideal.Frame
public import proofs.«01_k».proof.Proof.Gen.Kernel7Ideal
public import proofs.«01_k».proof.Proof.Gen.Kernel7
public import proofs.«01_k».proof.Proof.Gen.Reference6Ideal.Run
public import proofs.«01_k».proof.Proof.Gen.Reference6Ideal
public import proofs.«01_k».proof.Proof.Gen.Kernel6Ideal.Value
public import proofs.«01_k».proof.Proof.Gen.Kernel6Ideal.Frame
public import proofs.«01_k».proof.Proof.Gen.Kernel6Ideal
public import proofs.«01_k».proof.Proof.Gen.Kernel6.Frame
public import proofs.«01_k».proof.Proof.Gen.Kernel6
public import proofs.«01_k».proof.Proof.Gen.Reference5Ideal.Run
public import proofs.«01_k».proof.Proof.Gen.Reference5Ideal
public import proofs.«01_k».proof.Proof.Gen.Kernel5Ideal.Value
public import proofs.«01_k».proof.Proof.Gen.Kernel5Ideal.Frame
public import proofs.«01_k».proof.Proof.Gen.Kernel5Ideal
public import proofs.«01_k».proof.Proof.Gen.Kernel5.Frame
public import proofs.«01_k».proof.Proof.Gen.Kernel5
public import proofs.«01_k».proof.Proof.Gen.Reference4Ideal.Run
public import proofs.«01_k».proof.Proof.Gen.Reference4Ideal
public import proofs.«01_k».proof.Proof.Gen.Kernel4Ideal.Value
public import proofs.«01_k».proof.Proof.Gen.Kernel4Ideal.Frame
public import proofs.«01_k».proof.Proof.Gen.Kernel4Ideal
public import proofs.«01_k».proof.Proof.Gen.Kernel4.Frame
public import proofs.«01_k».proof.Proof.Gen.Kernel4
public import proofs.«01_k».proof.Proof.Gen.Reference3Ideal.Run
public import proofs.«01_k».proof.Proof.Gen.Reference3Ideal
public import proofs.«01_k».proof.Proof.Gen.Kernel3Ideal.Value
public import proofs.«01_k».proof.Proof.Gen.Kernel3Ideal.Frame
public import proofs.«01_k».proof.Proof.Gen.Kernel3Ideal
public import proofs.«01_k».proof.Proof.Gen.Kernel3.Frame
public import proofs.«01_k».proof.Proof.Gen.Kernel3
public import proofs.«01_k».proof.Proof.Gen.Pre_finite2
public import proofs.«01_k».proof.Proof.Gen.Reference2Ideal.Run
public import proofs.«01_k».proof.Proof.Gen.Reference2Ideal
public import proofs.«01_k».proof.Proof.Gen.Kernel2
public import proofs.«01_k».proof.Proof.Gen.ReferenceIdeal.Run
public import proofs.«01_k».proof.Proof.Gen.KernelIdeal.Value
public import proofs.«01_k».proof.Proof.Gen.Kernel7.Frame
public import proofs.«01_k».proof.Proof.Gen.Kernel8.Frame
public import proofs.«01_k».proof.Proof.DwClaims
public import proofs.«01_k».proof.Proof.ProjClaims
public import proofs.«01_k».proof.Proof.UpClaims
public import proofs.«01_k».proof.Proof.DownClaims
public import proofs.«01_k».proof.Proof.FfnEq
public import proofs.«01_k».proof.Proof.Dh1Eq
public import proofs.«01_k».proof.Proof.Dh1Two
public import proofs.«01_k».proof.Proof.Gen.Kernel2Ideal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The kernel's run at the ideal instance. -/
theorem frame_ideal : Cert.quiescent_KernelIdeal := fun m ρ _ => Cert.KernelIdeal.Gen.frame (F := Ideal) m ρ

/-- The reference's run: host operations alone, no semaphore. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem value : Cert.algebraic_KernelIdeal_ReferenceIdeal_pre_finite := by
  intro m g m' g' hp hA
  have hS : ∀ c, Cert.KernelIdeal.Ffn.Same m c (Idealize.ShloMosaic.StableHlo.launchContents m' c) := fun c => by
    obtain ⟨r0, r1, r2, r3, r4⟩ := Cert.Ffn.pre _ _ _ _ _ (hp c)
    obtain ⟨h0, h1, h2, h3, h4⟩ := hA c
    exact ⟨h0, h1, h2, h3, h4, ⟨fun i => by rw [show Cert.ReferenceIdeal.Ffn.lUp _ = _ from h0]; exact r0 i,
      fun i => by rw [show Cert.ReferenceIdeal.Ffn.lCw _ = _ from h1]; exact r1 i, fun i => by rw [show Cert.ReferenceIdeal.Ffn.lCb _ = _ from h2]; exact r2 i,
      fun i => by rw [show Cert.ReferenceIdeal.Ffn.lWd _ = _ from h3]; exact r3 i, fun i => by rw [show Cert.ReferenceIdeal.Ffn.lDz _ = _ from h4]; exact r4 i⟩⟩
  refine ⟨fun c => Cert.ReferenceIdeal.Ffn.ref6 (Idealize.ShloMosaic.StableHlo.launchContents m' c),
    fun c => Cert.ReferenceIdeal.Ffn.ref7 (Idealize.ShloMosaic.StableHlo.launchContents m' c), ?_, ?_⟩
  · refine (θ_run _ _ _).mono (fun r h c => ?_) (Cert.KernelIdeal.Value.run_blocks m g)
    obtain ⟨e6, e7, e⟩ := h c
    exact ⟨e6.trans (Cert.KernelIdeal.Ffn.res6 (hS c)), e7.trans (Cert.KernelIdeal.Ffn.res7 (hS c)), e⟩
  · exact Cert.ReferenceIdeal.Value.run m' g'

theorem frame_kernel2 : Cert.quiescent_Kernel2 := Cert.Kernel2Ideal.Dh1.frame_kernel

/-- The second kernel's run at the ideal instance. -/
theorem frame_ideal2 : Cert.quiescent_Kernel2Ideal := fun m ρ _ => Cert.Kernel2Ideal.Dh1.frame (F := Ideal) m ρ

theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Dh1.run m ρ)

theorem value2 : Cert.algebraic_Kernel2Ideal_Reference2Ideal_pre_finite2 := by
  intro m g m' g' hp hA
  have hS : ∀ c, Cert.Kernel2Ideal.Dh1.Same m c m' c := fun c => by
    obtain ⟨r0, r1, r3, r4, r5, r6, r7⟩ := Cert.Kernel2Ideal.Dh1.pre2 _ _ _ _ _ _ _ _ (hp c)
    obtain ⟨h0, h1, h2, h3, h4, h5, h6, h7⟩ := hA c
    exact ⟨h0, h1, h3, h4, h5, h6, h7, r0, r1, r3, r4, r5, r6, r7⟩
  refine ⟨fun c => Cert.Reference2Ideal.Dh1.ref6 m' c, fun c => Cert.Reference2Ideal.Dh1.ref7 m' c, ?_, ?_⟩
  · refine (θ_run _ _ _).mono (fun r h c => ?_) (Cert.Kernel2Ideal.Dh1.run_blocks m g)
    obtain ⟨e6, e7, e⟩ := h c
    exact ⟨e6.trans (Cert.Kernel2Ideal.Dh1.res6 (hS c)), e7.trans (Cert.Kernel2Ideal.Dh1.res7 (hS c)), e⟩
  · exact Cert.Reference2Ideal.Dh1.run m' g'

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts, Cert.Pre_finite2.Gen.facts, Cert.Pre_finite13.Gen.facts, Cert.Pre_finite14.Gen.facts,
  fun m ρ _ => Cert.Kernel.Gen.frame (F := Bits) m ρ, frame_ideal, fun m ρ _ => frame_ideal m ρ trivial,
  fun m ρ _ => frame_reference m ρ trivial, fun m ρ _ => frame_reference m ρ trivial,
  frame_kernel2, frame_ideal2, fun m ρ _ => frame_ideal2 m ρ trivial,
  fun m ρ _ => frame_reference2 m ρ trivial, fun m ρ _ => frame_reference2 m ρ trivial,
  fun m ρ _ => Cert.Kernel3.Gen.frame (F := Bits) m ρ, fun m ρ _ => Cert.Kernel3Ideal.Gen.frame (F := Ideal) m ρ, frame_reference3,
  fun m ρ _ => Cert.Kernel4.Gen.frame (F := Bits) m ρ, fun m ρ _ => Cert.Kernel4Ideal.Gen.frame (F := Ideal) m ρ, frame_reference4,
  fun m ρ _ => Cert.Kernel5.Gen.frame (F := Bits) m ρ, fun m ρ _ => Cert.Kernel5Ideal.Gen.frame (F := Ideal) m ρ, frame_reference5,
  fun m ρ _ => Cert.Kernel6.Gen.frame (F := Bits) m ρ, fun m ρ _ => Cert.Kernel6Ideal.Gen.frame (F := Ideal) m ρ, frame_reference6,
  fun m ρ _ => Cert.Kernel7.Gen.frame (F := Bits) m ρ, fun m ρ _ => Cert.Kernel7Ideal.Gen.frame (F := Ideal) m ρ, frame_reference7,
  fun m ρ _ => Cert.Kernel8.Gen.frame (F := Bits) m ρ, fun m ρ _ => Cert.Kernel8Ideal.Gen.frame (F := Ideal) m ρ, frame_reference8,
  fun m ρ _ => Cert.Kernel9.Gen.frame (F := Bits) m ρ, fun m ρ _ => Cert.Kernel9Ideal.Gen.frame (F := Ideal) m ρ, frame_reference9,
  fun m ρ _ => Cert.Kernel10.Gen.frame (F := Bits) m ρ, fun m ρ _ => Cert.Kernel10Ideal.Gen.frame (F := Ideal) m ρ, frame_reference10,
  fun m ρ _ => Cert.Kernel11.Gen.frame (F := Bits) m ρ, fun m ρ _ => Cert.Kernel11Ideal.Gen.frame (F := Ideal) m ρ, frame_reference11,
  fun m ρ _ => Cert.Kernel12.Gen.frame (F := Bits) m ρ, fun m ρ _ => Cert.Kernel12Ideal.Gen.frame (F := Ideal) m ρ, frame_reference12,
  fun m ρ _ => Cert.Kernel13.Gen.frame (F := Bits) m ρ, frame_ideal13, fun m ρ _ => frame_ideal13 m ρ trivial,
  frame_reference13, fun m ρ _ => frame_reference13 m ρ trivial,
  frame_kernel14, frame_ideal14, fun m ρ _ => frame_ideal14 m ρ trivial,
  frame_reference14, fun m ρ _ => frame_reference14 m ρ trivial,
  trivial, value, trivial, value2, trivial, value3, trivial, value4, trivial, value5, trivial, value6, trivial, value7, trivial, value8,
  trivial, value9, trivial, value10, trivial, value11, trivial, value12,
  preserves13, value13, trivial, value14⟩

end Cert.Proof

end
